-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Experts [hPre_tables_in_range : Cert.Pre_tables_in_range.Facts] (m : (ℓ : Loc Cert.Experts.nD Cert.Experts.τ Cert.Experts.sig) → Buf (Elt Bits) ℓ) : Prop :=
  ∀ c : Dev Cert.Experts.nD,
    (Cert.Pre_tables_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))) = (fun _ => 1#1)

def Pre_ExpertsIdeal [hPre_tables_in_range : Cert.Pre_tables_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))) = (fun _ => 1#1)

def Pre_ExpertsRefIdeal [hPre_tables_in_range : Cert.Pre_tables_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8))) = (fun _ => 1#1)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Experts [hExperts : Cert.Experts.Facts] [hPre_tables_in_range : Cert.Pre_tables_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] [hPre_tables_in_range : Cert.Pre_tables_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsRefIdeal [hExpertsRefIdeal : Cert.ExpertsRefIdeal.Facts] [hPre_tables_in_range : Cert.Pre_tables_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)) (v2 : (c : Dev Cert.InProjIdeal.nD) → Buf (Elt Ideal) ((c.tc : Thread Cert.InProjIdeal.nD Cert.InProjIdeal.τ).loc Cert.InProjIdeal.main_v1_2)) (v3 : (c : Dev Cert.InProjIdeal.nD) → Buf (Elt Ideal) ((c.tc : Thread Cert.InProjIdeal.nD Cert.InProjIdeal.τ).loc Cert.InProjIdeal.main_v1_3)) (v4 : (c : Dev Cert.InProjIdeal.nD) → Buf (Elt Ideal) ((c.tc : Thread Cert.InProjIdeal.nD Cert.InProjIdeal.τ).loc Cert.InProjIdeal.main_v1_4)) (v5 : (c : Dev Cert.InProjIdeal.nD) → Buf (Elt Ideal) ((c.tc : Thread Cert.InProjIdeal.nD Cert.InProjIdeal.τ).loc Cert.InProjIdeal.main_v1_5)) (v6 : (c : Dev Cert.InProjIdeal.nD) → Buf (Elt Ideal) ((c.tc : Thread Cert.InProjIdeal.nD Cert.InProjIdeal.τ).loc Cert.InProjIdeal.main_v1_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_v1_2) = v2 c
          ∧ r.2.mem ((c.tc : Thread Cert.InProjIdeal.nD Cert.InProjIdeal.τ).loc Cert.InProjIdeal.main_v1_3) = v3 c
          ∧ r.2.mem ((c.tc : Thread Cert.InProjIdeal.nD Cert.InProjIdeal.τ).loc Cert.InProjIdeal.main_v1_4) = v4 c
          ∧ r.2.mem ((c.tc : Thread Cert.InProjIdeal.nD Cert.InProjIdeal.τ).loc Cert.InProjIdeal.main_v1_5) = v5 c
          ∧ r.2.mem ((c.tc : Thread Cert.InProjIdeal.nD Cert.InProjIdeal.τ).loc Cert.InProjIdeal.main_v1_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v26) = v0 c
          ∧ r.2.mem ((c.tc : Thread Cert.InProjRefIdeal.nD Cert.InProjRefIdeal.τ).loc Cert.InProjRefIdeal.main_v27) = v1 c
          ∧ r.2.mem ((c.tc : Thread Cert.InProjRefIdeal.nD Cert.InProjRefIdeal.τ).loc Cert.InProjRefIdeal.main_v28) = v2 c
          ∧ r.2.mem ((c.tc : Thread Cert.InProjRefIdeal.nD Cert.InProjRefIdeal.τ).loc Cert.InProjRefIdeal.main_v29) = v3 c
          ∧ r.2.mem ((c.tc : Thread Cert.InProjRefIdeal.nD Cert.InProjRefIdeal.τ).loc Cert.InProjRefIdeal.main_v25) = v4 c
          ∧ r.2.mem ((c.tc : Thread Cert.InProjRefIdeal.nD Cert.InProjRefIdeal.τ).loc Cert.InProjRefIdeal.main_v30) = v5 c
          ∧ r.2.mem ((c.tc : Thread Cert.InProjRefIdeal.nD Cert.InProjRefIdeal.τ).loc Cert.InProjRefIdeal.main_v31) = v6 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] [hPre_tables_in_range : Cert.Pre_tables_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v15)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v15) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v76) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m' ((c.tc : Thread Cert.ExpertsRefIdeal.nD Cert.ExpertsRefIdeal.τ).loc Cert.ExpertsRefIdeal.main_arg8))

def Claim : Prop :=
  ∃ (hInProj : Cert.InProj.Facts) (hInProjIdeal : Cert.InProjIdeal.Facts) (hInProjRefIdeal : Cert.InProjRefIdeal.Facts) (hExperts : Cert.Experts.Facts) (hExpertsIdeal : Cert.ExpertsIdeal.Facts) (hExpertsRefIdeal : Cert.ExpertsRefIdeal.Facts) (hPre_tables_in_range : Cert.Pre_tables_in_range.Facts),
    quiescent_InProj (hInProj := hInProj)
    ∧ quiescent_InProjIdeal (hInProjIdeal := hInProjIdeal)
    ∧ quiescent_InProjRefIdeal (hInProjRefIdeal := hInProjRefIdeal)
    ∧ quiescent_Experts (hExperts := hExperts) (hPre_tables_in_range := hPre_tables_in_range)
    ∧ quiescent_ExpertsIdeal (hExpertsIdeal := hExpertsIdeal) (hPre_tables_in_range := hPre_tables_in_range)
    ∧ quiescent_ExpertsRefIdeal (hExpertsRefIdeal := hExpertsRefIdeal) (hPre_tables_in_range := hPre_tables_in_range)
    ∧ preserves_InProj_InProjIdeal
    ∧ algebraic_InProjIdeal_InProjRefIdeal (hInProjIdeal := hInProjIdeal) (hInProjRefIdeal := hInProjRefIdeal)
    ∧ preserves_Experts_ExpertsIdeal
    ∧ algebraic_ExpertsIdeal_ExpertsRefIdeal (hExpertsIdeal := hExpertsIdeal) (hExpertsRefIdeal := hExpertsRefIdeal) (hPre_tables_in_range := hPre_tables_in_range)
-- ==== Pre_tables_in_range.lean ====
abbrev S160 : Shape := ⟨1, ![160]⟩
abbrev S1 : Shape := ⟨1, ![1]⟩
abbrev S655360x128 : Shape := ⟨2, ![655360, 128]⟩
abbrev S32x1024x1024 : Shape := ⟨3, ![32, 1024, 1024]⟩
abbrev S32x1024 : Shape := ⟨2, ![32, 1024]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S160 32) (main_arg1 : IVec S1 32) (main_arg2 : FVec F S655360x128 .f32) (main_arg3 : FVec F S32x1024x1024 .f32) (main_arg4 : FVec F S32x1024 .f32) (main_arg5 : FVec F S32x1024x1024 .f32) (main_arg6 : FVec F S32x1024 .f32) (main_arg7 : FVec F S32x1024x1024 .f32) (main_arg8 : FVec F S32x1024 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 1 := constantI S_ 1 1#1
  let main_v5 : IVec S_ 1 := (fun x v => Host.reduce IntOp.andi x v reducesTo_S160_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 160#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== InProj.lean ====
abbrev S8x2048x1024 : Shape := ⟨3, ![8, 2048, 1024]⟩
abbrev S8x6x1024 : Shape := ⟨3, ![8, 6, 1024]⟩
abbrev S1x1024x4256 : Shape := ⟨3, ![1, 1024, 4256]⟩
abbrev S1x4256x1024 : Shape := ⟨3, ![1, 4256, 1024]⟩
abbrev S8x2048x384 : Shape := ⟨3, ![8, 2048, 384]⟩
abbrev S8x2048x256 : Shape := ⟨3, ![8, 2048, 256]⟩
abbrev S8x2048x128 : Shape := ⟨3, ![8, 2048, 128]⟩
abbrev S1x512x1024 : Shape := ⟨3, ![1, 512, 1024]⟩
abbrev S1x6x1024 : Shape := ⟨3, ![1, 6, 1024]⟩
abbrev S1x512x384 : Shape := ⟨3, ![1, 512, 384]⟩
abbrev S1x512x256 : Shape := ⟨3, ![1, 512, 256]⟩
abbrev S1x512x128 : Shape := ⟨3, ![1, 512, 128]⟩
abbrev S4256x1024 : Shape := ⟨2, ![4256, 1024]⟩
abbrev S1024x1024 : Shape := ⟨2, ![1024, 1024]⟩
abbrev S1024x512 : Shape := ⟨2, ![1024, 512]⟩
abbrev S1024x384 : Shape := ⟨2, ![1024, 384]⟩
abbrev S1024x256 : Shape := ⟨2, ![1024, 256]⟩
abbrev S1024x128 : Shape := ⟨2, ![1024, 128]⟩
abbrev S_ : Shape := ⟨0, ![]⟩
abbrev S256x1024 : Shape := ⟨2, ![256, 1024]⟩
abbrev S128x1024 : Shape := ⟨2, ![128, 1024]⟩
abbrev S6x1024 : Shape := ⟨2, ![6, 1024]⟩
abbrev S512x1024 : Shape := ⟨2, ![512, 1024]⟩
abbrev S1x1024 : Shape := ⟨2, ![1, 1024]⟩
abbrev S512x384 : Shape := ⟨2, ![512, 384]⟩
abbrev S512x256 : Shape := ⟨2, ![512, 256]⟩
abbrev S512x128 : Shape := ⟨2, ![512, 128]⟩
abbrev S512x512 : Shape := ⟨2, ![512, 512]⟩

abbrev nBuf : Space → Nat
  | .hbm => 11
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S8x6x1024, .f32⟩
  | .hbm, ⟨2, _⟩ => ⟨S1x1024x4256, .f32⟩
  | .hbm, ⟨3, _⟩ => ⟨S1x4256x1024, .f32⟩
  | .hbm, ⟨4, _⟩ => ⟨S8x2048x1024, .bf16⟩
  | .hbm, ⟨5, _⟩ => ⟨S8x2048x1024, .bf16⟩
  | .hbm, ⟨6, _⟩ => ⟨S8x2048x384, .bf16⟩
  | .hbm, ⟨7, _⟩ => ⟨S8x2048x256, .bf16⟩
  | .hbm, ⟨8, _⟩ => ⟨S8x2048x128, .f32⟩
  | .hbm, ⟨9, _⟩ => ⟨S8x2048x1024, .bf16⟩
  | .hbm, ⟨10, _⟩ => ⟨S8x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x384, .bf16⟩
  | .local _ .vmem, ⟨9, _⟩ => ⟨S1x512x384, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x128, .f32⟩
  | .local _ .vmem, ⟨13, _⟩ => ⟨S1x512x128, .f32⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S4256x1024, .f32⟩
  | .local _ .vmem, ⟨19, _⟩ => ⟨S1024x1024, .bf16⟩
  | .local _ .vmem, ⟨20, _⟩ => ⟨S1024x512, .bf16⟩
  | .local _ .vmem, ⟨21, _⟩ => ⟨S1024x384, .bf16⟩
  | .local _ .vmem, ⟨22, _⟩ => ⟨S1024x256, .bf16⟩
  | .local _ .vmem, ⟨23, _⟩ => ⟨S1024x128, .bf16⟩
  | .local _ .vmem, ⟨24, _⟩ => ⟨S1024x1024, .bf16⟩
  | .local _ .vmem, ⟨25, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev main_v1_6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== InProjRefIdeal.lean ====
abbrev S8x2048x1024 : Shape := ⟨3, ![8, 2048, 1024]⟩
abbrev S8x6x1024 : Shape := ⟨3, ![8, 6, 1024]⟩
abbrev S1x1024x4256 : Shape := ⟨3, ![1, 1024, 4256]⟩
abbrev S8x1x1024 : Shape := ⟨3, ![8, 1, 1024]⟩
abbrev S_ : Shape := ⟨0, ![]⟩
abbrev S1024x4256 : Shape := ⟨2, ![1024, 4256]⟩
abbrev S8x2048x4256 : Shape := ⟨3, ![8, 2048, 4256]⟩
abbrev S8x2048x512 : Shape := ⟨3, ![8, 2048, 512]⟩
abbrev S8x2048x384 : Shape := ⟨3, ![8, 2048, 384]⟩
abbrev S8x2048x256 : Shape := ⟨3, ![8, 2048, 256]⟩
abbrev S8x2048x32 : Shape := ⟨3, ![8, 2048, 32]⟩
abbrev S8x2048x4x128 : Shape := ⟨4, ![8, 2048, 4, 128]⟩
abbrev S8x2048x4x256 : Shape := ⟨4, ![8, 2048, 4, 256]⟩
abbrev S8x2048x128 : Shape := ⟨3, ![8, 2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6x1024, .f32⟩
  | .hbm, ⟨2, _⟩ => ⟨S1x1024x4256, .f32⟩
  | .hbm, ⟨3, _⟩ => ⟨S8x1x1024, .f32⟩
  | .hbm, ⟨4, _⟩ => ⟨S8x1x1024, .f32⟩
  | .hbm, ⟨5, _⟩ => ⟨S_, .f32⟩
  | .hbm, ⟨6, _⟩ => ⟨S8x1x1024, .f32⟩
  | .hbm, ⟨7, _⟩ => ⟨S8x1x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S1024x4256, .f32⟩
  | .hbm, ⟨13, _⟩ => ⟨S8x2048x4256, .f32⟩
  | .hbm, ⟨14, _⟩ => ⟨S8x2048x512, .f32⟩
  | .hbm, ⟨15, _⟩ => ⟨S8x2048x512, .f32⟩
  | .hbm, ⟨16, _⟩ => ⟨S8x2048x512, .f32⟩
  | .hbm, ⟨17, _⟩ => ⟨S8x2048x384, .f32⟩
  | .hbm, ⟨18, _⟩ => ⟨S8x2048x256, .f32⟩
  | .hbm, ⟨19, _⟩ => ⟨S8x2048x32, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2048x512, .f32⟩
  | .hbm, ⟨24, _⟩ => ⟨S8x2048x512, .f32⟩
  | .hbm, ⟨25, _⟩ => ⟨S8x2048x1024, .f32⟩
  | .hbm, ⟨26, _⟩ => ⟨S8x2048x4x128, .f32⟩
  | .hbm, ⟨27, _⟩ => ⟨S_, .f32⟩
  | .hbm, ⟨28, _⟩ => ⟨S8x2048x4x128, .f32⟩
  | .hbm, ⟨29, _⟩ => ⟨S8x2048x4x256, .f32⟩
  | .hbm, ⟨30, _⟩ => ⟨S8x2048x1024, .f32⟩
  | .hbm, ⟨31, _⟩ => ⟨S_, .i32⟩
  | .hbm, ⟨32, _⟩ => ⟨S_, .f32⟩
  | .hbm, ⟨33, _⟩ => ⟨S8x2048x128, .f32⟩
  | .hbm, ⟨34, _⟩ => ⟨S8x2048x1024, .bf16⟩
  | .hbm, ⟨35, _⟩ => ⟨S8x2048x1024, .bf16⟩
  | .hbm, ⟨36, _⟩ => ⟨S8x2048x384, .bf16⟩
  | .hbm, ⟨37, _⟩ => ⟨S8x2048x256, .bf16⟩
  | .hbm, ⟨38, _⟩ => ⟨S8x2048x1024, .bf16⟩
  | .hbm, ⟨39, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_call0_v0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Experts.lean ====
abbrev S160 : Shape := ⟨1, ![160]⟩
abbrev S1 : Shape := ⟨1, ![1]⟩
abbrev S655360x128 : Shape := ⟨2, ![655360, 128]⟩
abbrev S32x1024x1024 : Shape := ⟨3, ![32, 1024, 1024]⟩
abbrev S32x1024 : Shape := ⟨2, ![32, 1024]⟩
abbrev S_ : Shape := ⟨0, ![]⟩
abbrev S160x1 : Shape := ⟨2, ![160, 1]⟩
abbrev S32x1x1024 : Shape := ⟨3, ![32, 1, 1024]⟩
abbrev S4096x128 : Shape := ⟨2, ![4096, 128]⟩
abbrev S1x1x1024 : Shape := ⟨3, ![1, 1, 1024]⟩
abbrev S2x3x1024x1024 : Shape := ⟨4, ![2, 3, 1024, 1024]⟩
abbrev S1024x1024 : Shape := ⟨2, ![1024, 1024]⟩
abbrev S2 : Shape := ⟨1, ![2]⟩
abbrev S1x1x1024x1024 : Shape := ⟨4, ![1, 1, 1024, 1024]⟩
abbrev S1x1024x1024 : Shape := ⟨3, ![1, 1024, 1024]⟩
abbrev S512x128 : Shape := ⟨2, ![512, 128]⟩
abbrev S512x1024 : Shape := ⟨2, ![512, 1024]⟩
abbrev S1x1024 : Shape := ⟨2, ![1, 1024]⟩

abbrev nBuf : Space → Nat
  | .hbm => 26
  | .vmem => 14
  | .smem => 3
  | _ => 0

abbrev bufTy : (tb : Table) → Fin (tcTables nBuf tb) → BufTy
  | .hbm, ⟨0, _⟩ => ⟨S160, .i32⟩
  | .hbm, ⟨1, _⟩ => ⟨S655360x128, .f32⟩
  | .hbm, ⟨2, _⟩ => ⟨S32x1024x1024, .f32⟩
  | .hbm, ⟨3, _⟩ => ⟨S32x1024, .f32⟩
  | .hbm, ⟨4, _⟩ => ⟨S32x1024x1024, .f32⟩
  | .hbm, ⟨5, _⟩ => ⟨S32x1024, .f32⟩
  | .hbm, ⟨6, _⟩ => ⟨S32x1024x1024, .f32⟩
  | .hbm, ⟨7, _⟩ => ⟨S32x1024, .f32⟩
  | .hbm, ⟨8, _⟩ => ⟨S160, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S160, .i32⟩
  | .hbm, ⟨13, _⟩ => ⟨S160, .i32⟩
  | .hbm, ⟨14, _⟩ => ⟨S_, .i32⟩
  | .hbm, ⟨15, _⟩ => ⟨S160, .i32⟩
  | .hbm, ⟨16, _⟩ => ⟨S160, .i1⟩
  | .hbm, ⟨17, _⟩ => ⟨S_, .i32⟩
  | .hbm, ⟨18, _⟩ => ⟨S160, .i32⟩
  | .hbm, ⟨19, _⟩ => ⟨S160, .i32⟩
  | .hbm, ⟨20, _⟩ => ⟨S160, .i32⟩
  | .hbm, ⟨21, _⟩ => ⟨S160x1, .i32⟩
  | .hbm, ⟨22, _⟩ => ⟨S32x1x1024, .f32⟩
  | .hbm, ⟨23, _⟩ => ⟨S32x1x1024, .f32⟩
  | .hbm, ⟨24, _⟩ => ⟨S32x1x1024, .f32⟩
  | .hbm, ⟨25, _⟩ => ⟨S655360x128, .f32⟩
  | .local _ .vmem, ⟨0, _⟩ => ⟨S4096x128, .f32⟩
  | .local _ .vmem, ⟨1, _⟩ => ⟨S4096x128, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S4096x128, .f32⟩
  | .local _ .vmem, ⟨9, _⟩ => ⟨S4096x128, .f32⟩
  | .local _ .vmem, ⟨10, _⟩ => ⟨S2x3x1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .smem, ⟨0, _⟩ => ⟨S160, .i32⟩
  | .local _ .smem, ⟨1, _⟩ => ⟨S1, .i32⟩
  | .local _ .smem, ⟨2, _⟩ => ⟨S1, .i32⟩
  | _, _ => ⟨S160, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v11 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_v11.idx, main_arg1.idx], fun | 0 => main_v11.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (arg17 : BitVec 32) : Fin 1 → Nat :=
  let c159_i32 : BitVec 32 := 159#32
  let v12 : BitVec 32 := Scalar.minsi arg17 c159_i32
  let v13 : Index := Scalar.indexCast v12
  ![v13.toNat]

def k0_chk1 (arg17 : BitVec 32) : Prop :=
  (∀ a, (k0_off2 arg17) a + S1.size a ≤ S160.size a)
theorem k0_off2_inb : ∀ (arg17 : BitVec 32) (k0_hw1 : k0_chk1 arg17), ∀ a, (k0_off2 arg17) a + S1.size a ≤ S160.size a := fun arg17 k0_hw1 => k0_hw1

def k0_cond2 (i : grid0.Coords) : BitVec 1 :=
  let arg0 : BitVec 32 := BitVec.ofNat 32 (i 0).val
  let c0_i32_1 : BitVec 32 := 0#32
  let v11 : BitVec 1 := Scalar.cmpi .eq arg0 c0_i32_1
  let v12 : BitVec 32 := Scalar.extui v11
  let c0_i32_2 : BitVec 32 := 0#32
  let v13 : BitVec 1 := Scalar.cmpi .ne v12 c0_i32_2
  v13

def k0_off3 (v2 : BitVec 32) : Fin 3 → Nat :=
  let c0_i32_61 : BitVec 32 := 0#32
  let c0_i32_62 : BitVec 32 := 0#32
  ![v2.toNat, 0, 0]
def k0_cond1 (i : grid0.Coords) (v0 : BitVec 32) : BitVec 1 :=
  let arg0 : BitVec 32 := BitVec.ofNat 32 (i 0).val
  let v5 : BitVec 1 := Scalar.cmpi .slt arg0 v0
  let v6 : BitVec 32 := Scalar.extui v5
  let c0_i32 : BitVec 32 := 0#32
  let v7 : BitVec 1 := Scalar.cmpi .ne v6 c0_i32
  v7

def k0_chk2 (i : grid0.Coords) (v0 : BitVec 32) (v2 : BitVec 32) : Prop :=
  (∀ (k0_h1 : k0_cond1 i v0 = 1#1), ∀ (k0_h2 : k0_cond2 i = 1#1), ∀ a, (k0_off3 v2) a + S1x1024x1024.size a ≤ S32x1024x1024.size a)
theorem k0_off3_inb : ∀ (i : grid0.Coords) (v0 : BitVec 32) (v2 : BitVec 32) (k0_hw2 : k0_chk2 i v0 v2), ∀ (k0_h1 : k0_cond1 i v0 = 1#1), ∀ (k0_h2 : k0_cond2 i = 1#1), ∀ a, (k0_off3 v2) a + S1x1024x1024.size a ≤ S32x1024x1024.size a := fun i v0 v2 k0_hw2 k0_h1 k0_h2 => k0_hw2 k0_h1 k0_h2

def k0_off4 (i : grid0.Coords) : Fin 1 → Nat :=
  let arg0 : BitVec 32 := BitVec.ofNat 32 (i 0).val
  let c1_i32_4 : BitVec 32 := 1#32
  let v15 : BitVec 32 := Scalar.subi arg0 c1_i32_4
  let c0_i32_5 : BitVec 32 := 0#32
  let v16 : BitVec 32 := Scalar.maxsi v15 c0_i32_5
  let v17 : Index := Scalar.indexCast v16
  ![v17.toNat]
def k0_off5 (v81 : BitVec 32) : Fin 1 → Nat :=
  ![v81.toNat]
def k0_cond3 (i : grid0.Coords) (v2 : BitVec 32) (v18 : BitVec 32) : BitVec 1 :=
  let arg0 : BitVec 32 := BitVec.ofNat 32 (i 0).val
  let c0_i32_3 : BitVec 32 := 0#32
  let v14 : BitVec 1 := Scalar.cmpi .eq arg0 c0_i32_3
  let v19 : BitVec 1 := Scalar.cmpi .ne v2 v18
  let v20 : BitVec 1 := Scalar.ori v14 v19
  let v21 : BitVec 32 := Scalar.extui v20
  let c0_i32_6 : BitVec 32 := 0#32
  let v22 : BitVec 1 := Scalar.cmpi .ne v21 c0_i32_6
  v22

def k0_off6 (v81 : BitVec 32) : Fin 4 → Nat :=
  let c0_i32_55 : BitVec 32 := 0#32
  let c0_i32_56 : BitVec 32 := 0#32
  let c0_i32_57 : BitVec 32 := 0#32
  ![v81.toNat, 0, 0, 0]
def k0_off7 (v2 : BitVec 32) : Fin 3 → Nat :=
  let c0_i32_58 : BitVec 32 := 0#32
  let c0_i32_59 : BitVec 32 := 0#32
  ![v2.toNat, 0, 0]

def k0_off8 (v81 : BitVec 32) : Fin 4 → Nat :=
  let c1_i32_60 : BitVec 32 := 1#32
  let c0_i32_61 : BitVec 32 := 0#32
  let c0_i32_62 : BitVec 32 := 0#32
  ![v81.toNat, 1, 0, 0]
def k0_off9 (v81 : BitVec 32) : Fin 4 → Nat :=
  let c2_i32 : BitVec 32 := 2#32
  let c0_i32_65 : BitVec 32 := 0#32
  let c0_i32_66 : BitVec 32 := 0#32
  ![v81.toNat, 2, 0, 0]
def k0_off10 (v4 : BitVec 32) : Fin 1 → Nat :=
  let c159_i32 : BitVec 32 := 159#32
  let v126 : BitVec 32 := Scalar.minsi v4 c159_i32
  let v127 : Index := Scalar.indexCast v126
  ![v127.toNat]
def k0_cond4 (v0 : BitVec 32) (v4 : BitVec 32) : BitVec 1 :=
  let v100 : BitVec 1 := Scalar.cmpi .slt v4 v0
  let v101 : BitVec 32 := Scalar.extui v100
  let c0_i32_69 : BitVec 32 := 0#32
  let v102 : BitVec 1 := Scalar.cmpi .ne v101 c0_i32_69
  v102

def k0_chk4 (i : grid0.Coords) (v0 : BitVec 32) (v2 : BitVec 32) (v4 : BitVec 32) (v18 : BitVec 32) : Prop :=
  (∀ (k0_h1 : k0_cond1 i v0 = 1#1), ∀ (k0_h3 : k0_cond3 i v2 v18 = 1#1), ∀ a, (k0_off7 v2) a + S1x1024x1024.size a ≤ S32x1024x1024.size a) ∧
  (∀ (k0_h1 : k0_cond1 i v0 = 1#1), ∀ (k0_h3 : k0_cond3 i v2 v18 = 1#1), ∀ (k0_h4 : k0_cond4 v0 v4 = 1#1), ∀ a, (k0_off10 v4) a + S1.size a ≤ S160.size a)
theorem k0_off7_inb : ∀ (i : grid0.Coords) (v0 : BitVec 32) (v2 : BitVec 32) (v4 : BitVec 32) (v18 : BitVec 32) (k0_hw4 : k0_chk4 i v0 v2 v4 v18), ∀ (k0_h1 : k0_cond1 i v0 = 1#1), ∀ (k0_h3 : k0_cond3 i v2 v18 = 1#1), ∀ a, (k0_off7 v2) a + S1x1024x1024.size a ≤ S32x1024x1024.size a := fun i v0 v2 v4 v18 k0_hw4 k0_h1 k0_h3 => k0_hw4.1 k0_h1 k0_h3
theorem k0_off10_inb : ∀ (i : grid0.Coords) (v0 : BitVec 32) (v2 : BitVec 32) (v4 : BitVec 32) (v18 : BitVec 32) (k0_hw4 : k0_chk4 i v0 v2 v4 v18), ∀ (k0_h1 : k0_cond1 i v0 = 1#1), ∀ (k0_h3 : k0_cond3 i v2 v18 = 1#1), ∀ (k0_h4 : k0_cond4 v0 v4 = 1#1), ∀ a, (k0_off10 v4) a + S1.size a ≤ S160.size a := fun i v0 v2 v4 v18 k0_hw4 k0_h1 k0_h3 k0_h4 => k0_hw4.2 k0_h1 k0_h3 k0_h4

def k0_off11 (v81 : BitVec 32) : Fin 1 → Nat :=
  let c1_i32_87 : BitVec 32 := 1#32
  let v129 : BitVec 32 := Scalar.subi c1_i32_87 v81
  ![v129.toNat]
def k0_off12 (v81 : BitVec 32) : Fin 4 → Nat :=
  let c1_i32_87 : BitVec 32 := 1#32
  let v129 : BitVec 32 := Scalar.subi c1_i32_87 v81
  let c0_i32_88 : BitVec 32 := 0#32
  let c0_i32_89 : BitVec 32 := 0#32
  let c0_i32_90 : BitVec 32 := 0#32
  ![v129.toNat, 0, 0, 0]
def k0_off13 (v128 : BitVec 32) : Fin 3 → Nat :=
  let c0_i32_91 : BitVec 32 := 0#32
  let c0_i32_92 : BitVec 32 := 0#32
  ![v128.toNat, 0, 0]

def k0_chk5 (i : grid0.Coords) (v0 : BitVec 32) (v2 : BitVec 32) (v4 : BitVec 32) (v18 : BitVec 32) (v128 : BitVec 32) : Prop :=
  (∀ (k0_h1 : k0_cond1 i v0 = 1#1), ∀ (k0_h3 : k0_cond3 i v2 v18 = 1#1), ∀ (k0_h4 : k0_cond4 v0 v4 = 1#1), ∀ a, (k0_off13 v128) a + S1x1024x1024.size a ≤ S32x1024x1024.size a)
theorem k0_off13_inb : ∀ (i : grid0.Coords) (v0 : BitVec 32) (v2 : BitVec 32) (v4 : BitVec 32) (v18 : BitVec 32) (v128 : BitVec 32) (k0_hw5 : k0_chk5 i v0 v2 v4 v18 v128), ∀ (k0_h1 : k0_cond1 i v0 = 1#1), ∀ (k0_h3 : k0_cond3 i v2 v18 = 1#1), ∀ (k0_h4 : k0_cond4 v0 v4 = 1#1), ∀ a, (k0_off13 v128) a + S1x1024x1024.size a ≤ S32x1024x1024.size a := fun i v0 v2 v4 v18 v128 k0_hw5 k0_h1 k0_h3 k0_h4 => k0_hw5 k0_h1 k0_h3 k0_h4

def k0_off14 (v81 : BitVec 32) : Fin 1 → Nat :=
  let c1_i32_87 : BitVec 32 := 1#32
  let v129 : BitVec 32 := Scalar.subi c1_i32_87 v81
  ![v129.toNat]
def k0_off15 (v81 : BitVec 32) : Fin 4 → Nat :=
  let c1_i32_87 : BitVec 32 := 1#32
  let v129 : BitVec 32 := Scalar.subi c1_i32_87 v81
  let c1_i32_93 : BitVec 32 := 1#32
  let c0_i32_94 : BitVec 32 := 0#32
  let c0_i32_95 : BitVec 32 := 0#32
  ![v129.toNat, 1, 0, 0]
def k0_off16 (v81 : BitVec 32) : Fin 4 → Nat :=
  let c1_i32_87 : BitVec 32 := 1#32
  let v129 : BitVec 32 := Scalar.subi c1_i32_87 v81
  let c2_i32_98 : BitVec 32 := 2#32
  let c0_i32_99 : BitVec 32 := 0#32
  let c0_i32_100 : BitVec 32 := 0#32
  ![v129.toNat, 2, 0, 0]
def k0_off17 (v81 : BitVec 32) : Fin 4 → Nat :=
  let v103 : Index := Scalar.indexCast v81
  let c0_70 : Index := 0#32
  let c0_71 : Index := 0#32
  let c0_72 : Index := 0#32
  ![v103.toNat, 0, 0, 0]
def k0_off18 (v81 : BitVec 32) : Fin 4 → Nat :=
  let v110 : Index := Scalar.indexCast v81
  let c1_75 : Index := 1#32
  let c0_76 : Index := 0#32
  let c0_77 : Index := 0#32
  ![v110.toNat, 1, 0, 0]
def k0_off19 (v81 : BitVec 32) : Fin 4 → Nat :=
  let v117 : Index := Scalar.indexCast v81
  let c2_80 : Index := 2#32
  let c0_81 : Index := 0#32
  let c0_82 : Index := 0#32
  ![v117.toNat, 2, 0, 0]

def k0_chk3 (i : grid0.Coords) (v0 : BitVec 32) (v2 : BitVec 32) (v4 : BitVec 32) (v18 : BitVec 32) (v81 : BitVec 32) : Prop :=
  (∀ (k0_h1 : k0_cond1 i v0 = 1#1), ∀ (k0_h3 : k0_cond3 i v2 v18 = 1#1), ∀ a, (k0_off5 v81) a + S1.size a ≤ S2.size a) ∧
  (∀ (k0_h1 : k0_cond1 i v0 = 1#1), ∀ (k0_h3 : k0_cond3 i v2 v18 = 1#1), ∀ a, (k0_off6 v81) a + S1x1x1024x1024.size a ≤ S2x3x1024x1024.size a) ∧
  (∀ (k0_h1 : k0_cond1 i v0 = 1#1), ∀ (k0_h3 : k0_cond3 i v2 v18 = 1#1), ∀ a, (k0_off8 v81) a + S1x1x1024x1024.size a ≤ S2x3x1024x1024.size a) ∧
  (∀ (k0_h1 : k0_cond1 i v0 = 1#1), ∀ (k0_h3 : k0_cond3 i v2 v18 = 1#1), ∀ a, (k0_off9 v81) a + S1x1x1024x1024.size a ≤ S2x3x1024x1024.size a) ∧
  (∀ (k0_h1 : k0_cond1 i v0 = 1#1), ∀ (k0_h3 : k0_cond3 i v2 v18 = 1#1), ∀ (k0_h4 : k0_cond4 v0 v4 = 1#1), ∀ a, (k0_off11 v81) a + S1.size a ≤ S2.size a) ∧
  (∀ (k0_h1 : k0_cond1 i v0 = 1#1), ∀ (k0_h3 : k0_cond3 i v2 v18 = 1#1), ∀ (k0_h4 : k0_cond4 v0 v4 = 1#1), ∀ a, (k0_off12 v81) a + S1x1x1024x1024.size a ≤ S2x3x1024x1024.size a) ∧
  (∀ (k0_h1 : k0_cond1 i v0 = 1#1), ∀ (k0_h3 : k0_cond3 i v2 v18 = 1#1), ∀ (k0_h4 : k0_cond4 v0 v4 = 1#1), ∀ a, (k0_off14 v81) a + S1.size a ≤ S2.size a) ∧
  (∀ (k0_h1 : k0_cond1 i v0 = 1#1), ∀ (k0_h3 : k0_cond3 i v2 v18 = 1#1), ∀ (k0_h4 : k0_cond4 v0 v4 = 1#1), ∀ a, (k0_off15 v81) a + S1x1x1024x1024.size a ≤ S2x3x1024x1024.size a) ∧
  (∀ (k0_h1 : k0_cond1 i v0 = 1#1), ∀ (k0_h3 : k0_cond3 i v2 v18 = 1#1), ∀ (k0_h4 : k0_cond4 v0 v4 = 1#1), ∀ a, (k0_off16 v81) a + S1x1x1024x1024.size a ≤ S2x3x1024x1024.size a) ∧
  (∀ (k0_h1 : k0_cond1 i v0 = 1#1), ∀ (k0_h3 : k0_cond3 i v2 v18 = 1#1), ∀ a, (k0_off17 v81) a + S1x1x1024x1024.size a ≤ S2x3x1024x1024.size a) ∧
  (∀ (k0_h1 : k0_cond1 i v0 = 1#1), ∀ (k0_h3 : k0_cond3 i v2 v18 = 1#1), ∀ a, (k0_off18 v81) a + S1x1x1024x1024.size a ≤ S2x3x1024x1024.size a) ∧
  (∀ (k0_h1 : k0_cond1 i v0 = 1#1), ∀ (k0_h3 : k0_cond3 i v2 v18 = 1#1), ∀ a, (k0_off19 v81) a + S1x1x1024x1024.size a ≤ S2x3x1024x1024.size a)
theorem k0_off5_inb : ∀ (i : grid0.Coords) (v0 : BitVec 32) (v2 : BitVec 32) (v4 : BitVec 32) (v18 : BitVec 32) (v81 : BitVec 32) (k0_hw3 : k0_chk3 i v0 v2 v4 v18 v81), ∀ (k0_h1 : k0_cond1 i v0 = 1#1), ∀ (k0_h3 : k0_cond3 i v2 v18 = 1#1), ∀ a, (k0_off5 v81) a + S1.size a ≤ S2.size a := fun i v0 v2 v4 v18 v81 k0_hw3 k0_h1 k0_h3 => k0_hw3.1 k0_h1 k0_h3
theorem k0_off6_inb : ∀ (i : grid0.Coords) (v0 : BitVec 32) (v2 : BitVec 32) (v4 : BitVec 32) (v18 : BitVec 32) (v81 : BitVec 32) (k0_hw3 : k0_chk3 i v0 v2 v4 v18 v81), ∀ (k0_h1 : k0_cond1 i v0 = 1#1), ∀ (k0_h3 : k0_cond3 i v2 v18 = 1#1), ∀ a, (k0_off6 v81) a + S1x1x1024x1024.size a ≤ S2x3x1024x1024.size a := fun i v0 v2 v4 v18 v81 k0_hw3 k0_h1 k0_h3 => k0_hw3.2.1 k0_h1 k0_h3
theorem k0_off8_inb : ∀ (i : grid0.Coords) (v0 : BitVec 32) (v2 : BitVec 32) (v4 : BitVec 32) (v18 : BitVec 32) (v81 : BitVec 32) (k0_hw3 : k0_chk3 i v0 v2 v4 v18 v81), ∀ (k0_h1 : k0_cond1 i v0 = 1#1), ∀ (k0_h3 : k0_cond3 i v2 v18 = 1#1), ∀ a, (k0_off8 v81) a + S1x1x1024x1024.size a ≤ S2x3x1024x1024.size a := fun i v0 v2 v4 v18 v81 k0_hw3 k0_h1 k0_h3 => k0_hw3.2.2.1 k0_h1 k0_h3
theorem k0_off9_inb : ∀ (i : grid0.Coords) (v0 : BitVec 32) (v2 : BitVec 32) (v4 : BitVec 32) (v18 : BitVec 32) (v81 : BitVec 32) (k0_hw3 : k0_chk3 i v0 v2 v4 v18 v81), ∀ (k0_h1 : k0_cond1 i v0 = 1#1), ∀ (k0_h3 : k0_cond3 i v2 v18 = 1#1), ∀ a, (k0_off9 v81) a + S1x1x1024x1024.size a ≤ S2x3x1024x1024.size a := fun i v0 v2 v4 v18 v81 k0_hw3 k0_h1 k0_h3 => k0_hw3.2.2.2.1 k0_h1 k0_h3
theorem k0_off11_inb : ∀ (i : grid0.Coords) (v0 : BitVec 32) (v2 : BitVec 32) (v4 : BitVec 32) (v18 : BitVec 32) (v81 : BitVec 32) (k0_hw3 : k0_chk3 i v0 v2 v4 v18 v81), ∀ (k0_h1 : k0_cond1 i v0 = 1#1), ∀ (k0_h3 : k0_cond3 i v2 v18 = 1#1), ∀ (k0_h4 : k0_cond4 v0 v4 = 1#1), ∀ a, (k0_off11 v81) a + S1.size a ≤ S2.size a := fun i v0 v2 v4 v18 v81 k0_hw3 k0_h1 k0_h3 k0_h4 => k0_hw3.2.2.2.2.1 k0_h1 k0_h3 k0_h4
theorem k0_off12_inb : ∀ (i : grid0.Coords) (v0 : BitVec 32) (v2 : BitVec 32) (v4 : BitVec 32) (v18 : BitVec 32) (v81 : BitVec 32) (k0_hw3 : k0_chk3 i v0 v2 v4 v18 v81), ∀ (k0_h1 : k0_cond1 i v0 = 1#1), ∀ (k0_h3 : k0_cond3 i v2 v18 = 1#1), ∀ (k0_h4 : k0_cond4 v0 v4 = 1#1), ∀ a, (k0_off12 v81) a + S1x1x1024x1024.size a ≤ S2x3x1024x1024.size a := fun i v0 v2 v4 v18 v81 k0_hw3 k0_h1 k0_h3 k0_h4 => k0_hw3.2.2.2.2.2.1 k0_h1 k0_h3 k0_h4
theorem k0_off14_inb : ∀ (i : grid0.Coords) (v0 : BitVec 32) (v2 : BitVec 32) (v4 : BitVec 32) (v18 : BitVec 32) (v81 : BitVec 32) (k0_hw3 : k0_chk3 i v0 v2 v4 v18 v81), ∀ (k0_h1 : k0_cond1 i v0 = 1#1), ∀ (k0_h3 : k0_cond3 i v2 v18 = 1#1), ∀ (k0_h4 : k0_cond4 v0 v4 = 1#1), ∀ a, (k0_off14 v81) a + S1.size a ≤ S2.size a := fun i v0 v2 v4 v18 v81 k0_hw3 k0_h1 k0_h3 k0_h4 => k0_hw3.2.2.2.2.2.2.1 k0_h1 k0_h3 k0_h4
theorem k0_off15_inb : ∀ (i : grid0.Coords) (v0 : BitVec 32) (v2 : BitVec 32) (v4 : BitVec 32) (v18 : BitVec 32) (v81 : BitVec 32) (k0_hw3 : k0_chk3 i v0 v2 v4 v18 v81), ∀ (k0_h1 : k0_cond1 i v0 = 1#1), ∀ (k0_h3 : k0_cond3 i v2 v18 = 1#1), ∀ (k0_h4 : k0_cond4 v0 v4 = 1#1), ∀ a, (k0_off15 v81) a + S1x1x1024x1024.size a ≤ S2x3x1024x1024.size a := fun i v0 v2 v4 v18 v81 k0_hw3 k0_h1 k0_h3 k0_h4 => k0_hw3.2.2.2.2.2.2.2.1 k0_h1 k0_h3 k0_h4
theorem k0_off16_inb : ∀ (i : grid0.Coords) (v0 : BitVec 32) (v2 : BitVec 32) (v4 : BitVec 32) (v18 : BitVec 32) (v81 : BitVec 32) (k0_hw3 : k0_chk3 i v0 v2 v4 v18 v81), ∀ (k0_h1 : k0_cond1 i v0 = 1#1), ∀ (k0_h3 : k0_cond3 i v2 v18 = 1#1), ∀ (k0_h4 : k0_cond4 v0 v4 = 1#1), ∀ a, (k0_off16 v81) a + S1x1x1024x1024.size a ≤ S2x3x1024x1024.size a := fun i v0 v2 v4 v18 v81 k0_hw3 k0_h1 k0_h3 k0_h4 => k0_hw3.2.2.2.2.2.2.2.2.1 k0_h1 k0_h3 k0_h4
theorem k0_off17_inb : ∀ (i : grid0.Coords) (v0 : BitVec 32) (v2 : BitVec 32) (v4 : BitVec 32) (v18 : BitVec 32) (v81 : BitVec 32) (k0_hw3 : k0_chk3 i v0 v2 v4 v18 v81), ∀ (k0_h1 : k0_cond1 i v0 = 1#1), ∀ (k0_h3 : k0_cond3 i v2 v18 = 1#1), ∀ a, (k0_off17 v81) a + S1x1x1024x1024.size a ≤ S2x3x1024x1024.size a := fun i v0 v2 v4 v18 v81 k0_hw3 k0_h1 k0_h3 => k0_hw3.2.2.2.2.2.2.2.2.2.1 k0_h1 k0_h3
theorem k0_off18_inb : ∀ (i : grid0.Coords) (v0 : BitVec 32) (v2 : BitVec 32) (v4 : BitVec 32) (v18 : BitVec 32) (v81 : BitVec 32) (k0_hw3 : k0_chk3 i v0 v2 v4 v18 v81), ∀ (k0_h1 : k0_cond1 i v0 = 1#1), ∀ (k0_h3 : k0_cond3 i v2 v18 = 1#1), ∀ a, (k0_off18 v81) a + S1x1x1024x1024.size a ≤ S2x3x1024x1024.size a := fun i v0 v2 v4 v18 v81 k0_hw3 k0_h1 k0_h3 => k0_hw3.2.2.2.2.2.2.2.2.2.2.1 k0_h1 k0_h3
theorem k0_off19_inb : ∀ (i : grid0.Coords) (v0 : BitVec 32) (v2 : BitVec 32) (v4 : BitVec 32) (v18 : BitVec 32) (v81 : BitVec 32) (k0_hw3 : k0_chk3 i v0 v2 v4 v18 v81), ∀ (k0_h1 : k0_cond1 i v0 = 1#1), ∀ (k0_h3 : k0_cond3 i v2 v18 = 1#1), ∀ a, (k0_off19 v81) a + S1x1x1024x1024.size a ≤ S2x3x1024x1024.size a := fun i v0 v2 v4 v18 v81 k0_hw3 k0_h1 k0_h3 => k0_hw3.2.2.2.2.2.2.2.2.2.2.2 k0_h1 k0_h3

def k0_cond5 (i : grid0.Coords) (v0 : BitVec 32) : BitVec 1 :=
  let arg0 : BitVec 32 := BitVec.ofNat 32 (i 0).val
  let v8 : BitVec 1 := Scalar.cmpi .sge arg0 v0
  let v9 : BitVec 32 := Scalar.extui v8
  let c0_i32_0 : BitVec 32 := 0#32
  let v10 : BitVec 1 := Scalar.cmpi .ne v9 c0_i32_0
  v10

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S160 : Shape := ⟨1, ![160]⟩
abbrev S1 : Shape := ⟨1, ![1]⟩
abbrev S655360x128 : Shape := ⟨2, ![655360, 128]⟩
abbrev S32x1024x1024 : Shape := ⟨3, ![32, 1024, 1024]⟩
abbrev S32x1024 : Shape := ⟨2, ![32, 1024]⟩
abbrev S160x512x1024 : Shape := ⟨3, ![160, 512, 1024]⟩
abbrev S_ : Shape := ⟨0, ![]⟩
abbrev S160x1 : Shape := ⟨2, ![160, 1]⟩
abbrev S160x1024x1024 : Shape := ⟨3, ![160, 1024, 1024]⟩
abbrev S160x1024 : Shape := ⟨2, ![160, 1024]⟩
abbrev S160x1x1024 : Shape := ⟨3, ![160, 1, 1024]⟩
abbrev S160x1x1 : Shape := ⟨3, ![160, 1, 1]⟩

abbrev nBuf : Space → Nat
  | .hbm => 114
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S655360x128, .f32⟩
  | .hbm, ⟨3, _⟩ => ⟨S32x1024x1024, .f32⟩
  | .hbm, ⟨4, _⟩ => ⟨S32x1024, .f32⟩
  | .hbm, ⟨5, _⟩ => ⟨S32x1024x1024, .f32⟩
  | .hbm, ⟨6, _⟩ => ⟨S32x1024, .f32⟩
  | .hbm, ⟨7, _⟩ => ⟨S32x1024x1024, .f32⟩
  | .hbm, ⟨8, _⟩ => ⟨S32x1024, .f32⟩
  | .hbm, ⟨9, _⟩ => ⟨S160x512x1024, .f32⟩
  | .hbm, ⟨10, _⟩ => ⟨S_, .i32⟩
  | .hbm, ⟨11, _⟩ => ⟨S160, .i32⟩
  | .hbm, ⟨12, _⟩ => ⟨S160, .i1⟩
  | .hbm, ⟨13, _⟩ => ⟨S_, .i32⟩
  | .hbm, ⟨14, _⟩ => ⟨S160, .i32⟩
  | .hbm, ⟨15, _⟩ => ⟨S160, .i32⟩
  | .hbm, ⟨16, _⟩ => ⟨S160, .i32⟩
  | .hbm, ⟨17, _⟩ => ⟨S160x1, .i32⟩
  | .hbm, ⟨18, _⟩ => ⟨S160x1024x1024, .f32⟩
  | .hbm, ⟨19, _⟩ => ⟨S160x512x1024, .f32⟩
  | .hbm, ⟨20, _⟩ => ⟨S_, .i32⟩
  | .hbm, ⟨21, _⟩ => ⟨S160, .i32⟩
  | .hbm, ⟨22, _⟩ => ⟨S160, .i1⟩
  | .hbm, ⟨23, _⟩ => ⟨S_, .i32⟩
  | .hbm, ⟨24, _⟩ => ⟨S160, .i32⟩
  | .hbm, ⟨25, _⟩ => ⟨S160, .i32⟩
  | .hbm, ⟨26, _⟩ => ⟨S160, .i32⟩
  | .hbm, ⟨27, _⟩ => ⟨S160x1, .i32⟩
  | .hbm, ⟨28, _⟩ => ⟨S160x1024, .f32⟩
  | .hbm, ⟨29, _⟩ => ⟨S160x1x1024, .f32⟩
  | .hbm, ⟨30, _⟩ => ⟨S160x512x1024, .f32⟩
  | .hbm, ⟨31, _⟩ => ⟨S160x512x1024, .f32⟩
  | .hbm, ⟨32, _⟩ => ⟨S_, .i32⟩
  | .hbm, ⟨33, _⟩ => ⟨S160, .i32⟩
  | .hbm, ⟨34, _⟩ => ⟨S160, .i1⟩
  | .hbm, ⟨35, _⟩ => ⟨S_, .i32⟩
  | .hbm, ⟨36, _⟩ => ⟨S160, .i32⟩
  | .hbm, ⟨37, _⟩ => ⟨S160, .i32⟩
  | .hbm, ⟨38, _⟩ => ⟨S160, .i32⟩
  | .hbm, ⟨39, _⟩ => ⟨S160x1, .i32⟩
  | .hbm, ⟨40, _⟩ => ⟨S160x1024x1024, .f32⟩
  | .hbm, ⟨41, _⟩ => ⟨S160x512x1024, .f32⟩
  | .hbm, ⟨42, _⟩ => ⟨S_, .i32⟩
  | .hbm, ⟨43, _⟩ => ⟨S160, .i32⟩
  | .hbm, ⟨44, _⟩ => ⟨S160, .i1⟩
  | .hbm, ⟨45, _⟩ => ⟨S_, .i32⟩
  | .hbm, ⟨46, _⟩ => ⟨S160, .i32⟩
  | .hbm, ⟨47, _⟩ => ⟨S160, .i32⟩
  | .hbm, ⟨48, _⟩ => ⟨S160, .i32⟩
  | .hbm, ⟨49, _⟩ => ⟨S160x1, .i32⟩
  | .hbm, ⟨50, _⟩ => ⟨S160x1024, .f32⟩
  | .hbm, ⟨51, _⟩ => ⟨S160x1x1024, .f32⟩
  | .hbm, ⟨52, _⟩ => ⟨S160x512x1024, .f32⟩
  | .hbm, ⟨53, _⟩ => ⟨S160x512x1024, .f32⟩
  | .hbm, ⟨54, _⟩ => ⟨S_, .f32⟩
  | .hbm, ⟨55, _⟩ => ⟨S160x512x1024, .f32⟩
  | .hbm, ⟨56, _⟩ => ⟨S160x512x1024, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S160x512x1024, .f32⟩
  | .hbm, ⟨61, _⟩ => ⟨S160x512x1024, .f32⟩
  | .hbm, ⟨62, _⟩ => ⟨S_, .f32⟩
  | .hbm, ⟨63, _⟩ => ⟨S160x512x1024, .f32⟩
  | .hbm, ⟨64, _⟩ => ⟨S160x512x1024, .f32⟩
  | .hbm, ⟨65, _⟩ => ⟨S_, .f32⟩
  | .hbm, ⟨66, _⟩ => ⟨S160x512x1024, .f32⟩
  | .hbm, ⟨67, _⟩ => ⟨S160x512x1024, .f32⟩
  | .hbm, ⟨68, _⟩ => ⟨S_, .f32⟩
  | .hbm, ⟨69, _⟩ => ⟨S160x512x1024, .f32⟩
  | .hbm, ⟨70, _⟩ => ⟨S160x512x1024, .f32⟩
  | .hbm, ⟨71, _⟩ => ⟨S160x512x1024, .f32⟩
  | .hbm, ⟨72, _⟩ => ⟨S160x512x1024, .f32⟩
  | .hbm, ⟨73, _⟩ => ⟨S_, .f32⟩
  | .hbm, ⟨74, _⟩ => ⟨S160x512x1024, .f32⟩
  | .hbm, ⟨75, _⟩ => ⟨S160x512x1024, .f32⟩
  | .hbm, ⟨76, _⟩ => ⟨S_, .f32⟩
  | .hbm, ⟨77, _⟩ => ⟨S160x512x1024, .f32⟩
  | .hbm, ⟨78, _⟩ => ⟨S160x512x1024, .f32⟩
  | .hbm, ⟨79, _⟩ => ⟨S160x512x1024, .f32⟩
  | .hbm, ⟨80, _⟩ => ⟨S160x512x1024, .f32⟩
  | .hbm, ⟨81, _⟩ => ⟨S_, .i32⟩
  | .hbm, ⟨82, _⟩ => ⟨S160, .i32⟩
  | .hbm, ⟨83, _⟩ => ⟨S160, .i1⟩
  | .hbm, ⟨84, _⟩ => ⟨S_, .i32⟩
  | .hbm, ⟨85, _⟩ => ⟨S160, .i32⟩
  | .hbm, ⟨86, _⟩ => ⟨S160, .i32⟩
  | .hbm, ⟨87, _⟩ => ⟨S160, .i32⟩
  | .hbm, ⟨88, _⟩ => ⟨S160x1, .i32⟩
  | .hbm, ⟨89, _⟩ => ⟨S160x1024x1024, .f32⟩
  | .hbm, ⟨90, _⟩ => ⟨S160x512x1024, .f32⟩
  | .hbm, ⟨91, _⟩ => ⟨S_, .i32⟩
  | .hbm, ⟨92, _⟩ => ⟨S160, .i32⟩
  | .hbm, ⟨93, _⟩ => ⟨S160, .i1⟩
  | .hbm, ⟨94, _⟩ => ⟨S_, .i32⟩
  | .hbm, ⟨95, _⟩ => ⟨S160, .i32⟩
  | .hbm, ⟨96, _⟩ => ⟨S160, .i32⟩
  | .hbm, ⟨97, _⟩ => ⟨S160, .i32⟩
  | .hbm, ⟨98, _⟩ => ⟨S160x1, .i32⟩
  | .hbm, ⟨99, _⟩ => ⟨S160x1024, .f32⟩
  | .hbm, ⟨100, _⟩ => ⟨S160x1x1024, .f32⟩
  | .hbm, ⟨101, _⟩ => ⟨S160x512x1024, .f32⟩
  | .hbm, ⟨102, _⟩ => ⟨S160x512x1024, .f32⟩
  | .hbm, ⟨103, _⟩ => ⟨S160, .i32⟩
  | .hbm, ⟨104, _⟩ => ⟨S160x1x1, .i32⟩
  | .hbm, ⟨105, _⟩ => ⟨S_, .i32⟩
  | .hbm, ⟨106, _⟩ => ⟨S160x1x1, .i32⟩
  | .hbm, ⟨107, _⟩ => ⟨S160x1x1, .i1⟩
  | .hbm, ⟨108, _⟩ => ⟨S_, .f32⟩
  | .hbm, ⟨109, _⟩ => ⟨S_, .f32⟩
  | .hbm, ⟨110, _⟩ => ⟨S160x512x1024, .i1⟩
  | .hbm, ⟨111, _⟩ => ⟨S160x512x1024, .f32⟩
  | .hbm, ⟨112, _⟩ => ⟨S160x512x1024, .f32⟩
  | .hbm, ⟨113, _⟩ => ⟨S655360x128, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_cst_8 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_13 : Ref sig .tc := ⟨.hbm, 81, rfl⟩
abbrev main_v52 : Ref sig .tc := ⟨.hbm, 82, rfl⟩
abbrev main_v53 : Ref sig .tc := ⟨.hbm, 83, rfl⟩
abbrev main_c_14 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_15 : Ref sig .tc := ⟨.hbm, 91, rfl⟩
abbrev main_v60 : Ref sig .tc := ⟨.hbm, 92, rfl⟩
abbrev main_v61 : Ref sig .tc := ⟨.hbm, 93, rfl⟩
abbrev main_c_16 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_17 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]
-- ==== Proof.InPay.lean ====
/-
  The in-projection kernel's payloads read at an index.

  `hid x1 x0` is the modulated row block, `proj x1 x0 w` its product with a weight matrix, `slab W r0` columns
  `r0 .. r0 + n - 1` of the packed weight (stored transposed), and `wqk`, `wkr` the two weights that are not plain
  slabs: the query columns of the first carry the softmax scale, and the second sits in lanes 64..95 among zeros.
-/
module

public import proofs.«01_k».proof.Proof.Gen.InProjIdeal.Skeleton
public import Idealize.ShloMosaic.Lib.Pointwise
public import Idealize.ShloMosaic.Lib.Pipeline.Value
public import Idealize.ShloMosaic.Lib.Pipeline.ValueKit.Tiles
public import Idealize.ShloMosaic.Lib.Pipeline.ReadBack
public import Idealize.ShloMosaic.PureOps.Ideal.Laws

@[expose] public section

set_option maxRecDepth 16384

noncomputable section

namespace Cert.InProjIdeal.In

open Cert.InProjIdeal Cert.InProjIdeal.Gen Idealize.ShloMosaic Idealize.ShloMosaic.TcCoe Idealize.SL.Sem

/-- The softmax scale folded into the query columns. -/
def qscale : EReal := Ideal.ofBits .f32 0x3E38AA3B#32

/-- One element of the modulated rows: `x * (1 + scale) + shift`. -/
def hid (x1 : Vec Ideal S1x6x1024 .f32) (x0 : Vec Ideal S1x512x1024 .f32) (r : Fin 512) (d : Fin 1024) : EReal :=
  x0 (ix3 0 r d) * (1 + x1 (ix3 0 1 d)) + x1 (ix3 0 0 d)

/-- The modulated rows times a weight matrix. -/
def proj {n : ℕ} (x1 : Vec Ideal S1x6x1024 .f32) (x0 : Vec Ideal S1x512x1024 .f32) (w : (⟨2, ![1024, n]⟩ : Shape).Idx → EReal) :
    (⟨3, ![1, 512, n]⟩ : Shape).Idx → EReal :=
  fun y => ∑ d : Fin 1024, hid x1 x0 (y 1) d * w (ix2 d (y 2))

/-- Columns `r0 ..` of the packed weight, which is stored transposed. -/
def slab {n : ℕ} (W : Vec Ideal S4256x1024 .f32) (r0 : ℕ) (h : r0 + n ≤ 4256) : (⟨2, ![1024, n]⟩ : Shape).Idx → EReal :=
  fun y => W (ix2 ⟨r0 + (y 1).val, Nat.lt_of_lt_of_le (Nat.add_lt_add_left (y 1).isLt r0) h⟩ (y 0))

/-- The query and key columns, the queries scaled. -/
def wqk (W : Vec Ideal S4256x1024 .f32) : S1024x1024.Idx → EReal :=
  fun y => if (y 1).val < 512 then slab (n := 1024) W 0 (by decide) y * qscale else slab (n := 1024) W 0 (by decide) y

/-- The rotary key columns: 32 columns in lanes 64..95, zero elsewhere. -/
def wkr (W : Vec Ideal S4256x1024 .f32) : S1024x128.Idx → EReal :=
  fun y => if h : 64 ≤ (y 1).val ∧ (y 1).val < 96 then
    W (ix2 ⟨2176 + ((y 1).val - 64), by have := h.2; omega⟩ (y 0)) else 0

/-- The value columns with a block of ones beside every 128 lanes. -/
def vones (x1 : Vec Ideal S1x6x1024 .f32) (x0 : Vec Ideal S1x512x1024 .f32) (w : S1024x512.Idx → EReal) : S1x512x1024.Idx → EReal :=
  fun y => if (y 2).val % 256 < 128 then
    ∑ d : Fin 1024, hid x1 x0 (y 1) d * w (ix2 d ⟨(y 2).val / 256 * 128 + (y 2).val % 128, by have h : (y 2).val < 1024 := (y 2).isLt; omega⟩)
    else 1

/-- Every plain weight payload is the transpose. -/
theorem pay4 (v : Vec Ideal S256x1024 .f32) (d : Fin 1024) (l : Fin 256) : k0_pay4 (F := Ideal) v (ix2 d l) = v (ix2 l d) := by
  pointwise [k0_pay4]
/-- The payload stored in two steps is the transpose as well. -/
theorem pay65 (v : Vec Ideal S256x1024 .f32) : k0_pay6 (F := Ideal) (k0_pay5 v) = k0_pay4 v := rfl
/-- The narrow weight payload is the transpose. -/
theorem pay10 (v : Vec Ideal S128x1024 .f32) (d : Fin 1024) (l : Fin 128) : k0_pay10 (F := Ideal) v (ix2 d l) = v (ix2 l d) := by
  pointwise [k0_pay10]
/-- A query payload is the scaled transpose. -/
theorem pay2 (v : Vec Ideal S256x1024 .f32) (d : Fin 1024) (l : Fin 256) : k0_pay2 (F := Ideal) v (ix2 d l) = v (ix2 l d) * qscale := by
  pointwise [k0_pay2]
  rfl

/-- The rotary payload: the first 32 rows, transposed and moved to lanes 64..95; zeros elsewhere. -/
theorem pay12 (v : Vec Ideal S128x1024 .f32) (d : Fin 1024) (l : Fin 128) :
    k0_pay12 (F := Ideal) v (ix2 d l) = if h : 64 ≤ l.val ∧ l.val < 96 then v (ix2 ⟨l.val - 64, by omega⟩ d) else 0 := by
  pointwise [k0_pay12]
  have hl := l.isLt
  split
  · rename_i h
    have e : (l.val + 128 - 64) % 128 = l.val - 64 := by omega
    have c : IntOp.cmpi CmpIPredicate.slt (BitVec.ofNat 32 ((l.val + 128 - 64) % 128)) 32#32 = 1#1 := by
      rw [e]
      generalize hk : l.val - 64 = k
      have hk32 : k < 32 := by omega
      exact (by decide +kernel : ∀ k : Fin 32, IntOp.cmpi CmpIPredicate.slt (BitVec.ofNat 32 k.val) 32#32 = 1#1) ⟨k, hk32⟩
    rw [c]
    exact congrArg v (congrArg (fun i : Fin 128 => ix2 i d) (Fin.ext e))
  · rename_i h
    have c : IntOp.cmpi CmpIPredicate.slt (BitVec.ofNat 32 ((l.val + 128 - 64) % 128)) 32#32 = 0#1 :=
      (by decide +kernel : ∀ l : Fin 128, ¬ (64 ≤ l.val ∧ l.val < 96) →
        IntOp.cmpi CmpIPredicate.slt (BitVec.ofNat 32 ((l.val + 128 - 64) % 128)) 32#32 = 0#1) l h
    rw [c]
    rfl

/-- The modulated rows at an index. -/
theorem pay21 (x1 : Vec Ideal S1x6x1024 .f32) (x0 : Vec Ideal S1x512x1024 .f32) (r : Fin 512) (d : Fin 1024) :
    k0_pay21 (F := Ideal) x1 x0 (ix2 r d) = hid x1 x0 r d := by
  pointwise [k0_pay21]
  rfl

/-- An index of a block of rows, by its row and lane. -/
theorem eq_row {n : ℕ} (y : (⟨3, ![1, 512, n]⟩ : Shape).Idx) : y = ix3 (0 : Fin 1) (y 1) (y 2) :=
  funext fun a => match a with
    | ⟨0, _⟩ => Fin.ext (Nat.lt_one_iff.mp (y 0).isLt)
    | ⟨1, _⟩ => rfl
    | ⟨2, _⟩ => rfl

theorem pay22 (x1 : Vec Ideal S1x6x1024 .f32) (x0 : Vec Ideal S1x512x1024 .f32) (w : Vec Ideal S1024x1024 .bf16) :
    k0_pay22 (F := Ideal) x1 x0 w = proj (n := 1024) x1 x0 w := by
  funext y
  obtain ⟨r, l, rfl⟩ : ∃ (r : Fin 512) (l : Fin 1024), y = ix3 (0 : Fin 1) r l := ⟨y 1, y 2, eq_row y⟩
  pointwise [k0_pay22]
  exact Finset.sum_congr rfl fun d _ => congrArg (· * _) (pay21 x1 x0 r d)

theorem pay23 (x1 : Vec Ideal S1x6x1024 .f32) (x0 : Vec Ideal S1x512x1024 .f32) (w : Vec Ideal S1024x384 .bf16) :
    k0_pay23 (F := Ideal) x1 x0 w = proj (n := 384) x1 x0 w := by
  funext y
  obtain ⟨r, l, rfl⟩ : ∃ (r : Fin 512) (l : Fin 384), y = ix3 (0 : Fin 1) r l := ⟨y 1, y 2, eq_row y⟩
  pointwise [k0_pay23]
  exact Finset.sum_congr rfl fun d _ => congrArg (· * _) (pay21 x1 x0 r d)

theorem pay24 (x1 : Vec Ideal S1x6x1024 .f32) (x0 : Vec Ideal S1x512x1024 .f32) (w : Vec Ideal S1024x256 .bf16) :
    k0_pay24 (F := Ideal) (k0_pay21 x1 x0) w = proj (n := 256) x1 x0 w := by
  funext y
  obtain ⟨r, l, rfl⟩ : ∃ (r : Fin 512) (l : Fin 256), y = ix3 (0 : Fin 1) r l := ⟨y 1, y 2, eq_row y⟩
  pointwise [k0_pay24]
  exact Finset.sum_congr rfl fun d _ => congrArg (· * _) (pay21 x1 x0 r d)

theorem pay25 (x1 : Vec Ideal S1x6x1024 .f32) (x0 : Vec Ideal S1x512x1024 .f32) (w : Vec Ideal S1024x128 .bf16) :
    k0_pay25 (F := Ideal) (k0_pay21 x1 x0) w = proj (n := 128) x1 x0 w := by
  funext y
  obtain ⟨r, l, rfl⟩ : ∃ (r : Fin 512) (l : Fin 128), y = ix3 (0 : Fin 1) r l := ⟨y 1, y 2, eq_row y⟩
  pointwise [k0_pay25]
  exact Finset.sum_congr rfl fun d _ => congrArg (· * _) (pay21 x1 x0 r d)

theorem pay26 (x1 : Vec Ideal S1x6x1024 .f32) (x0 : Vec Ideal S1x512x1024 .f32) (w : Vec Ideal S1024x1024 .bf16) :
    k0_pay26 (F := Ideal) (k0_pay21 x1 x0) w = proj (n := 1024) x1 x0 w := by
  funext y
  obtain ⟨r, l, rfl⟩ : ∃ (r : Fin 512) (l : Fin 1024), y = ix3 (0 : Fin 1) r l := ⟨y 1, y 2, eq_row y⟩
  pointwise [k0_pay26]
  exact Finset.sum_congr rfl fun d _ => congrArg (· * _) (pay21 x1 x0 r d)

theorem pay27 (x1 : Vec Ideal S1x6x1024 .f32) (x0 : Vec Ideal S1x512x1024 .f32) (w : Vec Ideal S1024x1024 .bf16) :
    k0_pay27 (F := Ideal) (k0_pay21 x1 x0) w = proj (n := 1024) x1 x0 w := pay26 x1 x0 w

/-- A product of the modulated rows with the value weight, at an index. -/
theorem pay28 (x1 : Vec Ideal S1x6x1024 .f32) (x0 : Vec Ideal S1x512x1024 .f32) (w : Vec Ideal S1024x512 .bf16) (r : Fin 512) (l : Fin 512) :
    k0_pay28 (F := Ideal) (k0_pay21 x1 x0) w (ix2 r l) = ∑ d : Fin 1024, hid x1 x0 r d * w (ix2 d l) := by
  pointwise [k0_pay28]
  exact Finset.sum_congr rfl fun d _ => congrArg (· * _) (pay21 x1 x0 r d)

/-- The value result: four blocks of 128 value lanes, each beside a block of ones. -/
theorem payva (x1 : Vec Ideal S1x6x1024 .f32) (x0 : Vec Ideal S1x512x1024 .f32) (w : Vec Ideal S1024x512 .bf16) :
    k0_pay1 (F := Ideal) k0_pay29 (k0_pay30 (k0_pay21 x1 x0) w) (k0_pay31 (k0_pay21 x1 x0) w) (k0_pay32 (k0_pay21 x1 x0) w)
      (k0_pay33 (k0_pay21 x1 x0) w) = vones x1 x0 w := by
  funext y
  obtain ⟨r, l, rfl⟩ : ∃ (r : Fin 512) (l : Fin 1024), y = ix3 (0 : Fin 1) r l := ⟨y 1, y 2, eq_row y⟩
  have hl := l.isLt
  have one : ∀ k : Fin 128, k0_pay29 (F := Ideal) (ix2 r k) = 1 := fun k => by pointwise [k0_pay29]
  have c0 : ∀ (k : Fin 128) (q : Fin 512), q.val = 0 + k.val → k0_pay30 (F := Ideal) (k0_pay21 x1 x0) w (ix2 r k) = ∑ d : Fin 1024, hid x1 x0 r d * w (ix2 d q) := fun k q hq => by
    rw [← pay28 x1 x0 w r q]; pointwise [k0_pay30]; congr 2; exact Fin.ext (by simp [hq])
  have c1 : ∀ (k : Fin 128) (q : Fin 512), q.val = 128 + k.val → k0_pay31 (F := Ideal) (k0_pay21 x1 x0) w (ix2 r k) = ∑ d : Fin 1024, hid x1 x0 r d * w (ix2 d q) := fun k q hq => by
    rw [← pay28 x1 x0 w r q]; pointwise [k0_pay31]; congr 2; exact Fin.ext (by simp [hq])
  have c2 : ∀ (k : Fin 128) (q : Fin 512), q.val = 256 + k.val → k0_pay32 (F := Ideal) (k0_pay21 x1 x0) w (ix2 r k) = ∑ d : Fin 1024, hid x1 x0 r d * w (ix2 d q) := fun k q hq => by
    rw [← pay28 x1 x0 w r q]; pointwise [k0_pay32]; congr 2; exact Fin.ext (by simp [hq])
  have c3 : ∀ (k : Fin 128) (q : Fin 512), q.val = 384 + k.val → k0_pay33 (F := Ideal) (k0_pay21 x1 x0) w (ix2 r k) = ∑ d : Fin 1024, hid x1 x0 r d * w (ix2 d q) := fun k q hq => by
    rw [← pay28 x1 x0 w r q]; pointwise [k0_pay33]; congr 2; exact Fin.ext (by simp [hq])
  have hy : vones x1 x0 w (ix3 0 r l) = if l.val % 256 < 128 then
      ∑ d : Fin 1024, hid x1 x0 r d * w (ix2 d ⟨l.val / 256 * 128 + l.val % 128, by omega⟩) else 1 := rfl
  rw [hy]
  pointwise [k0_pay1]
  by_cases h0 : l.val < 128
  · exact (dif_pos h0).trans ((c0 _ _ (by simp only; omega)).trans (if_pos (by omega)).symm)
  refine (dif_neg h0).trans ?_
  by_cases h1 : l.val - 128 < 128
  · exact (dif_pos h1).trans ((one _).trans (if_neg (by omega)).symm)
  refine (dif_neg h1).trans ?_
  by_cases h2 : l.val - 128 - 128 < 128
  · exact (dif_pos h2).trans ((c1 _ _ (by simp only; omega)).trans (if_pos (by omega)).symm)
  refine (dif_neg h2).trans ?_
  by_cases h3 : l.val - 128 - 128 - 128 < 128
  · exact (dif_pos h3).trans ((one _).trans (if_neg (by omega)).symm)
  refine (dif_neg h3).trans ?_
  by_cases h4 : l.val - 128 - 128 - 128 - 128 < 128
  · exact (dif_pos h4).trans ((c2 _ _ (by simp only; omega)).trans (if_pos (by omega)).symm)
  refine (dif_neg h4).trans ?_
  by_cases h5 : l.val - 128 - 128 - 128 - 128 - 128 < 128
  · exact (dif_pos h5).trans ((one _).trans (if_neg (by omega)).symm)
  refine (dif_neg h5).trans ?_
  by_cases h6 : l.val - 128 - 128 - 128 - 128 - 128 - 128 < 128
  · exact (dif_pos h6).trans ((c3 _ _ (by simp only; omega)).trans (if_pos (by omega)).symm)
  refine (dif_neg h6).trans ?_
  exact (one _).trans (if_neg (by omega)).symm

/-- A transposed block of rows of the packed weight, stored as columns `c0 ..`, is a block of columns of `G`. -/
theorem piece {k N : ℕ} (P : ((⟨2, ![k, 1024]⟩ : Shape).Idx → EReal) → ((⟨2, ![1024, k]⟩ : Shape).Idx → EReal)) (φ : EReal → EReal)
    (hP : ∀ v d l, P v (ix2 d l) = φ (v (ix2 l d))) (W : Vec Ideal S4256x1024 .f32) (r0 c0 : ℕ)
    (inb : ∀ a, ![r0, 0] a + ![k, 1024] a ≤ S4256x1024.size a) (inb' : ∀ a, ![0, c0] a + ![1024, k] a ≤ (⟨2, ![1024, N]⟩ : Shape).size a)
    (G : (⟨2, ![1024, N]⟩ : Shape).Idx → EReal)
    (hG : ∀ (d : Fin 1024) (l : Fin k) (h : c0 + l.val < N) (h' : r0 + l.val < 4256), G (ix2 d ⟨c0 + l.val, h⟩) = φ (W (ix2 ⟨r0 + l.val, h'⟩ d)))
    (x : (⟨2, ![1024, k]⟩ : Shape).Idx) :
    P (View.ld (Val := Elt Ideal) (e' := .f32) W (Rect.unit (s := S4256x1024) ![r0, 0] ![k, 1024] inb)) x
      = G ((Rect.unit (s := ⟨2, ![1024, N]⟩) ![0, c0] ![1024, k] inb').emb x) := by
  obtain ⟨d, l, rfl⟩ : ∃ (d : Fin 1024) (l : Fin k), x = ix2 d l := ⟨x 0, x 1, by funext a; match a with | ⟨0, _⟩ => rfl | ⟨1, _⟩ => rfl⟩
  have hc : c0 + l.val < N := Nat.lt_of_lt_of_le (Nat.add_lt_add_left l.isLt c0) (inb' 1)
  have hr : r0 + l.val < 4256 := Nat.lt_of_lt_of_le (Nat.add_lt_add_left l.isLt r0) (inb 0)
  rw [hP]
  have e : (Rect.unit (s := (⟨2, ![1024, N]⟩ : Shape)) ![0, c0] ![1024, k] inb').emb (ix2 d l) = ix2 d ⟨c0 + l.val, hc⟩ :=
    funext fun a => Fin.ext (by
      refine (Rect.idx_unit_val _ _ inb' _ a).trans ?_
      match a with
      | ⟨0, _⟩ => exact Nat.zero_add _
      | ⟨1, _⟩ => rfl)
  rw [e, hG d l hc hr]
  refine congrArg φ (congrArg W (funext fun a => Fin.ext ?_))
  refine (Rect.idx_unit_val _ _ inb _ a).trans ?_
  match a with
  | ⟨0, _⟩ => rfl
  | ⟨1, _⟩ => exact Nat.zero_add _

end Cert.InProjIdeal.In
-- ==== Proof.InScratch.lean ====
/-
  What the in-projection kernel's scratch buffers and output blocks hold at every grid point.

  The first point fetches the packed weight once and lays it out in seven scratch buffers; every later point finds them
  as the first left them. So at every point each output block is the point's modulated rows times the same weight.
-/
module

public import proofs.«01_k».proof.Proof.Gen.InProjIdeal.Value
public import proofs.«01_k».proof.Proof.InPay
public import Idealize.ShloMosaic.Lib.Pipeline.ValueKit
public import Idealize.ShloMosaic.Lib.Pipeline.ReadBack
public import Idealize.ShloMosaic.Lib.ValueLayout

@[expose] public section

set_option maxRecDepth 16384

noncomputable section

namespace Cert.InProjIdeal.In

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

/-- The packed weight as the kernel fetches it: rows of the transposed matrix. -/
def wf (c : Dev nD) : Vec Ideal S4256x1024 .f32 := fun y => V m c main_v0 (ix3 (0 : Fin 1) (y 0) (y 1))

/-- The weight seen through the transfer's view is the weight with its unit axis dropped. -/
theorem fetched (c : Dev nD) (inb : ∀ a, ![0, 0, 0] a + ![1, 4256, 1024] a ≤ S1x4256x1024.size a) (h) :
    ReadAs.same.apply (View.read (Elt Ideal) (((View.whole main_v0).slice (Rect.unit (s := S1x4256x1024) ![0, 0, 0] ![1, 4256, 1024] inb)).reshape S4256x1024 h) (V m c main_v0)) = wf m c := by
  funext y
  obtain ⟨a, b, rfl⟩ : ∃ (a : Fin 4256) (b : Fin 1024), y = ValueIdx.ix2 a b := ⟨y 0, y 1, by funext a; match a with | ⟨0, _⟩ => rfl | ⟨1, _⟩ => rfl⟩
  show V m c main_v0 _ = V m c main_v0 _
  refine congrArg (V m c main_v0) ?_
  refine (congrArg (Rect.unit (s := S1x4256x1024) ![0, 0, 0] ![1, 4256, 1024] inb).idx (ValueIdx.reshapeEquiv_ix2_1ab h a b)).trans ?_
  funext x
  refine Fin.ext ((Rect.idx_unit_val _ _ inb _ x).trans ?_)
  match x with
  | ⟨0, _⟩ => rfl
  | ⟨1, _⟩ => exact Nat.zero_add _
  | ⟨2, _⟩ => exact Nat.zero_add _

/-- Any load after the fetch reads the fetched weight. -/
theorem load (c : Dev nD) (inb : ∀ a, ![0, 0, 0] a + ![1, 4256, 1024] a ≤ S1x4256x1024.size a) (h) (r : Rect S4256x1024) :
    (View.whole cc0_scratch0).readCov (Val := Elt Ideal) [⟨Rect.whole S4256x1024, ReadAs.same.apply (View.read (Elt Ideal) (((View.whole main_v0).slice (Rect.unit (s := S1x4256x1024) ![0, 0, 0] ![1, 4256, 1024] inb)).reshape S4256x1024 h) (V m c main_v0))⟩] r.toLoadRect
      = View.ld (Val := Elt Ideal) (e' := .f32) (wf m c) r := by
  rw [fetched]
  exact View.readCov_fill (View.whole cc0_scratch0) (off := fun _ => 0) (fun a => (Nat.zero_add _).le) (wf m c) [] r (fun _ => rfl)

/-- A column of a slab, by its place in the packed weight. -/
theorem slab_at {n : ℕ} (W : Vec Ideal S4256x1024 .f32) (r0 : ℕ) (h : r0 + n ≤ 4256) (c0 r1 : ℕ) (d : Fin 1024) (l : ℕ) (hc : c0 + l < n)
    (h' : r1 + l < 4256) (e : r0 + c0 = r1) : slab (n := n) W r0 h (ix2 d ⟨c0 + l, hc⟩) = W (ix2 ⟨r1 + l, h'⟩ d) := by
  subst e
  exact congrArg (fun r => W (ix2 r d)) (Fin.ext (Nat.add_assoc r0 c0 l).symm)

/-- Stores that are blocks of one function and cover the buffer leave that function. -/
theorem canon_of_pieces {S : Shape} (G : S.Idx → EReal) (L : List (View.Piece (Elt Ideal) S .bf16)) (h : View.PiecesOf (Val := Elt Ideal) (e := .bf16) G L)
    (hc : ∀ y, ∃ p ∈ L, y ∈ p.1.set) : View.canon L = G :=
  funext fun y => by
    have e := View.canon_append_of_piecesOf (Val := Elt Ideal) (e := .bf16) G [] L h y (hc y)
    rwa [List.append_nil] at e

/-- The value columns. -/
abbrev wv (W : Vec Ideal S4256x1024 .f32) : S1024x512.Idx → EReal := slab (n := 512) W 1024 (by decide)

/-- The query compression columns. -/
abbrev wcq (W : Vec Ideal S4256x1024 .f32) : S1024x384.Idx → EReal := slab (n := 384) W 1536 (by decide)

/-- The key compression columns. -/
abbrev wckv (W : Vec Ideal S4256x1024 .f32) : S1024x256.Idx → EReal := slab (n := 256) W 1920 (by decide)

/-- The first gate columns. -/
abbrev wga (W : Vec Ideal S4256x1024 .f32) : S1024x1024.Idx → EReal := slab (n := 1024) W 2208 (by decide)

/-- The second gate columns. -/
abbrev wgb (W : Vec Ideal S4256x1024 .f32) : S1024x1024.Idx → EReal := slab (n := 1024) W 3232 (by decide)

/-- The stores into the query and key scratch leave the query and key columns. -/
theorem wqk_stores (W : Vec Ideal S4256x1024 .f32) : View.canon (Val := Elt Ideal) (e := .bf16) [
    ⟨Rect.unit (s := S1024x1024) ![0, 768] ![1024, 256] inb_S1024x1024_S1024x256_0_768, k0_pay6 (k0_pay5 (View.ld (Val := Elt Ideal) (e' := .f32) W (Rect.unit (s := S4256x1024) ![768, 0] ![256, 1024] inb_S4256x1024_S256x1024_768_0)))⟩,
    ⟨Rect.unit (s := S1024x1024) ![0, 512] ![1024, 256] inb_S1024x1024_S1024x256_0_512, k0_pay4 (View.ld (Val := Elt Ideal) (e' := .f32) W (Rect.unit (s := S4256x1024) ![512, 0] ![256, 1024] inb_S4256x1024_S256x1024_512_0))⟩,
    ⟨Rect.unit (s := S1024x1024) ![0, 256] ![1024, 256] inb_S1024x1024_S1024x256_0_256, k0_pay3 (View.ld (Val := Elt Ideal) (e' := .f32) W (Rect.unit (s := S4256x1024) ![256, 0] ![256, 1024] inb_S4256x1024_S256x1024_256_0))⟩,
    ⟨Rect.unit (s := S1024x1024) ![0, 0] ![1024, 256] inb_S1024x1024_S1024x256_0_0, k0_pay2 (View.ld (Val := Elt Ideal) (e' := .f32) W (Rect.unit (s := S4256x1024) ![0, 0] ![256, 1024] inb_S4256x1024_S256x1024_0_0))⟩] = wqk W := by
  refine canon_of_pieces (wqk W) _ ?_ (View.cover_of_tiledL _ ![1024, 256] rfl)
  refine ⟨?_, ?_, ?_, ?_, trivial⟩
  · exact piece (k := 256) (N := 1024) (fun v => k0_pay6 (F := Ideal) (k0_pay5 v)) id (fun v d l => pay4 v d l) W 768 768 inb_S4256x1024_S256x1024_768_0 inb_S1024x1024_S1024x256_0_768 (wqk W) (fun d l h h' => (if_neg (show ¬ 768 + l.val < 512 by omega)).trans (slab_at W 0 _ 768 768 d l.val h h' rfl))
  · exact piece (k := 256) (N := 1024) (fun v => k0_pay4 (F := Ideal) v) id (fun v d l => pay4 v d l) W 512 512 inb_S4256x1024_S256x1024_512_0 inb_S1024x1024_S1024x256_0_512 (wqk W) (fun d l h h' => (if_neg (show ¬ 512 + l.val < 512 by omega)).trans (slab_at W 0 _ 512 512 d l.val h h' rfl))
  · exact piece (k := 256) (N := 1024) (fun v => k0_pay3 (F := Ideal) v) (· * qscale) (fun v d l => pay2 v d l) W 256 256 inb_S4256x1024_S256x1024_256_0 inb_S1024x1024_S1024x256_0_256 (wqk W) (fun d l h h' => (if_pos (show 256 + l.val < 512 by omega)).trans (congrArg (· * qscale) (slab_at W 0 _ 256 256 d l.val h h' rfl)))
  · exact piece (k := 256) (N := 1024) (fun v => k0_pay2 (F := Ideal) v) (· * qscale) (fun v d l => pay2 v d l) W 0 0 inb_S4256x1024_S256x1024_0_0 inb_S1024x1024_S1024x256_0_0 (wqk W) (fun d l h h' => (if_pos (show 0 + l.val < 512 by omega)).trans (congrArg (· * qscale) (slab_at W 0 _ 0 0 d l.val h h' rfl)))

/-- The stores into the value scratch leave the value columns. -/
theorem wv_stores (W : Vec Ideal S4256x1024 .f32) : View.canon (Val := Elt Ideal) (e := .bf16) [
    ⟨Rect.unit (s := S1024x512) ![0, 256] ![1024, 256] inb_S1024x512_S1024x256_0_256, k0_pay8 (View.ld (Val := Elt Ideal) (e' := .f32) W (Rect.unit (s := S4256x1024) ![1280, 0] ![256, 1024] inb_S4256x1024_S256x1024_1280_0))⟩,
    ⟨Rect.unit (s := S1024x512) ![0, 0] ![1024, 256] inb_S1024x512_S1024x256_0_0, k0_pay7 (View.ld (Val := Elt Ideal) (e' := .f32) W (Rect.unit (s := S4256x1024) ![1024, 0] ![256, 1024] inb_S4256x1024_S256x1024_1024_0))⟩] = wv W := by
  refine canon_of_pieces (wv W) _ ?_ (View.cover_of_tiledL _ ![1024, 256] rfl)
  refine ⟨?_, ?_, trivial⟩
  · exact piece (k := 256) (N := 512) (fun v => k0_pay8 (F := Ideal) v) id (fun v d l => pay4 v d l) W 1280 256 inb_S4256x1024_S256x1024_1280_0 inb_S1024x512_S1024x256_0_256 (wv W) (fun d l h h' => slab_at W 1024 _ 256 1280 d l.val h h' rfl)
  · exact piece (k := 256) (N := 512) (fun v => k0_pay7 (F := Ideal) v) id (fun v d l => pay4 v d l) W 1024 0 inb_S4256x1024_S256x1024_1024_0 inb_S1024x512_S1024x256_0_0 (wv W) (fun d l h h' => slab_at W 1024 _ 0 1024 d l.val h h' rfl)

/-- Two stores, of 256 and of 128 columns, cover 384. -/
theorem cover_two {A B} (y : S1024x384.Idx) :
    ∃ p ∈ ([⟨Rect.unit (s := S1024x384) ![0, 256] ![1024, 128] inb_S1024x384_S1024x128_0_256, A⟩,
      ⟨Rect.unit (s := S1024x384) ![0, 0] ![1024, 256] inb_S1024x384_S1024x256_0_0, B⟩] : List (View.Piece (Elt Ideal) S1024x384 .bf16)), y ∈ p.1.set := by
  have h0 : (y 0).val < 1024 := (y 0).isLt
  have h1 : (y 1).val < 384 := (y 1).isLt
  by_cases h : (y 1).val < 256
  · refine ⟨_, List.mem_cons_of_mem _ (List.mem_singleton.mpr rfl), (Rect.mem_set_unit (inb := inb_S1024x384_S1024x256_0_0) (i := y)).mpr fun a => ?_⟩
    match a with
    | ⟨0, _⟩ => exact ⟨Nat.zero_le _, by show (y 0).val < 0 + 1024; omega⟩
    | ⟨1, _⟩ => exact ⟨Nat.zero_le _, by show (y 1).val < 0 + 256; omega⟩
  · refine ⟨_, List.mem_cons_self, (Rect.mem_set_unit (inb := inb_S1024x384_S1024x128_0_256) (i := y)).mpr fun a => ?_⟩
    match a with
    | ⟨0, _⟩ => exact ⟨Nat.zero_le _, by show (y 0).val < 0 + 1024; omega⟩
    | ⟨1, _⟩ => exact ⟨by show 256 ≤ (y 1).val; omega, by show (y 1).val < 256 + 128; omega⟩

/-- The stores into the query compression scratch leave the query compression columns. -/
theorem wcq_stores (W : Vec Ideal S4256x1024 .f32) : View.canon (Val := Elt Ideal) (e := .bf16) [
    ⟨Rect.unit (s := S1024x384) ![0, 256] ![1024, 128] inb_S1024x384_S1024x128_0_256, k0_pay10 (View.ld (Val := Elt Ideal) (e' := .f32) W (Rect.unit (s := S4256x1024) ![1792, 0] ![128, 1024] inb_S4256x1024_S128x1024_1792_0))⟩,
    ⟨Rect.unit (s := S1024x384) ![0, 0] ![1024, 256] inb_S1024x384_S1024x256_0_0, k0_pay9 (View.ld (Val := Elt Ideal) (e' := .f32) W (Rect.unit (s := S4256x1024) ![1536, 0] ![256, 1024] inb_S4256x1024_S256x1024_1536_0))⟩] = wcq W := by
  refine canon_of_pieces (wcq W) _ ?_ cover_two
  refine ⟨?_, ?_, trivial⟩
  · exact piece (k := 128) (N := 384) (fun v => k0_pay10 (F := Ideal) v) id (fun v d l => pay10 v d l) W 1792 256 inb_S4256x1024_S128x1024_1792_0 inb_S1024x384_S1024x128_0_256 (wcq W) (fun d l h h' => slab_at W 1536 _ 256 1792 d l.val h h' rfl)
  · exact piece (k := 256) (N := 384) (fun v => k0_pay9 (F := Ideal) v) id (fun v d l => pay4 v d l) W 1536 0 inb_S4256x1024_S256x1024_1536_0 inb_S1024x384_S1024x256_0_0 (wcq W) (fun d l h h' => slab_at W 1536 _ 0 1536 d l.val h h' rfl)

/-- The stores into the first gate scratch leave the first gate columns. -/
theorem wga_stores (W : Vec Ideal S4256x1024 .f32) : View.canon (Val := Elt Ideal) (e := .bf16) [
    ⟨Rect.unit (s := S1024x1024) ![0, 768] ![1024, 256] inb_S1024x1024_S1024x256_0_768, k0_pay16 (View.ld (Val := Elt Ideal) (e' := .f32) W (Rect.unit (s := S4256x1024) ![2976, 0] ![256, 1024] inb_S4256x1024_S256x1024_2976_0))⟩,
    ⟨Rect.unit (s := S1024x1024) ![0, 512] ![1024, 256] inb_S1024x1024_S1024x256_0_512, k0_pay15 (View.ld (Val := Elt Ideal) (e' := .f32) W (Rect.unit (s := S4256x1024) ![2720, 0] ![256, 1024] inb_S4256x1024_S256x1024_2720_0))⟩,
    ⟨Rect.unit (s := S1024x1024) ![0, 256] ![1024, 256] inb_S1024x1024_S1024x256_0_256, k0_pay14 (View.ld (Val := Elt Ideal) (e' := .f32) W (Rect.unit (s := S4256x1024) ![2464, 0] ![256, 1024] inb_S4256x1024_S256x1024_2464_0))⟩,
    ⟨Rect.unit (s := S1024x1024) ![0, 0] ![1024, 256] inb_S1024x1024_S1024x256_0_0, k0_pay13 (View.ld (Val := Elt Ideal) (e' := .f32) W (Rect.unit (s := S4256x1024) ![2208, 0] ![256, 1024] inb_S4256x1024_S256x1024_2208_0))⟩] = wga W := by
  refine canon_of_pieces (wga W) _ ?_ (View.cover_of_tiledL _ ![1024, 256] rfl)
  refine ⟨?_, ?_, ?_, ?_, trivial⟩
  · exact piece (k := 256) (N := 1024) (fun v => k0_pay16 (F := Ideal) v) id (fun v d l => pay4 v d l) W 2976 768 inb_S4256x1024_S256x1024_2976_0 inb_S1024x1024_S1024x256_0_768 (wga W) (fun d l h h' => slab_at W 2208 _ 768 2976 d l.val h h' rfl)
  · exact piece (k := 256) (N := 1024) (fun v => k0_pay15 (F := Ideal) v) id (fun v d l => pay4 v d l) W 2720 512 inb_S4256x1024_S256x1024_2720_0 inb_S1024x1024_S1024x256_0_512 (wga W) (fun d l h h' => slab_at W 2208 _ 512 2720 d l.val h h' rfl)
  · exact piece (k := 256) (N := 1024) (fun v => k0_pay14 (F := Ideal) v) id (fun v d l => pay4 v d l) W 2464 256 inb_S4256x1024_S256x1024_2464_0 inb_S1024x1024_S1024x256_0_256 (wga W) (fun d l h h' => slab_at W 2208 _ 256 2464 d l.val h h' rfl)
  · exact piece (k := 256) (N := 1024) (fun v => k0_pay13 (F := Ideal) v) id (fun v d l => pay4 v d l) W 2208 0 inb_S4256x1024_S256x1024_2208_0 inb_S1024x1024_S1024x256_0_0 (wga W) (fun d l h h' => slab_at W 2208 _ 0 2208 d l.val h h' rfl)

/-- The stores into the second gate scratch leave the second gate columns. -/
theorem wgb_stores (W : Vec Ideal S4256x1024 .f32) : View.canon (Val := Elt Ideal) (e := .bf16) [
    ⟨Rect.unit (s := S1024x1024) ![0, 768] ![1024, 256] inb_S1024x1024_S1024x256_0_768, k0_pay20 (View.ld (Val := Elt Ideal) (e' := .f32) W (Rect.unit (s := S4256x1024) ![4000, 0] ![256, 1024] inb_S4256x1024_S256x1024_4000_0))⟩,
    ⟨Rect.unit (s := S1024x1024) ![0, 512] ![1024, 256] inb_S1024x1024_S1024x256_0_512, k0_pay19 (View.ld (Val := Elt Ideal) (e' := .f32) W (Rect.unit (s := S4256x1024) ![3744, 0] ![256, 1024] inb_S4256x1024_S256x1024_3744_0))⟩,
    ⟨Rect.unit (s := S1024x1024) ![0, 256] ![1024, 256] inb_S1024x1024_S1024x256_0_256, k0_pay18 (View.ld (Val := Elt Ideal) (e' := .f32) W (Rect.unit (s := S4256x1024) ![3488, 0] ![256, 1024] inb_S4256x1024_S256x1024_3488_0))⟩,
    ⟨Rect.unit (s := S1024x1024) ![0, 0] ![1024, 256] inb_S1024x1024_S1024x256_0_0, k0_pay17 (View.ld (Val := Elt Ideal) (e' := .f32) W (Rect.unit (s := S4256x1024) ![3232, 0] ![256, 1024] inb_S4256x1024_S256x1024_3232_0))⟩] = wgb W := by
  refine canon_of_pieces (wgb W) _ ?_ (View.cover_of_tiledL _ ![1024, 256] rfl)
  refine ⟨?_, ?_, ?_, ?_, trivial⟩
  · exact piece (k := 256) (N := 1024) (fun v => k0_pay20 (F := Ideal) v) id (fun v d l => pay4 v d l) W 4000 768 inb_S4256x1024_S256x1024_4000_0 inb_S1024x1024_S1024x256_0_768 (wgb W) (fun d l h h' => slab_at W 3232 _ 768 4000 d l.val h h' rfl)
  · exact piece (k := 256) (N := 1024) (fun v => k0_pay19 (F := Ideal) v) id (fun v d l => pay4 v d l) W 3744 512 inb_S4256x1024_S256x1024_3744_0 inb_S1024x1024_S1024x256_0_512 (wgb W) (fun d l h h' => slab_at W 3232 _ 512 3744 d l.val h h' rfl)
  · exact piece (k := 256) (N := 1024) (fun v => k0_pay18 (F := Ideal) v) id (fun v d l => pay4 v d l) W 3488 256 inb_S4256x1024_S256x1024_3488_0 inb_S1024x1024_S1024x256_0_256 (wgb W) (fun d l h h' => slab_at W 3232 _ 256 3488 d l.val h h' rfl)
  · exact piece (k := 256) (N := 1024) (fun v => k0_pay17 (F := Ideal) v) id (fun v d l => pay4 v d l) W 3232 0 inb_S4256x1024_S256x1024_3232_0 inb_S1024x1024_S1024x256_0_0 (wgb W) (fun d l h h' => slab_at W 3232 _ 0 3232 d l.val h h' rfl)

/-- The store into the key compression scratch leaves the key compression columns. -/
theorem wckv_stores (W : Vec Ideal S4256x1024 .f32) :
    k0_pay11 (View.ld (Val := Elt Ideal) (e' := .f32) W (Rect.unit (s := S4256x1024) ![1920, 0] ![256, 1024] inb_S4256x1024_S256x1024_1920_0)) = wckv W := by
  funext y
  obtain ⟨d, l, rfl⟩ : ∃ (d : Fin 1024) (l : Fin 256), y = ix2 d l := ⟨y 0, y 1, by funext a; match a with | ⟨0, _⟩ => rfl | ⟨1, _⟩ => rfl⟩
  refine (pay4 _ d l).trans (congrArg W (funext fun a => Fin.ext ?_))
  refine (Rect.idx_unit_val _ _ inb_S4256x1024_S256x1024_1920_0 _ a).trans ?_
  match a with
  | ⟨0, _⟩ => rfl
  | ⟨1, _⟩ => exact Nat.zero_add _

/-- The store into the rotary key scratch leaves the rotary key columns. -/
theorem wkr_stores (W : Vec Ideal S4256x1024 .f32) :
    k0_pay12 (View.ld (Val := Elt Ideal) (e' := .f32) W (Rect.unit (s := S4256x1024) ![2176, 0] ![128, 1024] inb_S4256x1024_S128x1024_2176_0)) = wkr W := by
  funext y
  obtain ⟨d, l, rfl⟩ : ∃ (d : Fin 1024) (l : Fin 128), y = ix2 d l := ⟨y 0, y 1, by funext a; match a with | ⟨0, _⟩ => rfl | ⟨1, _⟩ => rfl⟩
  rw [pay12]
  show _ = if h : 64 ≤ l.val ∧ l.val < 96 then W (ix2 ⟨2176 + (l.val - 64), by omega⟩ d) else 0
  split
  · refine congrArg W (funext fun a => Fin.ext ?_)
    refine (Rect.idx_unit_val _ _ inb_S4256x1024_S128x1024_2176_0 _ a).trans ?_
    match a with
    | ⟨0, _⟩ => rfl
    | ⟨1, _⟩ => exact Nat.zero_add _
  · rfl

/-- After the first point the query and key scratch holds the query and key columns. -/
theorem wqk_A (c : Dev nD) (t : Fin cfg0.N) (h0 : t.val % 32 = 0) : (outsAt0 m c t.val t.isLt).2.2.2.2.2.2.2.1 = wqk (wf m c) := by
  rw [outsAt0_A m c t h0]
  frame_open
  simp (disch := decide) only [↓ View.readCov_skip, ↓ View.readCov_cons_toLoadRect, ↓ View.readCov_fill]
  frame_out
  repeat rw [load]
  exact wqk_stores (wf m c)

/-- A later point leaves the query and key scratch as it found it. -/
theorem wqk_B (c : Dev nD) (t : Fin cfg0.N) (h0 : ¬ t.val % 32 = 0) : (outsAt0 m c t.val t.isLt).2.2.2.2.2.2.2.1 = (outsAt0 m c (t.val - 1) (Nat.lt_of_le_of_lt (Nat.sub_le _ _) t.isLt)).2.2.2.2.2.2.2.1 := by
  rw [outsAt0_B m c t h0]
  rfl

/-- So at every point the query and key scratch holds the query and key columns. -/
theorem wqk_at (c : Dev nD) : ∀ (n : ℕ) (hn : n < cfg0.N), (outsAt0 m c n hn).2.2.2.2.2.2.2.1 = wqk (wf m c)
  | 0, hn => wqk_A m c ⟨0, hn⟩ rfl
  | n + 1, hn => (wqk_B m c ⟨n + 1, hn⟩ (by have h : n + 1 < 32 := hn; show ¬ (n + 1) % 32 = 0; omega)).trans (wqk_at c n (Nat.lt_of_succ_lt hn))

/-- After the first point the value scratch holds the value columns. -/
theorem wv_A (c : Dev nD) (t : Fin cfg0.N) (h0 : t.val % 32 = 0) : (outsAt0 m c t.val t.isLt).2.2.2.2.2.2.2.2.1 = wv (wf m c) := by
  rw [outsAt0_A m c t h0]
  frame_open
  simp (disch := decide) only [↓ View.readCov_skip, ↓ View.readCov_cons_toLoadRect, ↓ View.readCov_fill]
  frame_out
  repeat rw [load]
  exact wv_stores (wf m c)

/-- A later point leaves the value scratch as it found it. -/
theorem wv_B (c : Dev nD) (t : Fin cfg0.N) (h0 : ¬ t.val % 32 = 0) : (outsAt0 m c t.val t.isLt).2.2.2.2.2.2.2.2.1 = (outsAt0 m c (t.val - 1) (Nat.lt_of_le_of_lt (Nat.sub_le _ _) t.isLt)).2.2.2.2.2.2.2.2.1 := by
  rw [outsAt0_B m c t h0]
  rfl

/-- So at every point the value scratch holds the value columns. -/
theorem wv_at (c : Dev nD) : ∀ (n : ℕ) (hn : n < cfg0.N), (outsAt0 m c n hn).2.2.2.2.2.2.2.2.1 = wv (wf m c)
  | 0, hn => wv_A m c ⟨0, hn⟩ rfl
  | n + 1, hn => (wv_B m c ⟨n + 1, hn⟩ (by have h : n + 1 < 32 := hn; show ¬ (n + 1) % 32 = 0; omega)).trans (wv_at c n (Nat.lt_of_succ_lt hn))

/-- After the first point the query compression scratch holds the query compression columns. -/
theorem wcq_A (c : Dev nD) (t : Fin cfg0.N) (h0 : t.val % 32 = 0) : (outsAt0 m c t.val t.isLt).2.2.2.2.2.2.2.2.2.1 = wcq (wf m c) := by
  rw [outsAt0_A m c t h0]
  frame_open
  simp (disch := decide) only [↓ View.readCov_skip, ↓ View.readCov_cons_toLoadRect, ↓ View.readCov_fill]
  frame_out
  repeat rw [load]
  exact wcq_stores (wf m c)

/-- A later point leaves the query compression scratch as it found it. -/
theorem wcq_B (c : Dev nD) (t : Fin cfg0.N) (h0 : ¬ t.val % 32 = 0) : (outsAt0 m c t.val t.isLt).2.2.2.2.2.2.2.2.2.1 = (outsAt0 m c (t.val - 1) (Nat.lt_of_le_of_lt (Nat.sub_le _ _) t.isLt)).2.2.2.2.2.2.2.2.2.1 := by
  rw [outsAt0_B m c t h0]
  rfl

/-- So at every point the query compression scratch holds the query compression columns. -/
theorem wcq_at (c : Dev nD) : ∀ (n : ℕ) (hn : n < cfg0.N), (outsAt0 m c n hn).2.2.2.2.2.2.2.2.2.1 = wcq (wf m c)
  | 0, hn => wcq_A m c ⟨0, hn⟩ rfl
  | n + 1, hn => (wcq_B m c ⟨n + 1, hn⟩ (by have h : n + 1 < 32 := hn; show ¬ (n + 1) % 32 = 0; omega)).trans (wcq_at c n (Nat.lt_of_succ_lt hn))

/-- After the first point the key compression scratch holds the key compression columns. -/
theorem wckv_A (c : Dev nD) (t : Fin cfg0.N) (h0 : t.val % 32 = 0) : (outsAt0 m c t.val t.isLt).2.2.2.2.2.2.2.2.2.2.1 = wckv (wf m c) := by
  rw [outsAt0_A m c t h0]
  frame_open
  simp (disch := decide) only [↓ View.readCov_skip, ↓ View.readCov_cons_toLoadRect, ↓ View.readCov_fill]
  frame_out
  repeat rw [load]
  exact wckv_stores (wf m c)

/-- A later point leaves the key compression scratch as it found it. -/
theorem wckv_B (c : Dev nD) (t : Fin cfg0.N) (h0 : ¬ t.val % 32 = 0) : (outsAt0 m c t.val t.isLt).2.2.2.2.2.2.2.2.2.2.1 = (outsAt0 m c (t.val - 1) (Nat.lt_of_le_of_lt (Nat.sub_le _ _) t.isLt)).2.2.2.2.2.2.2.2.2.2.1 := by
  rw [outsAt0_B m c t h0]
  rfl

/-- So at every point the key compression scratch holds the key compression columns. -/
theorem wckv_at (c : Dev nD) : ∀ (n : ℕ) (hn : n < cfg0.N), (outsAt0 m c n hn).2.2.2.2.2.2.2.2.2.2.1 = wckv (wf m c)
  | 0, hn => wckv_A m c ⟨0, hn⟩ rfl
  | n + 1, hn => (wckv_B m c ⟨n + 1, hn⟩ (by have h : n + 1 < 32 := hn; show ¬ (n + 1) % 32 = 0; omega)).trans (wckv_at c n (Nat.lt_of_succ_lt hn))

/-- After the first point the rotary key scratch holds the rotary key columns. -/
theorem wkr_A (c : Dev nD) (t : Fin cfg0.N) (h0 : t.val % 32 = 0) : (outsAt0 m c t.val t.isLt).2.2.2.2.2.2.2.2.2.2.2.1 = wkr (wf m c) := by
  rw [outsAt0_A m c t h0]
  frame_open
  simp (disch := decide) only [↓ View.readCov_skip, ↓ View.readCov_cons_toLoadRect, ↓ View.readCov_fill]
  frame_out
  repeat rw [load]
  exact wkr_stores (wf m c)

/-- A later point leaves the rotary key scratch as it found it. -/
theorem wkr_B (c : Dev nD) (t : Fin cfg0.N) (h0 : ¬ t.val % 32 = 0) : (outsAt0 m c t.val t.isLt).2.2.2.2.2.2.2.2.2.2.2.1 = (outsAt0 m c (t.val - 1) (Nat.lt_of_le_of_lt (Nat.sub_le _ _) t.isLt)).2.2.2.2.2.2.2.2.2.2.2.1 := by
  rw [outsAt0_B m c t h0]
  rfl

/-- So at every point the rotary key scratch holds the rotary key columns. -/
theorem wkr_at (c : Dev nD) : ∀ (n : ℕ) (hn : n < cfg0.N), (outsAt0 m c n hn).2.2.2.2.2.2.2.2.2.2.2.1 = wkr (wf m c)
  | 0, hn => wkr_A m c ⟨0, hn⟩ rfl
  | n + 1, hn => (wkr_B m c ⟨n + 1, hn⟩ (by have h : n + 1 < 32 := hn; show ¬ (n + 1) % 32 = 0; omega)).trans (wkr_at c n (Nat.lt_of_succ_lt hn))

/-- After the first point the first gate scratch holds the first gate columns. -/
theorem wga_A (c : Dev nD) (t : Fin cfg0.N) (h0 : t.val % 32 = 0) : (outsAt0 m c t.val t.isLt).2.2.2.2.2.2.2.2.2.2.2.2.1 = wga (wf m c) := by
  rw [outsAt0_A m c t h0]
  frame_open
  simp (disch := decide) only [↓ View.readCov_skip, ↓ View.readCov_cons_toLoadRect, ↓ View.readCov_fill]
  frame_out
  repeat rw [load]
  exact wga_stores (wf m c)

/-- A later point leaves the first gate scratch as it found it. -/
theorem wga_B (c : Dev nD) (t : Fin cfg0.N) (h0 : ¬ t.val % 32 = 0) : (outsAt0 m c t.val t.isLt).2.2.2.2.2.2.2.2.2.2.2.2.1 = (outsAt0 m c (t.val - 1) (Nat.lt_of_le_of_lt (Nat.sub_le _ _) t.isLt)).2.2.2.2.2.2.2.2.2.2.2.2.1 := by
  rw [outsAt0_B m c t h0]
  rfl

/-- So at every point the first gate scratch holds the first gate columns. -/
theorem wga_at (c : Dev nD) : ∀ (n : ℕ) (hn : n < cfg0.N), (outsAt0 m c n hn).2.2.2.2.2.2.2.2.2.2.2.2.1 = wga (wf m c)
  | 0, hn => wga_A m c ⟨0, hn⟩ rfl
  | n + 1, hn => (wga_B m c ⟨n + 1, hn⟩ (by have h : n + 1 < 32 := hn; show ¬ (n + 1) % 32 = 0; omega)).trans (wga_at c n (Nat.lt_of_succ_lt hn))

/-- After the first point the second gate scratch holds the second gate columns. -/
theorem wgb_A (c : Dev nD) (t : Fin cfg0.N) (h0 : t.val % 32 = 0) : (outsAt0 m c t.val t.isLt).2.2.2.2.2.2.2.2.2.2.2.2.2 = wgb (wf m c) := by
  rw [outsAt0_A m c t h0]
  frame_open
  simp (disch := decide) only [↓ View.readCov_skip, ↓ View.readCov_cons_toLoadRect, ↓ View.readCov_fill]
  frame_out
  repeat rw [load]
  exact wgb_stores (wf m c)

/-- A later point leaves the second gate scratch as it found it. -/
theorem wgb_B (c : Dev nD) (t : Fin cfg0.N) (h0 : ¬ t.val % 32 = 0) : (outsAt0 m c t.val t.isLt).2.2.2.2.2.2.2.2.2.2.2.2.2 = (outsAt0 m c (t.val - 1) (Nat.lt_of_le_of_lt (Nat.sub_le _ _) t.isLt)).2.2.2.2.2.2.2.2.2.2.2.2.2 := by
  rw [outsAt0_B m c t h0]
  rfl

/-- So at every point the second gate scratch holds the second gate columns. -/
theorem wgb_at (c : Dev nD) : ∀ (n : ℕ) (hn : n < cfg0.N), (outsAt0 m c n hn).2.2.2.2.2.2.2.2.2.2.2.2.2 = wgb (wf m c)
  | 0, hn => wgb_A m c ⟨0, hn⟩ rfl
  | n + 1, hn => (wgb_B m c ⟨n + 1, hn⟩ (by have h : n + 1 < 32 := hn; show ¬ (n + 1) % 32 = 0; omega)).trans (wgb_at c n (Nat.lt_of_succ_lt hn))

/-- The query and key output block of the first point. -/
theorem qk_A (c : Dev nD) (t : Fin cfg0.N) (h0 : t.val % 32 = 0) :
    (outsAt0 m c t.val t.isLt).1 = proj (n := 1024) (iblk m c 1 t) (iblk m c 0 t) (wqk (wf m c)) := by
  rw [outsAt0_A m c t h0]
  frame_open
  simp (disch := decide) only [↓ View.readCov_skip, ↓ View.readCov_cons_toLoadRect, ↓ View.readCov_fill]
  frame_out
  repeat rw [load]
  refine (pay22 _ _ _).trans (congrArg (proj (n := 1024) (iblk m c 1 t) (iblk m c 0 t)) ?_)
  refine (View.readCov_eq_canon_ld _ _ _ (View.cover_of_tiledL _ ![1024, 256] rfl)).trans ?_
  refine (View.ld_unit_zero (by decide) _ _).trans ?_
  exact wqk_stores (wf m c)

/-- The query and key output block of a later point. -/
theorem qk_B (c : Dev nD) (t : Fin cfg0.N) (h0 : ¬ t.val % 32 = 0) :
    (outsAt0 m c t.val t.isLt).1 = proj (n := 1024) (iblk m c 1 t) (iblk m c 0 t) (wqk (wf m c)) := by
  have e := wqk_at m c (t.val - 1) (Nat.lt_of_le_of_lt (Nat.sub_le _ _) t.isLt)
  rw [outsAt0_B m c t h0]
  frame_open
  frame_out
  simp only [read_unread_whole]
  rw [e]
  exact pay22 _ _ _

/-- The query and key output block of every point. -/
theorem qk_at (c : Dev nD) (t : Fin cfg0.N) :
    (outsAt0 m c t.val t.isLt).1 = proj (n := 1024) (iblk m c 1 t) (iblk m c 0 t) (wqk (wf m c)) := by
  by_cases h0 : t.val % 32 = 0
  · exact qk_A m c t h0
  · exact qk_B m c t h0

/-- The value output block of the first point. -/
theorem va_A (c : Dev nD) (t : Fin cfg0.N) (h0 : t.val % 32 = 0) :
    (outsAt0 m c t.val t.isLt).2.1 = vones (iblk m c 1 t) (iblk m c 0 t) (wv (wf m c)) := by
  rw [outsAt0_A m c t h0]
  frame_open
  simp (disch := decide) only [↓ View.readCov_skip, ↓ View.readCov_cons_toLoadRect, ↓ View.readCov_fill]
  frame_out
  repeat rw [load]
  refine (payva _ _ _).trans (congrArg (vones (iblk m c 1 t) (iblk m c 0 t)) ?_)
  refine (View.readCov_eq_canon_ld _ _ _ (View.cover_of_tiledL _ ![1024, 256] rfl)).trans ?_
  refine (View.ld_unit_zero (by decide) _ _).trans ?_
  exact wv_stores (wf m c)

/-- The value output block of a later point. -/
theorem va_B (c : Dev nD) (t : Fin cfg0.N) (h0 : ¬ t.val % 32 = 0) :
    (outsAt0 m c t.val t.isLt).2.1 = vones (iblk m c 1 t) (iblk m c 0 t) (wv (wf m c)) := by
  have e := wv_at m c (t.val - 1) (Nat.lt_of_le_of_lt (Nat.sub_le _ _) t.isLt)
  rw [outsAt0_B m c t h0]
  frame_open
  frame_out
  simp only [read_unread_whole]
  rw [e]
  exact payva _ _ _

/-- The value output block of every point. -/
theorem va_at (c : Dev nD) (t : Fin cfg0.N) :
    (outsAt0 m c t.val t.isLt).2.1 = vones (iblk m c 1 t) (iblk m c 0 t) (wv (wf m c)) := by
  by_cases h0 : t.val % 32 = 0
  · exact va_A m c t h0
  · exact va_B m c t h0

/-- The query compression output block of the first point. -/
theorem cq_A (c : Dev nD) (t : Fin cfg0.N) (h0 : t.val % 32 = 0) :
    (outsAt0 m c t.val t.isLt).2.2.1 = proj (n := 384) (iblk m c 1 t) (iblk m c 0 t) (wcq (wf m c)) := by
  rw [outsAt0_A m c t h0]
  frame_open
  simp (disch := decide) only [↓ View.readCov_skip, ↓ View.readCov_cons_toLoadRect, ↓ View.readCov_fill]
  frame_out
  repeat rw [load]
  refine (pay23 _ _ _).trans (congrArg (proj (n := 384) (iblk m c 1 t) (iblk m c 0 t)) ?_)
  refine (View.readCov_eq_canon_ld _ _ _ cover_two).trans ?_
  refine (View.ld_unit_zero (by decide) _ _).trans ?_
  exact wcq_stores (wf m c)

/-- The query compression output block of a later point. -/
theorem cq_B (c : Dev nD) (t : Fin cfg0.N) (h0 : ¬ t.val % 32 = 0) :
    (outsAt0 m c t.val t.isLt).2.2.1 = proj (n := 384) (iblk m c 1 t) (iblk m c 0 t) (wcq (wf m c)) := by
  have e := wcq_at m c (t.val - 1) (Nat.lt_of_le_of_lt (Nat.sub_le _ _) t.isLt)
  rw [outsAt0_B m c t h0]
  frame_open
  frame_out
  simp only [read_unread_whole]
  rw [e]
  exact pay23 _ _ _

/-- The query compression output block of every point. -/
theorem cq_at (c : Dev nD) (t : Fin cfg0.N) :
    (outsAt0 m c t.val t.isLt).2.2.1 = proj (n := 384) (iblk m c 1 t) (iblk m c 0 t) (wcq (wf m c)) := by
  by_cases h0 : t.val % 32 = 0
  · exact cq_A m c t h0
  · exact cq_B m c t h0

/-- The key compression output block of the first point. -/
theorem ckv_A (c : Dev nD) (t : Fin cfg0.N) (h0 : t.val % 32 = 0) :
    (outsAt0 m c t.val t.isLt).2.2.2.1 = proj (n := 256) (iblk m c 1 t) (iblk m c 0 t) (wckv (wf m c)) := by
  rw [outsAt0_A m c t h0]
  frame_open
  simp (disch := decide) only [↓ View.readCov_skip, ↓ View.readCov_cons_toLoadRect, ↓ View.readCov_fill]
  frame_out
  repeat rw [load]
  refine (pay24 _ _ _).trans (congrArg (proj (n := 256) (iblk m c 1 t) (iblk m c 0 t)) ?_)
  exact wckv_stores (wf m c)

/-- The key compression output block of a later point. -/
theorem ckv_B (c : Dev nD) (t : Fin cfg0.N) (h0 : ¬ t.val % 32 = 0) :
    (outsAt0 m c t.val t.isLt).2.2.2.1 = proj (n := 256) (iblk m c 1 t) (iblk m c 0 t) (wckv (wf m c)) := by
  have e := wckv_at m c (t.val - 1) (Nat.lt_of_le_of_lt (Nat.sub_le _ _) t.isLt)
  rw [outsAt0_B m c t h0]
  frame_open
  frame_out
  simp only [read_unread_whole]
  rw [e]
  exact pay24 _ _ _

/-- The key compression output block of every point. -/
theorem ckv_at (c : Dev nD) (t : Fin cfg0.N) :
    (outsAt0 m c t.val t.isLt).2.2.2.1 = proj (n := 256) (iblk m c 1 t) (iblk m c 0 t) (wckv (wf m c)) := by
  by_cases h0 : t.val % 32 = 0
  · exact ckv_A m c t h0
  · exact ckv_B m c t h0

/-- The rotary key output block of the first point. -/
theorem kr_A (c : Dev nD) (t : Fin cfg0.N) (h0 : t.val % 32 = 0) :
    (outsAt0 m c t.val t.isLt).2.2.2.2.1 = proj (n := 128) (iblk m c 1 t) (iblk m c 0 t) (wkr (wf m c)) := by
  rw [outsAt0_A m c t h0]
  frame_open
  simp (disch := decide) only [↓ View.readCov_skip, ↓ View.readCov_cons_toLoadRect, ↓ View.readCov_fill]
  frame_out
  repeat rw [load]
  refine (pay25 _ _ _).trans (congrArg (proj (n := 128) (iblk m c 1 t) (iblk m c 0 t)) ?_)
  exact wkr_stores (wf m c)

/-- The rotary key output block of a later point. -/
theorem kr_B (c : Dev nD) (t : Fin cfg0.N) (h0 : ¬ t.val % 32 = 0) :
    (outsAt0 m c t.val t.isLt).2.2.2.2.1 = proj (n := 128) (iblk m c 1 t) (iblk m c 0 t) (wkr (wf m c)) := by
  have e := wkr_at m c (t.val - 1) (Nat.lt_of_le_of_lt (Nat.sub_le _ _) t.isLt)
  rw [outsAt0_B m c t h0]
  frame_open
  frame_out
  simp only [read_unread_whole]
  rw [e]
  exact pay25 _ _ _

/-- The rotary key output block of every point. -/
theorem kr_at (c : Dev nD) (t : Fin cfg0.N) :
    (outsAt0 m c t.val t.isLt).2.2.2.2.1 = proj (n := 128) (iblk m c 1 t) (iblk m c 0 t) (wkr (wf m c)) := by
  by_cases h0 : t.val % 32 = 0
  · exact kr_A m c t h0
  · exact kr_B m c t h0

/-- The first gate output block of the first point. -/
theorem ga_A (c : Dev nD) (t : Fin cfg0.N) (h0 : t.val % 32 = 0) :
    (outsAt0 m c t.val t.isLt).2.2.2.2.2.1 = proj (n := 1024) (iblk m c 1 t) (iblk m c 0 t) (wga (wf m c)) := by
  rw [outsAt0_A m c t h0]
  frame_open
  simp (disch := decide) only [↓ View.readCov_skip, ↓ View.readCov_cons_toLoadRect, ↓ View.readCov_fill]
  frame_out
  repeat rw [load]
  refine (pay26 _ _ _).trans (congrArg (proj (n := 1024) (iblk m c 1 t) (iblk m c 0 t)) ?_)
  refine (View.readCov_eq_canon_ld _ _ _ (View.cover_of_tiledL _ ![1024, 256] rfl)).trans ?_
  refine (View.ld_unit_zero (by decide) _ _).trans ?_
  exact wga_stores (wf m c)

/-- The first gate output block of a later point. -/
theorem ga_B (c : Dev nD) (t : Fin cfg0.N) (h0 : ¬ t.val % 32 = 0) :
    (outsAt0 m c t.val t.isLt).2.2.2.2.2.1 = proj (n := 1024) (iblk m c 1 t) (iblk m c 0 t) (wga (wf m c)) := by
  have e := wga_at m c (t.val - 1) (Nat.lt_of_le_of_lt (Nat.sub_le _ _) t.isLt)
  rw [outsAt0_B m c t h0]
  frame_open
  frame_out
  simp only [read_unread_whole]
  rw [e]
  exact pay26 _ _ _

/-- The first gate output block of every point. -/
theorem ga_at (c : Dev nD) (t : Fin cfg0.N) :
    (outsAt0 m c t.val t.isLt).2.2.2.2.2.1 = proj (n := 1024) (iblk m c 1 t) (iblk m c 0 t) (wga (wf m c)) := by
  by_cases h0 : t.val % 32 = 0
  · exact ga_A m c t h0
  · exact ga_B m c t h0

/-- The second gate output block of the first point. -/
theorem gb_A (c : Dev nD) (t : Fin cfg0.N) (h0 : t.val % 32 = 0) :
    (outsAt0 m c t.val t.isLt).2.2.2.2.2.2.1 = proj (n := 1024) (iblk m c 1 t) (iblk m c 0 t) (wgb (wf m c)) := by
  rw [outsAt0_A m c t h0]
  frame_open
  simp (disch := decide) only [↓ View.readCov_skip, ↓ View.readCov_cons_toLoadRect, ↓ View.readCov_fill]
  frame_out
  repeat rw [load]
  refine (pay27 _ _ _).trans (congrArg (proj (n := 1024) (iblk m c 1 t) (iblk m c 0 t)) ?_)
  refine (View.readCov_eq_canon_ld _ _ _ (View.cover_of_tiledL _ ![1024, 256] rfl)).trans ?_
  refine (View.ld_unit_zero (by decide) _ _).trans ?_
  exact wgb_stores (wf m c)

/-- The second gate output block of a later point. -/
theorem gb_B (c : Dev nD) (t : Fin cfg0.N) (h0 : ¬ t.val % 32 = 0) :
    (outsAt0 m c t.val t.isLt).2.2.2.2.2.2.1 = proj (n := 1024) (iblk m c 1 t) (iblk m c 0 t) (wgb (wf m c)) := by
  have e := wgb_at m c (t.val - 1) (Nat.lt_of_le_of_lt (Nat.sub_le _ _) t.isLt)
  rw [outsAt0_B m c t h0]
  frame_open
  frame_out
  simp only [read_unread_whole]
  rw [e]
  exact pay27 _ _ _

/-- The second gate output block of every point. -/
theorem gb_at (c : Dev nD) (t : Fin cfg0.N) :
    (outsAt0 m c t.val t.isLt).2.2.2.2.2.2.1 = proj (n := 1024) (iblk m c 1 t) (iblk m c 0 t) (wgb (wf m c)) := by
  by_cases h0 : t.val % 32 = 0
  · exact gb_A m c t h0
  · exact gb_B m c t h0

end Cert.InProjIdeal.In
-- ==== Proof.InValue.lean ====
/-
  The in-projection kernel's seven arrays after the run, as functions of the three arguments.
-/
module

public import proofs.«01_k».proof.Proof.InScratch
public import proofs.«01_k».proof.Proof.Gen.InProjIdeal.Value
public import Idealize.ShloMosaic.Lib.Claim
public import Idealize.ShloMosaic.Lib.Pointwise

@[expose] public section

set_option maxRecDepth 16384

noncomputable section

namespace Cert.InProjIdeal.In

open Cert.InProjIdeal Cert.InProjIdeal.Gen Idealize.ShloMosaic Idealize.ShloMosaic.TcCoe Idealize.SL.Sem

/-- One element of the modulated rows of the whole batch. -/
def hidden (X : Vec Ideal S8x2048x1024 .f32) (M : Vec Ideal S8x6x1024 .f32) (b : Fin 8) (s : Fin 2048) (d : Fin 1024) : EReal :=
  X (ix3 b s d) * (1 + M (ix3 b 1 d)) + M (ix3 b 0 d)

/-- The packed weight, transposed. -/
def wcol (W : Vec Ideal S1x1024x4256 .f32) : Vec Ideal S4256x1024 .f32 := fun y => W (ix3 0 (y 1) (y 0))

/-- The modulated rows of the whole batch times a weight matrix. -/
def arr {n : ℕ} (X : Vec Ideal S8x2048x1024 .f32) (M : Vec Ideal S8x6x1024 .f32) (w : (⟨2, ![1024, n]⟩ : Shape).Idx → EReal) :
    (⟨3, ![8, 2048, n]⟩ : Shape).Idx → EReal :=
  fun i => ∑ d : Fin 1024, hidden X M (i 0) (i 1) d * w (ix2 d (i 2))

/-- The value array with a block of ones beside every 128 lanes. -/
def arrOnes (X : Vec Ideal S8x2048x1024 .f32) (M : Vec Ideal S8x6x1024 .f32) (w : S1024x512.Idx → EReal) : S8x2048x1024.Idx → EReal :=
  fun i => if (i 2).val % 256 < 128 then
    ∑ d : Fin 1024, hidden X M (i 0) (i 1) d * w (ix2 d ⟨(i 2).val / 256 * 128 + (i 2).val % 128, by have h : (i 2).val < 1024 := (i 2).isLt; omega⟩)
    else 1

variable (m : (ℓ : Loc nD τ sig) → Buf (Elt Ideal) ℓ)

/-- The fetched weight is the transposed argument. -/
theorem wf_eq (c : Dev nD) : wf m c = wcol (m ((c : Thread nD τ).loc main_arg2)) := by
  funext y
  show V m c main_v0 (ix3 (0 : Fin 1) (y 0) (y 1)) = _
  entry_read
  simp only [wcol]
  idx_vars y
  pointwise

/-- Where the windows' blocks lie: batch `t / 4`, rows `512 * (t % 4) ..`. -/
theorem idx_in : ∀ t : Fin grid0.N, win0_0.index t = ![t.val / 4, t.val % 4, 0] ∧ win0_1.index t = ![t.val / 4, 0, 0] := by
  decide +kernel

/-- The grid has 32 points. -/
theorem lt_32 (t : Fin cfg0.N) : t.val < 32 := t.isLt

/-- The modulated rows of a point are those of its block. -/
theorem hid_block (c : Dev nD) (t : Fin cfg0.N) (r : Fin 512) (d : Fin 1024) :
    hid (iblk m c 1 t) (iblk m c 0 t) r d
      = hidden (m ((c : Thread nD τ).loc main_arg0)) (m ((c : Thread nD τ).loc main_arg1)) ⟨t.val / 4, by have := lt_32 t; omega⟩
          ⟨512 * (t.val % 4) + r.val, by omega⟩ d := by
  have h0 := (idx_in t).1
  have h1 := (idx_in t).2
  have ht := lt_32 t
  have e0 : iblk m c 0 t (ix3 0 r d) = m ((c : Thread nD τ).loc main_arg0) (ix3 ⟨t.val / 4, by omega⟩ ⟨512 * (t.val % 4) + r.val, by omega⟩ d) := by
    blk_ext [iblk, V, h0]
  have e1 : ∀ k : Fin 6, iblk m c 1 t (ix3 0 k d) = m ((c : Thread nD τ).loc main_arg1) (ix3 ⟨t.val / 4, by omega⟩ k d) := by
    intro k
    blk_ext [iblk, V, h1]
  simp only [hid, hidden]
  rw [e0, e1, e1]

/-- A point's product is its block of the whole product. -/
theorem proj_block {n : ℕ} (c : Dev nD) (t : Fin cfg0.N) (w : (⟨2, ![1024, n]⟩ : Shape).Idx → EReal) (y : (⟨3, ![1, 512, n]⟩ : Shape).Idx)
    (e : (⟨3, ![8, 2048, n]⟩ : Shape).Idx) (h0 : (e 0).val = t.val / 4) (h1 : (e 1).val = 512 * (t.val % 4) + (y 1).val)
    (h2 : (e 2).val = (y 2).val) :
    proj (iblk m c 1 t) (iblk m c 0 t) w y
      = arr (m ((c : Thread nD τ).loc main_arg0)) (m ((c : Thread nD τ).loc main_arg1)) w e := by
  refine Finset.sum_congr rfl fun d _ => ?_
  refine congrArg₂ (· * ·) ((hid_block m c t (y 1) d).trans ?_) ?_
  · exact congrArg₂ (fun b s => hidden _ _ b s d) (Fin.ext h0.symm) (Fin.ext h1.symm)
  · exact congrArg (fun l => w (ix2 d l)) (Fin.ext h2.symm)

/-- A point's value block is its block of the whole value array. -/
theorem vones_block (c : Dev nD) (t : Fin cfg0.N) (w : S1024x512.Idx → EReal) (y : S1x512x1024.Idx)
    (e : S8x2048x1024.Idx) (h0 : (e 0).val = t.val / 4) (h1 : (e 1).val = 512 * (t.val % 4) + (y 1).val)
    (h2 : (e 2).val = (y 2).val) :
    vones (iblk m c 1 t) (iblk m c 0 t) w y
      = arrOnes (m ((c : Thread nD τ).loc main_arg0)) (m ((c : Thread nD τ).loc main_arg1)) w e := by
  simp only [vones, arrOnes]
  have hc : ((y 2).val % 256 < 128) = ((e 2).val % 256 < 128) := by rw [h2]
  refine if_congr (Iff.of_eq hc) (Finset.sum_congr rfl fun d _ => ?_) rfl
  refine congrArg₂ (· * ·) ((hid_block m c t (y 1) d).trans ?_) ?_
  · exact congrArg₂ (fun b s => hidden _ _ b s d) (Fin.ext h0.symm) (Fin.ext h1.symm)
  · exact congrArg (fun l => w (ix2 d l)) (Fin.ext (by show _ = _; simp only [h2]))

/-- Where the output blocks lie. -/
theorem idx_out : ∀ t : Fin grid0.N, win0_2.index t = ![t.val / 4, t.val % 4, 0] ∧ win0_3.index t = ![t.val / 4, t.val % 4, 0]
    ∧ win0_4.index t = ![t.val / 4, t.val % 4, 0] ∧ win0_5.index t = ![t.val / 4, t.val % 4, 0]
    ∧ win0_6.index t = ![t.val / 4, t.val % 4, 0] ∧ win0_7.index t = ![t.val / 4, t.val % 4, 0]
    ∧ win0_8.index t = ![t.val / 4, t.val % 4, 0] := by
  decide +kernel

/-- After the run the query and key array is the whole product. -/
theorem qk_arr (c : Dev nD) : (dats m 0 c).arrAt 2 cfg0.N
    = arr (n := 1024) (m ((c : Thread nD τ).loc main_arg0)) (m ((c : Thread nD τ).loc main_arg1)) (wqk (wcol (m ((c : Thread nD τ).loc main_arg2)))) := by
  refine (dats m 0 c).arrAt_eq_of_covers 2 _ (by decide +kernel) fun t hf y => ?_
  have h := idx_out t |>.1
  blk_simp
  rw [after0_2, qk_at, wf_eq]
  refine proj_block m c t _ _ _ ?_ ?_ ?_
  · blk_simp [h]
  · blk_simp [h]; omega
  · blk_simp [h]

/-- After the run the value array is the whole product. -/
theorem va_arr (c : Dev nD) : (dats m 0 c).arrAt 3 cfg0.N
    = arrOnes (m ((c : Thread nD τ).loc main_arg0)) (m ((c : Thread nD τ).loc main_arg1)) (wv (wcol (m ((c : Thread nD τ).loc main_arg2)))) := by
  refine (dats m 0 c).arrAt_eq_of_covers 3 _ (by decide +kernel) fun t hf y => ?_
  have h := idx_out t |>.2.1
  blk_simp
  rw [after0_3, va_at, wf_eq]
  refine vones_block m c t _ _ _ ?_ ?_ ?_
  · blk_simp [h]
  · blk_simp [h]; omega
  · blk_simp [h]

/-- After the run the compressed query array is the whole product. -/
theorem cq_arr (c : Dev nD) : (dats m 0 c).arrAt 4 cfg0.N
    = arr (n := 384) (m ((c : Thread nD τ).loc main_arg0)) (m ((c : Thread nD τ).loc main_arg1)) (wcq (wcol (m ((c : Thread nD τ).loc main_arg2)))) := by
  refine (dats m 0 c).arrAt_eq_of_covers 4 _ (by decide +kernel) fun t hf y => ?_
  have h := idx_out t |>.2.2.1
  blk_simp
  rw [after0_4, cq_at, wf_eq]
  refine proj_block m c t _ _ _ ?_ ?_ ?_
  · blk_simp [h]
  · blk_simp [h]; omega
  · blk_simp [h]

/-- After the run the compressed key and value array is the whole product. -/
theorem ckv_arr (c : Dev nD) : (dats m 0 c).arrAt 5 cfg0.N
    = arr (n := 256) (m ((c : Thread nD τ).loc main_arg0)) (m ((c : Thread nD τ).loc main_arg1)) (wckv (wcol (m ((c : Thread nD τ).loc main_arg2)))) := by
  refine (dats m 0 c).arrAt_eq_of_covers 5 _ (by decide +kernel) fun t hf y => ?_
  have h := idx_out t |>.2.2.2.1
  blk_simp
  rw [after0_5, ckv_at, wf_eq]
  refine proj_block m c t _ _ _ ?_ ?_ ?_
  · blk_simp [h]
  · blk_simp [h]; omega
  · blk_simp [h]

/-- After the run the rotary key array is the whole product. -/
theorem kr_arr (c : Dev nD) : (dats m 0 c).arrAt 6 cfg0.N
    = arr (n := 128) (m ((c : Thread nD τ).loc main_arg0)) (m ((c : Thread nD τ).loc main_arg1)) (wkr (wcol (m ((c : Thread nD τ).loc main_arg2)))) := by
  refine (dats m 0 c).arrAt_eq_of_covers 6 _ (by decide +kernel) fun t hf y => ?_
  have h := idx_out t |>.2.2.2.2.1
  blk_simp
  rw [after0_6, kr_at, wf_eq]
  refine proj_block m c t _ _ _ ?_ ?_ ?_
  · blk_simp [h]
  · blk_simp [h]; omega
  · blk_simp [h]

/-- After the run the first gate array is the whole product. -/
theorem ga_arr (c : Dev nD) : (dats m 0 c).arrAt 7 cfg0.N
    = arr (n := 1024) (m ((c : Thread nD τ).loc main_arg0)) (m ((c : Thread nD τ).loc main_arg1)) (wga (wcol (m ((c : Thread nD τ).loc main_arg2)))) := by
  refine (dats m 0 c).arrAt_eq_of_covers 7 _ (by decide +kernel) fun t hf y => ?_
  have h := idx_out t |>.2.2.2.2.2.1
  blk_simp
  rw [after0_7, ga_at, wf_eq]
  refine proj_block m c t _ _ _ ?_ ?_ ?_
  · blk_simp [h]
  · blk_simp [h]; omega
  · blk_simp [h]

/-- After the run the second gate array is the whole product. -/
theorem gb_arr (c : Dev nD) : (dats m 0 c).arrAt 8 cfg0.N
    = arr (n := 1024) (m ((c : Thread nD τ).loc main_arg0)) (m ((c : Thread nD τ).loc main_arg1)) (wgb (wcol (m ((c : Thread nD τ).loc main_arg2)))) := by
  refine (dats m 0 c).arrAt_eq_of_covers 8 _ (by decide +kernel) fun t hf y => ?_
  have h := idx_out t |>.2.2.2.2.2.2
  blk_simp
  rw [after0_8, gb_at, wf_eq]
  refine proj_block m c t _ _ _ ?_ ?_ ?_
  · blk_simp [h]
  · blk_simp [h]; omega
  · blk_simp [h]

end Cert.InProjIdeal.In
-- ==== Proof.InRef.lean ====
/-
  The in-projection's reference read at an index: its seven results are the kernel's arrays.
-/
module

public import proofs.«01_k».proof.Proof.InValue
public import proofs.«01_k».proof.Proof.Gen.InProjRefIdeal.Read
public import Idealize.ShloMosaic.Lib.Pointwise
public import Idealize.ShloMosaic.Lib.IdealHost

@[expose] public section

set_option maxRecDepth 16384

noncomputable section

namespace Cert.InProjRefIdeal.In

open Cert.InProjRefIdeal Cert.InProjRefIdeal.Gen Cert.InProjRefIdeal.Read Idealize.ShloMosaic Idealize.ShloMosaic.TcCoe Idealize.SL.Sem
open Cert.InProjIdeal.In (arr arrOnes wcol wqk wv wcq wckv wkr wga wgb slab qscale)

variable (X : Vec Ideal S8x2048x1024 .f32) (M : Vec Ideal S8x6x1024 .f32) (W : Vec Ideal S1x1024x4256 .f32)

/-- A sum of products with a factor taken out, for a factor that is a nonnegative real. -/
theorem sum_scaled {n : ℕ} (f g : Fin n → EReal) (q : EReal) (h0 : 0 ≤ q) (ht : q ≠ ⊤) :
    ∑ d, f d * (g d * q) = (∑ d, f d * g d) * q := by
  have key : ∀ s : Finset (Fin n), ∑ d ∈ s, f d * (g d * q) = (∑ d ∈ s, f d * g d) * q := by
    intro s
    induction s using Finset.induction_on with
    | empty => simp
    | insert a s ha ih =>
      rw [Finset.sum_insert ha, Finset.sum_insert ha, ih, EReal.right_distrib_of_nonneg_of_ne_top h0 ht, mul_assoc]
  exact key Finset.univ

/-- The scale is a nonnegative real. -/
theorem qscale_real : 0 ≤ qscale ∧ qscale ≠ ⊤ := by
  have h : qscale = ((12102203 / 67108864 : ℝ) : EReal) := by
    simp [qscale, Ideal.ofBits, Ideal.ieee, -EReal.coe_mul]
    norm_num
  rw [h]
  exact ⟨by exact_mod_cast (by norm_num : (0 : ℝ) ≤ 12102203 / 67108864), EReal.coe_ne_top _⟩

/-- The reference's product at an index. -/
theorem z_apply (b : Fin 8) (s : Fin 2048) (l : Fin 4256) :
    val_main_v9 (F := Ideal) X M W (ix3 b s l) = ∑ d : Fin 1024, InProjIdeal.In.hidden X M b s d * W (ix3 0 d l) := by
  rw [val_main_v9_apply]
  refine Finset.sum_congr rfl fun d _ => ?_
  have el : lidx_main_v9 (ix3 b s l) d = ix3 b s d := by
    funext a
    match a with
    | ⟨0, _⟩ => rfl
    | ⟨1, _⟩ => rfl
    | ⟨2, _⟩ => rfl
  have er : ridx_main_v9 (ix3 b s l) d = ix2 d l := by
    funext a
    match a with
    | ⟨0, _⟩ => rfl
    | ⟨1, _⟩ => rfl
  rw [el, er]
  pointwise [val_main_v7, val_main_v8, val_main_v5, val_main_v6, val_main_v4, val_main_v3, val_main_v2, val_main_v1, val_main_v0, val_main_cst, InProjIdeal.In.hidden]

/-- A run of the product's columns is the product with a run of the weight's columns. -/
theorem cols_apply (r0 : ℕ) {n : ℕ} (h : r0 + n ≤ 4256) (b : Fin 8) (s : Fin 2048) (l : Fin n) (hl : r0 + l.val < 4256) :
    val_main_v9 (F := Ideal) X M W (ix3 b s ⟨r0 + l.val, hl⟩) = arr (n := n) X M (slab (wcol W) r0 h) (ix3 b s l) :=
  z_apply X M W b s _

/-- The compressed query. -/
theorem cq_eq : val_main_v28 (F := Ideal) X M W = arr (n := 384) X M (wcq (wcol W)) := by
  funext i
  idx_vars i
  pointwise [val_main_v28, val_main_v13]
  exact cols_apply X M W 1536 (by decide) _ _ _ _

/-- The compressed key and value. -/
theorem ckv_eq : val_main_v29 (F := Ideal) X M W = arr (n := 256) X M (wckv (wcol W)) := by
  funext i
  idx_vars i
  pointwise [val_main_v29, val_main_v14]
  exact cols_apply X M W 1920 (by decide) _ _ _ _

/-- The first gate. -/
theorem ga_eq : val_main_v30 (F := Ideal) X M W = arr (n := 1024) X M (wga (wcol W)) := by
  funext i
  idx_vars i
  pointwise [val_main_v30, val_main_v16]
  exact cols_apply X M W 2208 (by decide) _ _ _ _

/-- The second gate. -/
theorem gb_eq : val_main_v31 (F := Ideal) X M W = arr (n := 1024) X M (wgb (wcol W)) := by
  funext i
  idx_vars i
  pointwise [val_main_v31, val_main_v17]
  exact cols_apply X M W 3232 (by decide) _ _ _ _

/-- The queries and keys: the reference scales the query columns of the product, the kernel those of the weight. -/
theorem qk_eq : val_main_v26 (F := Ideal) X M W = arr (n := 1024) X M (wqk (wcol W)) := by
  funext i
  idx_vars i
  pointwise [val_main_v26, val_main_v20, val_main_v19, val_main_v18, val_main_v10, val_main_v11, val_main_cst_0]
  simp only [arr]
  by_cases h : i2.val < 512
  · rw [dif_pos h, z_apply]
    refine (sum_scaled _ _ qscale qscale_real.1 qscale_real.2).symm.trans (Finset.sum_congr rfl fun d _ => congrArg _ ?_)
    refine Eq.trans ?_ (if_pos h).symm
    refine congrArg (· * qscale) (congrArg (fun k => W (ix3 0 d k)) (Fin.ext ?_))
    exact (Nat.zero_add _).symm
  · rw [dif_neg h, z_apply]
    refine Finset.sum_congr rfl fun d _ => congrArg _ ?_
    refine Eq.trans ?_ (if_neg h).symm
    refine congrArg (fun k => W (ix3 0 d k)) (Fin.ext ?_)
    show 512 + (i2.val - 512) = 0 + i2.val
    omega

/-- A head pair's lanes: 128 of the value, then 128 ones. -/
theorem pair_apply (b : Fin 8) (s : Fin 2048) (p : Fin 4) (q : Fin 256) :
    val_main_v23 (F := Ideal) X M W (ix4 b s p q)
      = if h : q.val < 128 then val_main_v21 (F := Ideal) X M W (ix4 b s p ⟨q.val, h⟩) else 1 := by
  pointwise [val_main_v23, val_main_v22, val_main_cst_1]

/-- The value's lanes are columns 1024 .. 1535 of the product. -/
theorem pair_lane (b : Fin 8) (s : Fin 2048) (p : Fin 4) (q : Fin 128) :
    val_main_v21 (F := Ideal) X M W (ix4 b s p q) = val_main_v9 (F := Ideal) X M W (ix3 b s ⟨1024 + (p.val * 128 + q.val), by omega⟩) := by
  rw [val_main_v21_apply, val_main_v12_apply]
  refine congrArg _ (funext fun a => Fin.ext ?_)
  match a with
  | ⟨0, _⟩ => show _ = b.val; simp; omega
  | ⟨1, _⟩ => show _ = s.val; simp; omega
  | ⟨2, _⟩ => show _ = 1024 + (p.val * 128 + q.val); simp; omega

/-- The values. -/
theorem va_eq : val_main_v27 (F := Ideal) X M W = arrOnes X M (wv (wcol W)) := by
  funext i
  idx_vars i
  rw [val_main_v27_apply, val_main_v24_apply]
  have e : idx_main_v24 (ix3 i0 i1 i2) = ix4 i0 i1 ⟨i2.val / 256, by omega⟩ ⟨i2.val % 256, by omega⟩ := by
    refine funext fun a => Fin.ext ?_
    match a with
    | ⟨0, _⟩ => show _ = i0.val; simp; omega
    | ⟨1, _⟩ => show _ = i1.val; simp; omega
    | ⟨2, _⟩ => show _ = i2.val / 256; simp; omega
    | ⟨3, _⟩ => show _ = i2.val % 256; simp; omega
  rw [e]
  refine Eq.trans (pair_apply X M W _ _ _ _) ?_
  simp only [arrOnes]
  by_cases h : i2.val % 256 < 128
  · rw [dif_pos h]
    refine (pair_lane X M W _ _ _ _).trans ((z_apply X M W _ _ _).trans ?_)
    refine Eq.trans (Finset.sum_congr rfl fun d _ => congrArg _ ?_) (if_pos h).symm
    refine congrArg (fun k => W (ix3 0 d k)) (Fin.ext ?_)
    show 1024 + (i2.val / 256 * 128 + i2.val % 256) = 1024 + (i2.val / 256 * 128 + i2.val % 128)
    omega
  · rw [dif_neg h]
    exact (if_neg h).symm

/-- The rotary key. -/
theorem kr_eq : val_main_v25 (F := Ideal) X M W = arr (n := 128) X M (wkr (wcol W)) := by
  funext i
  idx_vars i
  pointwise [val_main_v25, val_main_v15, val_main_call0_v0, val_main_c]
  simp only [arr]
  by_cases h : 64 ≤ i2.val ∧ i2.val < 96
  · rw [dif_pos (by omega), z_apply]
    refine Finset.sum_congr rfl fun d _ => congrArg _ ?_
    have e : wkr (wcol W) (ix2 d i2) = W (ix3 0 d ⟨2176 + (i2.val - 64), by omega⟩) := dif_pos h
    exact e.symm
  · rw [dif_neg (by omega)]
    have e : ∀ d : Fin 1024, wkr (wcol W) (ix2 d i2) = 0 := fun d => dif_neg h
    refine Eq.trans ?_ (Finset.sum_eq_zero fun d _ => ?_).symm
    · show (((0#32 : BitVec 32).toInt : ℝ) : EReal) = 0
      simp
    · exact (congrArg _ (e d)).trans (mul_zero _)

end Cert.InProjRefIdeal.In
-- ==== Proof.InAlgebraic.lean ====
/-
  The in-projection's algebraic claim: the kernel's seven arrays are the reference's seven results.
-/
module

public import proofs.«01_k».proof.Defs
public import proofs.«01_k».proof.Proof.InRef
public import proofs.«01_k».proof.Proof.Gen.InProjRefIdeal.Run
public import Idealize.ShloMosaic.Lib.Claim

@[expose] public section

set_option maxRecDepth 16384

noncomputable section

namespace Cert.InProjRefIdeal.In

open Idealize.ShloMosaic Idealize.ShloMosaic.TcCoe Idealize.SL.Sem Cert.InProjRefIdeal.Read
open Cert.InProjIdeal.In (arr arrOnes wcol wqk wv wcq wckv wkr wga wgb)

/-- The reference runs and leaves its arguments alone. -/
theorem ref_frame : Cert.quiescent_InProjRefIdeal := by
  intro m g _
  exact (θ_run _ _ _).mono (fun r h => ⟨fun c => (h c).2.2.2.2.2.2.2, sem_eq_zero_of_no_sems (by decide) r.2⟩)
    (Cert.InProjRefIdeal.Value.run m g)

/-- The kernel's seven arrays are the reference's seven results. -/
theorem algebraic : Cert.algebraic_InProjIdeal_InProjRefIdeal := by
  intro m g m' g' _ hm
  refine ⟨fun c => _, fun c => _, fun c => _, fun c => _, fun c => _, fun c => _, fun c => _,
    Cert.InProjIdeal.Value.run_blocks m g, (θ_run _ _ _).mono (fun r h c => ?_) (Cert.InProjRefIdeal.Value.run m' g')⟩
  obtain ⟨h0, h1, h2, h3, h4, h5, h6, ha⟩ := h c
  obtain ⟨e0, e1, e2⟩ := hm c
  rw [val_main_v26_eq, qk_eq, e0, e1, e2] at h0
  rw [val_main_v27_eq, va_eq, e0, e1, e2] at h1
  rw [val_main_v28_eq, cq_eq, e0, e1, e2] at h2
  rw [val_main_v29_eq, ckv_eq, e0, e1, e2] at h3
  rw [val_main_v25_eq, kr_eq, e0, e1, e2] at h4
  rw [val_main_v30_eq, ga_eq, e0, e1, e2] at h5
  rw [val_main_v31_eq, gb_eq, e0, e1, e2] at h6
  exact ⟨h0.trans (Cert.InProjIdeal.In.qk_arr m c).symm, h1.trans (Cert.InProjIdeal.In.va_arr m c).symm,
    h2.trans (Cert.InProjIdeal.In.cq_arr m c).symm, h3.trans (Cert.InProjIdeal.In.ckv_arr m c).symm,
    h4.trans (Cert.InProjIdeal.In.kr_arr m c).symm, h5.trans (Cert.InProjIdeal.In.ga_arr m c).symm,
    h6.trans (Cert.InProjIdeal.In.gb_arr m c).symm, ha⟩

end Cert.InProjRefIdeal.In
-- ==== Proof.ExKit.lean ====
/- The pallas_call of the expert products on any staging buffers: the buffers as the region finds them, the prefetched
   tables, each window's block, and the frame claim's statement read off the run of the region. -/
module

public import proofs.«01_k».proof.Proof.Gen.ExpertsIdeal
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.ExpertsIdeal.Ex

open Idealize.ShloMosaic Idealize.ShloMosaic.TcCoe Idealize.ShloMosaic.Tactic
open Cert.ExpertsIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers when the region is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-! No host operation writes an argument. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The two prefetched tables (the experts of the tiles, the number of tiles used) as the region finds them. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every block an index map names lies inside its array: the region's side condition of the tables. -/
abbrev Ok : Prop := ok0 (F := F) (tbl m)
abbrev adm (hO : Ok m) : (pcfg0 (F := F)).Adm := ⟨tbl m, hO⟩
abbrev cfgM (hO : Ok m) : Pipeline.Cfg sig (Λ₀ F) := cfg0 (adm m hO)

abbrev tbM0_0 : Memref sig .tc .smem S160 .i32 := Memref.whole main_v11
abbrev htbM0_0 : tbM0_0.IsWhole := Memref.isWhole_whole _
abbrev tbM0_1 : Memref sig .tc .smem S1 .i32 := Memref.whole main_arg1
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The halves of the tables that the region hands the body. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! An input window's staging buffer holds its block at every point, fetched there or not. -/

theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (Pipeline.UD sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The frame claim's statement from a run of the region: a staged input is never written, and the rest is left alone. -/
theorem frame_of (hO : Ok m) (dats : (p : Fin 1) → (c : Dev nD) → Dat τ (Elt F) Unit ℕ (Pipeline.UD sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c)⟩) h

/-- The output window's first staging buffer, through which its contents are stated. -/
abbrev VO0_4 : View sig .tc .vmem S4096x128 .f32 := (Memref.whole cc0_stg4_0 : Memref sig .tc .vmem S4096x128 .f32).view
abbrev ms0_0 (hO : Ok m) (t : Fin (cfgM m hO).N) : Memref sig .tc .vmem S4096x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S4096x128 .f32 := spec0_4.stage ((cfgM m hO).slots t 4)
abbrev hs0_4 (hO : Ok m) (t : Fin (cfgM m hO).N) : (ms0_4 m hO t).IsWhole := hstage0_4 (((cfgM m hO).slots t 4).cast nbuf0_4)

/-- The ring of weight slots, the three rounded weight matrices and the slot word. -/
abbrev scM0_0 : Memref sig .tc .vmem S2x3x1024x1024 .f32 := Memref.whole cc0_scratch0
abbrev scM0_1 : Memref sig .tc .vmem S1024x1024 .bf16 := Memref.whole cc0_scratch1
abbrev scM0_2 : Memref sig .tc .vmem S1024x1024 .bf16 := Memref.whole cc0_scratch2
abbrev scM0_3 : Memref sig .tc .vmem S1024x1024 .bf16 := Memref.whole cc0_scratch3
abbrev scM0_4 : Memref sig .tc .smem S1 .i32 := Memref.whole cc0_scratch4
/-- The three weight arrays left in HBM. -/
abbrev hbM0_0 : Memref sig .tc .hbm S32x1024x1024 .f32 := Memref.whole main_arg3
abbrev hbM0_1 : Memref sig .tc .hbm S32x1024x1024 .f32 := Memref.whole main_arg5
abbrev hbM0_2 : Memref sig .tc .hbm S32x1024x1024 .f32 := Memref.whole main_arg7
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The two DMA semaphores of the ring. -/
abbrev osem0 : Fin 2 → SemLoc sig := fun j => (![SemLoc.dma 10, SemLoc.dma 11] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl
/-- The arrays the body copies from by itself. -/
def H0 : Finset (Ref sig .tc) := {main_arg3, main_arg5, main_arg7}
theorem H0_sub : H0 ⊆ Pipeline.restRefsP sig pre0 spec0 := by decide
theorem hbmPts0_eq (c : Dev nD) :
    (bigSep H0 (fun b => ((c : Thread nD τ).loc b) ↦{fullShare} V m c b) : sProp 𝕄) = iprop(hbPt0 c hbM0_0 (V m c main_arg3) ∗ hbPt0 c hbM0_1 (V m c main_arg5) ∗ hbPt0 c hbM0_2 (V m c main_arg7)) := by
  rw [BI.bigSep_eq_bigSepL_of_eq [main_arg3, main_arg5, main_arg7] (by decide) (by decide)]; rfl

/-- What the region hands the body beside the tables, one conjunct after the other. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 10) 0 ∗ semVal ((c : Thread nD τ), SemLoc.dma 11) 0) ∗ iprop(hbPt0 c hbM0_0 (V m c main_arg3) ∗ hbPt0 c hbM0_1 (V m c main_arg5) ∗ hbPt0 c hbM0_2 (V m c main_arg7))) := by
  rw [Pipeline.ΦD_eq, scopedRest0_eq, ownSems00_eq, hbmPts0_eq]; simp only [scM0_0, scM0_1, scM0_2, scM0_3, scM0_4, owns_whole]; try rfl

/-- The kernel body at point `t`, on what the pipeline calls it with. -/
abbrev bodyAt0 (a : (pcfg0 (F := F)).Adm) (t : Fin (cfg0 a).N) : Prog (TpuEff nD τ sig (Elt F) (Λ₀ F) .tc) PUnit :=
  cc0__moe_kernel (grid0.coords t) (Memref.whole main_v11) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole main_arg3) (Memref.isWhole_whole _) (Memref.whole main_arg5) (Memref.isWhole_whole _) (Memref.whole main_arg7) (Memref.isWhole_whole _) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5

end Cert.ExpertsIdeal.Ex

end
-- ==== Proof.ExA.lean ====
/-
  The kernel's look-ahead: the words of the expert table as the body reads them, and the loop that finds the next
  tile of another expert. Also the words' comparisons as facts about the numbers they hold.
-/
module

public import proofs.«01_k».proof.Proof.ExKit

@[expose] public section

set_option maxRecDepth 16384

noncomputable section

namespace Cert.ExpertsIdeal.Ex

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev 𝒱₀ : Variants := Variants.nat

/-- Position `k` of the table (its last position past the end). -/
def ix (k : ℕ) : S160.Idx := fun a => ⟨min k 159, by
  obtain rfl : a = 0 := Subsingleton.elim _ _
  show min k 159 < 160
  omega⟩

/-- The table's word at position `k`. -/
def T (c : Dev nD) (xt : TbBuf0 (F := F) c tbM0_0) (k : ℕ) : BitVec 32 :=
  (show S160.Idx → BitVec 32 from xt) (ix k)

/-- A load of one word at offset `o` reads the table's word at `o`. -/
theorem word_eq (c : Dev nD) (xt : TbBuf0 (F := F) c tbM0_0) (o : Fin 1 → ℕ) (h : ∀ a, o a + S1.size a ≤ S160.size a) (x : S1.Idx) (k : ℕ)
    (hk : o 0 = min k 159) :
    tbM0_0.view.readAt (Elt F) (Rect.unit (s := S160) o S1.size h).toLoadRect xt x = T c xt k := by
  show (show S160.Idx → BitVec 32 from xt) _ = (show S160.Idx → BitVec 32 from xt) _
  refine congrArg _ (funext fun (a : Fin 1) => ?_)
  obtain rfl : a = 0 := Subsingleton.elim _ _
  apply Fin.ext
  show o 0 + 1 * (x 0).val = min k 159
  have : (x 0).val < 1 := (x 0).isLt
  omega

/-! ### The kernel's comparisons -/

theorem slt_iff (a b : ℕ) (ha : a < 2 ^ 31) (hb : b < 2 ^ 31) : Scalar.cmpi .slt (BitVec.ofNat 32 a) (BitVec.ofNat 32 b) = 1#1 ↔ a < b :=
  WordCmp.cmpi_slt_ofNat_eq_one_iff ha hb

theorem eq_iff (a b : BitVec 32) : Scalar.cmpi .eq a b = 1#1 ↔ a = b := by
  show IntOp.cmpi .eq a b = 1#1 ↔ _
  rw [WordCmp.cmpi_eq_eq, WordCmp.ofBool_decide_eq_one_iff]

theorem andi_iff (a b : BitVec 1) : Scalar.andi a b = 1#1 ↔ a = 1#1 ∧ b = 1#1 := by
  revert a b; decide

theorem off2_eq (j : ℕ) (hj : j ≤ 160) : k0_off2 (BitVec.ofNat 32 j) 0 = min j 159 := by
  have : ∀ j : Fin 161, k0_off2 (BitVec.ofNat 32 j.val) 0 = min j.val 159 := by decide +kernel
  exact this ⟨j, by omega⟩

theorem chk1_ok (j : ℕ) (hj : j ≤ 160) : k0_chk1 (BitVec.ofNat 32 j) := by
  intro a
  obtain rfl : a = 0 := Subsingleton.elim _ _
  rw [off2_eq j hj]; show min j 159 + 1 ≤ 160; omega

theorem addi_one (j : ℕ) : Scalar.addi (BitVec.ofNat 32 j) 1#32 = BitVec.ofNat 32 (j + 1) := by
  show BitVec.ofNat 32 j + BitVec.ofNat 32 1 = _
  rw [← BitVec.ofNat_add]

/-- The least tile at or after `p` that is past the used tiles or is of another expert than `e`. -/
def IsNxt (c : Dev nD) (xt : TbBuf0 (F := F) c tbM0_0) (n : ℕ) (e : BitVec 32) (p r : ℕ) : Prop :=
  p ≤ r ∧ r ≤ 160 ∧ (∀ k, p ≤ k → k < r → T c xt k = e) ∧ (r < n → T c xt r ≠ e)

/-- The look-ahead from position `j`, at `k` positions before the end: holding the table, it returns the next tile of
    another expert. By induction on the positions left; the call of itself is answered by the induction hypothesis. -/
theorem while_sound (c : Dev nD) (i : grid0.Coords) (xt : TbBuf0 (F := F) c tbM0_0) (n : ℕ) (hn : n ≤ 160) (e : BitVec 32) :
    ∀ k j, j + k = 160 → ∀ K : BitVec 32 → sProp 𝕄,
      iprop(tbPt0 c tbM0_0 xt ∗ (∀ r : ℕ, ⌜IsNxt c xt n e j r⌝ -∗ tbPt0 c tbM0_0 xt -∗ K (BitVec.ofNat 32 r)))
        ⊢ wp frame (wpE (defs₀ (F := F)) 𝒱₀ (c : Thread nD τ) (some k)) Set.univ
            (cc0_while1 (F := F) i (BitVec.ofNat 32 n) tbM0_0 htbM0_0 e (BitVec.ofNat 32 j)) K := by
  intro k
  induction k with
  | zero =>
    intro j hj K
    have hj : j = 160 := by simpa using hj
    simp only [cc0_while1_eq_skeleton]; unfold cc0_while1_skel
    simp only [smemLoad, smemLoadElt, Prog.lift, Prog.bind_op, Prog.bind_ret, Prog.pure_eq_ret]
    iintro ⟨HT, Hk⟩
    iapply (wp_assume 𝒱₀ (c : Thread nD τ) (some 0) Set.univ (chk1_ok j (by omega)))
    iapply (wp_load 𝒱₀ (c : Thread nD τ) (some 0) Set.univ (m := tbM0_0) (Finset.subset_univ _)) $$ HT; iintro HT
    rw [word_eq c xt _ _ _ j (off2_eq j (by omega))]
    have h : ¬ Scalar.andi (Scalar.cmpi .slt (BitVec.ofNat 32 j) (BitVec.ofNat 32 n)) (Scalar.cmpi .eq (T c xt j) e) = 1#1 := by
      rw [andi_iff, slt_iff _ _ (by omega) (by omega)]; omega
    rw [if_neg h, wp_ret]; imodintro
    iapply Hk $$ [] [HT]
    · ipureintro; exact ⟨le_rfl, by omega, fun k h1 h2 => by omega, fun h => by omega⟩
    · iexact HT
  | succ k ih =>
    intro j hj K
    simp only [cc0_while1_eq_skeleton]; unfold cc0_while1_skel
    simp only [smemLoad, smemLoadElt, Prog.lift, Prog.bind_op, Prog.bind_ret, Prog.pure_eq_ret]
    iintro ⟨HT, Hk⟩
    iapply (wp_assume 𝒱₀ (c : Thread nD τ) (some (k + 1)) Set.univ (chk1_ok j (by omega)))
    iapply (wp_load 𝒱₀ (c : Thread nD τ) (some (k + 1)) Set.univ (m := tbM0_0) (Finset.subset_univ _)) $$ HT; iintro HT
    rw [word_eq c xt _ _ _ j (off2_eq j (by omega))]
    by_cases h : Scalar.andi (Scalar.cmpi .slt (BitVec.ofNat 32 j) (BitVec.ofNat 32 n)) (Scalar.cmpi .eq (T c xt j) e) = 1#1
    · rw [if_pos h, addi_one]
      rw [andi_iff, slt_iff _ _ (by omega) (by omega), eq_iff] at h
      iapply (wp_call 𝒱₀ (c : Thread nD τ) (some (k + 1)) Set.univ k (fun u hu => by cases hu; exact Nat.lt_succ_self k))
      iapply (ih (j + 1) (by omega) _)
      isplitl [HT]; · iexact HT
      iintro %r %hr HT
      rw [wp_ret]; imodintro
      iapply Hk $$ [] [HT]
      · ipureintro
        exact ⟨by have := hr.1; omega, hr.2.1, fun q h1 h2 => by
          rcases Nat.lt_or_ge j q with h' | h'
          · exact hr.2.2.1 q h' h2
          · obtain rfl : q = j := by omega
            exact h.2, hr.2.2.2⟩
      · iexact HT
    · rw [if_neg h, wp_ret]; imodintro
      rw [andi_iff, slt_iff _ _ (by omega) (by omega), eq_iff] at h
      iapply Hk $$ [] [HT]
      · ipureintro; exact ⟨le_rfl, by omega, fun k h1 h2 => by omega, fun h1 h2 => h ⟨h1, h2⟩⟩
      · iexact HT

end Cert.ExpertsIdeal.Ex

end
-- ==== Proof.ExB.lean ====
/-
  The weights' ring: its windows, the three copies of one expert's weights in flight on one slot's semaphore, the
  start of the three copies and the wait for them.
-/
module

public import proofs.«01_k».proof.Proof.ExA

@[expose] public section

set_option maxRecDepth 16384

noncomputable section

namespace Cert.ExpertsIdeal.Ex

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem win_inb (b : Fin 2) (t : Fin 3) : ∀ a, (![b.val, t.val, 0, 0] : Fin 4 → ℕ) a + S1x1x1024x1024.size a ≤ S2x3x1024x1024.size a := by
  revert b t; decide +kernel

abbrev wrect (b : Fin 2) (t : Fin 3) : Rect S2x3x1024x1024 := Rect.unit (s := S2x3x1024x1024) ![b.val, t.val, 0, 0] S1x1x1024x1024.size (win_inb b t)

/-- Window `t` (gate, up, down) of slot `b` of the ring, as a matrix. -/
abbrev win (b : Fin 2) (t : Fin 3) : Memref sig .tc .vmem S1024x1024 .f32 :=
  (scM0_0.slice (wrect b t) (fun _ => rfl)).squeeze S1024x1024 squeezes_S1x1x1024x1024_S1024x1024

theorem src_inb (e : BitVec 32) (he : e.toNat < 32) : ∀ a, k0_off3 e a + S1x1024x1024.size a ≤ S32x1024x1024.size a := by
  intro a
  match a with
  | ⟨0, _⟩ => show e.toNat + 1 ≤ 32; omega
  | ⟨1, _⟩ => show 0 + 1024 ≤ 1024; omega
  | ⟨2, _⟩ => show 0 + 1024 ≤ 1024; omega

/-- Expert `e`'s matrix of a weight array. -/
abbrev srcm (M : Memref sig .tc .hbm S32x1024x1024 .f32) (e : BitVec 32) (he : e.toNat < 32) : Memref sig .tc .hbm S1024x1024 .f32 :=
  (M.slice (Rect.unit (s := S32x1024x1024) (k0_off3 e) S1x1024x1024.size (src_inb e he)) (fun _ => rfl)).squeeze S1024x1024 squeezes_S1x1024x1024_S1024x1024

/-- The semaphore of slot `b`. -/
abbrev dm (b : Fin 2) : DmaSem sig := ![10, 11] b

theorem win_set (b : Fin 2) (t : Fin 3) : (win b t).view.set = (scM0_0.view.slice (wrect b t)).set := View.set_reshape _ _

theorem win_disj (b : Fin 2) (t t' : Fin 3) (h : t ≠ t') : Disjoint (win b t).view.set (win b t').view.set := by
  rw [win_set, win_set]
  refine View.disjoint_slice_of_sep scM0_0.view (wrect b t) (wrect b t') (1 : Fin 4) rfl rfl ?_
  show t.val + 1 ≤ t'.val ∨ t'.val + 1 ≤ t.val
  have : t.val ≠ t'.val := fun h' => h (Fin.ext h')
  omega

variable (c : Dev nD)

abbrev RBuf : Type := Buf (Elt F) (scM0_0.view.loc (c : Thread nD τ))
abbrev rPt (I : Finset (Idx (scM0_0.view.loc (c : Thread nD τ)))) (g : RBuf (F := F) c) : sProp 𝕄 := scM0_0.view.loc (c : Thread nD τ) ↦[I]{fullShare} g

/-- What the copy of matrix `t` hands back: the window written and the block it was read from. -/
def deliv (b : Fin 2) (e : BitVec 32) (he : e.toNat < 32) (g : RBuf (F := F) c) (f0 : HbBuf0 (F := F) c hbM0_0) (f1 : HbBuf0 (F := F) c hbM0_1) (f2 : HbBuf0 (F := F) c hbM0_2) : Fin 3 → sProp 𝕄
  | ⟨0, _⟩ => iprop(((win b 0).view.loc (c : Thread nD τ) ↦[(win b 0).view.set]{fullShare} ((win b 0).view.write (Elt F) g ((srcm hbM0_0 e he).view.read (Elt F) f0) Finset.univ))
      ∗ ((srcm hbM0_0 e he).view.loc (c : Thread nD τ) ↦[(srcm hbM0_0 e he).view.set]{fullShare} f0))
  | ⟨1, _⟩ => iprop(((win b 1).view.loc (c : Thread nD τ) ↦[(win b 1).view.set]{fullShare} ((win b 1).view.write (Elt F) g ((srcm hbM0_1 e he).view.read (Elt F) f1) Finset.univ))
      ∗ ((srcm hbM0_1 e he).view.loc (c : Thread nD τ) ↦[(srcm hbM0_1 e he).view.set]{fullShare} f1))
  | ⟨2, _⟩ => iprop(((win b 2).view.loc (c : Thread nD τ) ↦[(win b 2).view.set]{fullShare} ((win b 2).view.write (Elt F) g ((srcm hbM0_2 e he).view.read (Elt F) f2) Finset.univ))
      ∗ ((srcm hbM0_2 e he).view.loc (c : Thread nD τ) ↦[(srcm hbM0_2 e he).view.set]{fullShare} f2))

instance deliv_storable (b : Fin 2) (e : BitVec 32) (he : e.toNat < 32) (g : RBuf (F := F) c) (f0 : HbBuf0 (F := F) c hbM0_0) (f1 : HbBuf0 (F := F) c hbM0_1) (f2 : HbBuf0 (F := F) c hbM0_2) :
    ∀ t, Storable (upEmb : UEmb _ 𝕄) (deliv c b e he g f0 f1 f2 t)
  | ⟨0, _⟩ => by unfold deliv; infer_instance
  | ⟨1, _⟩ => by unfold deliv; infer_instance
  | ⟨2, _⟩ => by unfold deliv; infer_instance

/-- One window's units on its semaphore. -/
abbrev NU : ℕ := (win 0 0).view.amount (SemLoc.dma (dm 0))

/-- The part of the ring outside slot `b`. -/
abbrev rest3 (b : Fin 2) : Finset (Idx (scM0_0.view.loc (c : Thread nD τ))) := ((Finset.univ \ (win b 0).view.set) \ (win b 1).view.set) \ (win b 2).view.set

/-- The part of a weight array outside expert `e`'s block. -/
abbrev hrest (M : Memref sig .tc .hbm S32x1024x1024 .f32) (e : BitVec 32) (he : e.toNat < 32) (f : HbBuf0 (F := F) c M) : sProp 𝕄 :=
  M.view.loc (c : Thread nD τ) ↦[Finset.univ \ (srcm M e he).view.set]{fullShare} f

/-- Expert `e`'s three copies into slot `b` of the ring at `g`, started and not waited for. -/
def InG (b : Fin 2) (e : BitVec 32) (he : e.toNat < 32) (f0 : HbBuf0 (F := F) c hbM0_0) (f1 : HbBuf0 (F := F) c hbM0_1) (f2 : HbBuf0 (F := F) c hbM0_2) (g : RBuf (F := F) c) : sProp 𝕄 :=
  iprop(Transfers.Batch (countersEmb (U := Pipeline.UD sig nD τ)) (c : Thread nD τ) (SemLoc.dma (dm b)) () NU (deliv c b e he g f0 f1 f2) 3 0
    ∗ rPt c (rest3 c b) g ∗ hrest c hbM0_0 e he f0 ∗ hrest c hbM0_1 e he f1 ∗ hrest c hbM0_2 e he f2)

theorem ret_bind' {α β : Type} {E : Type → Type} (a : α) (k : α → Prog E β) : (Prog.ret a).bind k = k a := rfl

theorem amount_win (b : Fin 2) (t : Fin 3) : (win b t).view.amount (SemLoc.dma (dm b)) = NU := rfl
theorem credit_win (b : Fin 2) (t : Fin 3) : (win b t).view.dmaCredit = NU := rfl
theorem NU_pos : 0 < NU := by decide +kernel

theorem sub1 (b : Fin 2) : (win b 1).view.set ⊆ (Finset.univ : Finset (Idx (scM0_0.view.loc (c : Thread nD τ)))) \ (win b 0).view.set :=
  Finset.subset_sdiff.mpr ⟨Finset.subset_univ _, win_disj b 1 0 (by decide)⟩
theorem sub2 (b : Fin 2) : (win b 2).view.set ⊆ ((Finset.univ : Finset (Idx (scM0_0.view.loc (c : Thread nD τ)))) \ (win b 0).view.set) \ (win b 1).view.set :=
  Finset.subset_sdiff.mpr ⟨Finset.subset_sdiff.mpr ⟨Finset.subset_univ _, win_disj b 2 0 (by decide)⟩, win_disj b 2 1 (by decide)⟩

/-- The ring cut along slot `b`'s three windows. -/
theorem ring_split (b : Fin 2) (g : RBuf (F := F) c) :
    rPt c Finset.univ g ⊢ iprop(rPt c (win b 0).view.set g ∗ rPt c (win b 1).view.set g ∗ rPt c (win b 2).view.set g ∗ rPt c (rest3 c b) g) := by
  iintro H
  ihave H' := (pointsTo_split_subset (Finset.subset_univ (win b 0).view.set)).1 $$ H
  icases H' with ⟨H0, H⟩
  ihave H' := (pointsTo_split_subset (sub1 c b)).1 $$ H
  icases H' with ⟨H1, H⟩
  ihave H' := (pointsTo_split_subset (sub2 c b)).1 $$ H
  icases H' with ⟨H2, H⟩
  isplitl [H0]; · iexact H0
  isplitl [H1]; · iexact H1
  isplitl [H2]; · iexact H2
  iexact H

theorem join_reads (b : Fin 2) (g g0 g1 g2 : RBuf (F := F) c) :
    (win b 0).view.read (Elt F) (show RBuf (F := F) c from Finset.piecewise (win b 0).view.set g0 (Finset.piecewise (win b 1).view.set g1 (Finset.piecewise (win b 2).view.set g2 g))) = (win b 0).view.read (Elt F) g0
    ∧ (win b 1).view.read (Elt F) (show RBuf (F := F) c from Finset.piecewise (win b 0).view.set g0 (Finset.piecewise (win b 1).view.set g1 (Finset.piecewise (win b 2).view.set g2 g))) = (win b 1).view.read (Elt F) g1
    ∧ (win b 2).view.read (Elt F) (show RBuf (F := F) c from Finset.piecewise (win b 0).view.set g0 (Finset.piecewise (win b 1).view.set g1 (Finset.piecewise (win b 2).view.set g2 g))) = (win b 2).view.read (Elt F) g2 := by
  refine ⟨?_, ?_, ?_⟩ <;> refine View.read_congr fun i hi => ?_
  · exact Finset.piecewise_eq_of_mem _ _ _ hi
  · exact (Finset.piecewise_eq_of_notMem _ _ _ (Finset.disjoint_left.mp (win_disj b 1 0 (by decide)) hi)).trans
      (Finset.piecewise_eq_of_mem _ _ _ hi)
  · exact (Finset.piecewise_eq_of_notMem _ _ _ (Finset.disjoint_left.mp (win_disj b 2 0 (by decide)) hi)).trans
      ((Finset.piecewise_eq_of_notMem _ _ _ (Finset.disjoint_left.mp (win_disj b 2 1 (by decide)) hi)).trans
      (Finset.piecewise_eq_of_mem _ _ _ hi))

/-- The ring put back together from slot `b`'s windows at three contents and the rest. -/
theorem ring_join (b : Fin 2) (g g0 g1 g2 : RBuf (F := F) c) :
    iprop(rPt c (win b 0).view.set g0 ∗ rPt c (win b 1).view.set g1 ∗ rPt c (win b 2).view.set g2 ∗ rPt c (rest3 c b) g)
      ⊢ (iprop(∃ G : RBuf (F := F) c, ⌜(win b 0).view.read (Elt F) G = (win b 0).view.read (Elt F) g0 ∧ (win b 1).view.read (Elt F) G = (win b 1).view.read (Elt F) g1
          ∧ (win b 2).view.read (Elt F) G = (win b 2).view.read (Elt F) g2⌝ ∗ rPt c Finset.univ G) : sProp 𝕄) := by
  iintro ⟨H0, H1, H2, H⟩
  ihave H := (pointsTo_join_subset (ℓ := scM0_0.view.loc (c : Thread nD τ)) (q := fullShare) (I := (win b 2).view.set) (f := g) (g := g2) (sub2 c b)) $$ [H2 H]
  · isplitl [H2] <;> iassumption
  ihave H := (pointsTo_join_subset (ℓ := scM0_0.view.loc (c : Thread nD τ)) (q := fullShare) (I := (win b 1).view.set) (g := g1) (sub1 c b)) $$ [H1 H]
  · isplitl [H1] <;> iassumption
  ihave H := (pointsTo_join_subset (ℓ := scM0_0.view.loc (c : Thread nD τ)) (q := fullShare) (I := (win b 0).view.set) (g := g0) (Finset.subset_univ _)) $$ [H0 H]
  · isplitl [H0] <;> iassumption
  iexists (Finset.piecewise (win b 0).view.set g0 (Finset.piecewise (win b 1).view.set g1 (Finset.piecewise (win b 2).view.set g2 g)) : RBuf (F := F) c)
  isplitr
  · ipureintro; exact join_reads c b g g0 g1 g2
  · iexact H

/-- A weight array cut at expert `e`'s block. -/
theorem hb_split (M : Memref sig .tc .hbm S32x1024x1024 .f32) (e : BitVec 32) (he : e.toNat < 32) (f : HbBuf0 (F := F) c M) :
    hbPt0 c M f ⊢ iprop((M.view.loc (c : Thread nD τ) ↦[(srcm M e he).view.set]{fullShare} f) ∗ hrest c M e he f) :=
  (pointsTo_split_subset (Finset.subset_univ (srcm M e he).view.set)).1

theorem hb_join (M : Memref sig .tc .hbm S32x1024x1024 .f32) (e : BitVec 32) (he : e.toNat < 32) (f : HbBuf0 (F := F) c M) :
    iprop((M.view.loc (c : Thread nD τ) ↦[(srcm M e he).view.set]{fullShare} f) ∗ hrest c M e he f) ⊢ hbPt0 c M f :=
  (pointsTo_split_subset (Finset.subset_univ (srcm M e he).view.set)).2

/-- The start of expert `e`'s three copies into the idle slot `b`. -/
theorem start3 (v : Option ℕ) (b : Fin 2) (e : BitVec 32) (he : e.toNat < 32) (f0 : HbBuf0 (F := F) c hbM0_0) (f1 : HbBuf0 (F := F) c hbM0_1) (f2 : HbBuf0 (F := F) c hbM0_2)
    (g : RBuf (F := F) c) {α : Type} (Q : α → sProp 𝕄) (k : Prog (TpuEff nD τ sig (Elt F) (Λ₀ F) .tc) α)
    (a0 : (srcm hbM0_0 e he).view.WordExact) (b0 : (win b 0).view.WordExact) (c0 : DmaTarget.Typed (nD := nD) (τ := τ) .hbm (SemLoc.dma (dm b)) (DmaTarget.here (nD := nD) (p := (Proc.tc : Proc τ)) (win b 0)))
    (a1 : (srcm hbM0_1 e he).view.WordExact) (b1 : (win b 1).view.WordExact) (c1 : DmaTarget.Typed (nD := nD) (τ := τ) .hbm (SemLoc.dma (dm b)) (DmaTarget.here (nD := nD) (p := (Proc.tc : Proc τ)) (win b 1)))
    (a2 : (srcm hbM0_2 e he).view.WordExact) (b2 : (win b 2).view.WordExact) (c2 : DmaTarget.Typed (nD := nD) (τ := τ) .hbm (SemLoc.dma (dm b)) (DmaTarget.here (nD := nD) (p := (Proc.tc : Proc τ)) (win b 2))) :
    iprop(rPt c Finset.univ g ∗ hbPt0 c hbM0_0 f0 ∗ hbPt0 c hbM0_1 f1 ∗ hbPt0 c hbM0_2 f2 ∗ semVal ((c : Thread nD τ), SemLoc.dma (dm b)) 0)
      ⊢ iprop((InG c b e he f0 f1 f2 g -∗ wp frame (wpE (defs₀ (F := F)) 𝒱₀ (c : Thread nD τ) v) Set.univ k Q)
        -∗ wp frame (wpE (defs₀ (F := F)) 𝒱₀ (c : Thread nD τ) v) Set.univ
          (.op (.enqueueDma (srcm hbM0_0 e he) (.here (win b 0)) (.dma (dm b)) a0 b0 c0) fun _ =>
            .op (.enqueueDma (srcm hbM0_1 e he) (.here (win b 1)) (.dma (dm b)) a1 b1 c1) fun _ =>
            .op (.enqueueDma (srcm hbM0_2 e he) (.here (win b 2)) (.dma (dm b)) a2 b2 c2) fun _ => k) Q) := by
  iintro ⟨HR, H0, H1, H2, Hd⟩ Hk
  ihave HR := ring_split c b g $$ HR
  icases HR with ⟨HR0, HR1, HR2, HR⟩
  ihave H0 := hb_split c hbM0_0 e he f0 $$ H0
  icases H0 with ⟨H0, H0'⟩
  ihave H1 := hb_split c hbM0_1 e he f1 $$ H1
  icases H1 with ⟨H1, H1'⟩
  ihave H2 := hb_split c hbM0_2 e he f2 $$ H2
  icases H2 with ⟨H2, H2'⟩
  haveI := deliv_storable c b e he g f0 f1 f2
  imod (Transfers.batch_alloc' (Lvl := ℕ) (countersEmb (U := Pipeline.UD sig nD τ)) (c : Thread nD τ) () NU (deliv c b e he g f0 f1 f2) (sm := .dma (dm b)) (E := Set.univ)) $$ Hd with HB
  iapply (Transfers.wp_dmaBatch (countersEmb (U := Pipeline.UD sig nD τ)) 𝒱₀ (c : Thread nD τ) v (src := srcm hbM0_0 e he) (dst := win b 0) () NU (amount_win b 0) subset_rfl
    (D := deliv c b e he g f0 f1 f2) (j := 0) (u := 0) (by decide) (Nat.zero_le _) (by unfold deliv; exact .rfl)) $$ [H0 HR0 HB]
  · isplitl [H0]; · iexact H0
    isplitl [HR0]; · iexact HR0
    iexact HB
  iintro HB
  iapply (Transfers.wp_dmaBatch (countersEmb (U := Pipeline.UD sig nD τ)) 𝒱₀ (c : Thread nD τ) v (src := srcm hbM0_1 e he) (dst := win b 1) () NU (amount_win b 1) subset_rfl
    (D := deliv c b e he g f0 f1 f2) (j := 1) (u := 0) (by decide) (Nat.zero_le _) (by unfold deliv; exact .rfl)) $$ [H1 HR1 HB]
  · isplitl [H1]; · iexact H1
    isplitl [HR1]; · iexact HR1
    iexact HB
  iintro HB
  iapply (Transfers.wp_dmaBatch (countersEmb (U := Pipeline.UD sig nD τ)) 𝒱₀ (c : Thread nD τ) v (src := srcm hbM0_2 e he) (dst := win b 2) () NU (amount_win b 2) subset_rfl
    (D := deliv c b e he g f0 f1 f2) (j := 2) (u := 0) (by decide) (Nat.zero_le _) (by unfold deliv; exact .rfl)) $$ [H2 HR2 HB]
  · isplitl [H2]; · iexact H2
    isplitl [HR2]; · iexact HR2
    iexact HB
  iintro HB
  iapply Hk
  unfold InG
  isplitl [HB]; · iexact HB
  isplitl [HR]; · iexact HR
  isplitl [H0']; · iexact H0'
  isplitl [H1'] <;> iassumption

/-- Slot `b` of the ring holds expert `e`'s matrices. -/
def Landed (b : Fin 2) (e : BitVec 32) (he : e.toNat < 32) (f0 : HbBuf0 (F := F) c hbM0_0) (f1 : HbBuf0 (F := F) c hbM0_1) (f2 : HbBuf0 (F := F) c hbM0_2) (G : RBuf (F := F) c) : Prop :=
  (win b 0).view.read (Elt F) G = (srcm hbM0_0 e he).view.read (Elt F) f0
    ∧ (win b 1).view.read (Elt F) G = (srcm hbM0_1 e he).view.read (Elt F) f1
    ∧ (win b 2).view.read (Elt F) G = (srcm hbM0_2 e he).view.read (Elt F) f2

/-- The wait for expert `e`'s three copies into slot `b`: the ring and the weight arrays are whole again, the slot
    holds the matrices, its semaphore is at zero. -/
theorem wait3 (v : Option ℕ) (b : Fin 2) (e : BitVec 32) (he : e.toNat < 32) (f0 : HbBuf0 (F := F) c hbM0_0) (f1 : HbBuf0 (F := F) c hbM0_1) (f2 : HbBuf0 (F := F) c hbM0_2)
    (W : Waits sig Unit) {α : Type} (Q : α → sProp 𝕄) (k : Prog (TpuEff nD τ sig (Elt F) (Λ₀ F) .tc) α)
    (a0 : (srcm hbM0_0 e he).view.WordExact) (b0 : (win b 0).view.WordExact)
    (a1 : (srcm hbM0_1 e he).view.WordExact) (b1 : (win b 1).view.WordExact)
    (a2 : (srcm hbM0_2 e he).view.WordExact) (b2 : (win b 2).view.WordExact) :
    iprop((∃ g : RBuf (F := F) c, InG c b e he f0 f1 f2 g) ∗ owes (c : Thread nD τ) 0 W)
      ⊢ iprop((iprop((∃ G, ⌜Landed c b e he f0 f1 f2 G⌝ ∗ rPt c Finset.univ G) ∗ hbPt0 c hbM0_0 f0 ∗ hbPt0 c hbM0_1 f1 ∗ hbPt0 c hbM0_2 f2 ∗ semVal ((c : Thread nD τ), SemLoc.dma (dm b)) 0
            ∗ (∃ W', owes (c : Thread nD τ) 0 W')) -∗ wp frame (wpE (defs₀ (F := F)) 𝒱₀ (c : Thread nD τ) v) Set.univ k Q)
        -∗ wp frame (wpE (defs₀ (F := F)) 𝒱₀ (c : Thread nD τ) v) Set.univ
          (.op (.waitDma2 (dm b) (srcm hbM0_0 e he) (win b 0) a0 b0) fun _ =>
            .op (.waitDma2 (dm b) (srcm hbM0_1 e he) (win b 1) a1 b1) fun _ =>
            .op (.waitDma2 (dm b) (srcm hbM0_2 e he) (win b 2) a2 b2) fun _ => k) Q) := by
  unfold InG
  iintro ⟨⟨%g, HB, HR, H0', H1', H2'⟩, HO⟩ Hk
  iapply (Transfers.wp_waitBatch (countersEmb (U := Pipeline.UD sig nD τ)) 𝒱₀ (c : Thread nD τ) v () (credit_win b 0) (D := deliv c b e he g f0 f1 f2) (u := 0) (by have := NU_pos; omega)) $$ [HB HO]
  · isplitl [HB] <;> iassumption
  iintro ⟨HB, HO⟩
  iapply (Transfers.wp_waitBatch (countersEmb (U := Pipeline.UD sig nD τ)) 𝒱₀ (c : Thread nD τ) v () (credit_win b 1) (D := deliv c b e he g f0 f1 f2) (u := 0 + NU) (by have := NU_pos; omega)) $$ [HB HO]
  · isplitl [HB] <;> iassumption
  iintro ⟨HB, HO⟩
  iapply (Transfers.wp_waitBatchLast (countersEmb (U := Pipeline.UD sig nD τ)) 𝒱₀ (c : Thread nD τ) v () (credit_win b 2) NU_pos (D := deliv c b e he g f0 f1 f2) (u := 0 + NU + NU) (by omega)) $$ [HB HO]
  · isplitl [HB] <;> iassumption
  iintro ⟨HD, Hv, HO⟩
  ihave HD' := (show bigSep Finset.univ (deliv c b e he g f0 f1 f2) ⊢ iprop(deliv c b e he g f0 f1 f2 0 ∗ deliv c b e he g f0 f1 f2 1 ∗ deliv c b e he g f0 f1 f2 2)
    from by rw [Idealize.SL.BI.bigSep_univ_eq_bigSepL [0,1,2] (by decide) (by decide) _]; exact .rfl) $$ HD
  icases HD' with ⟨HD0, HD1, HD2⟩
  ihave HD0 := (show deliv c b e he g f0 f1 f2 0 ⊢ iprop(rPt c (win b 0).view.set ((win b 0).view.write (Elt F) g ((srcm hbM0_0 e he).view.read (Elt F) f0) Finset.univ) ∗ (hbM0_0.view.loc (c : Thread nD τ) ↦[(srcm hbM0_0 e he).view.set]{fullShare} f0)) from by unfold deliv; exact .rfl) $$ HD0
  ihave HD1 := (show deliv c b e he g f0 f1 f2 1 ⊢ iprop(rPt c (win b 1).view.set ((win b 1).view.write (Elt F) g ((srcm hbM0_1 e he).view.read (Elt F) f1) Finset.univ) ∗ (hbM0_1.view.loc (c : Thread nD τ) ↦[(srcm hbM0_1 e he).view.set]{fullShare} f1)) from by unfold deliv; exact .rfl) $$ HD1
  ihave HD2 := (show deliv c b e he g f0 f1 f2 2 ⊢ iprop(rPt c (win b 2).view.set ((win b 2).view.write (Elt F) g ((srcm hbM0_2 e he).view.read (Elt F) f2) Finset.univ) ∗ (hbM0_2.view.loc (c : Thread nD τ) ↦[(srcm hbM0_2 e he).view.set]{fullShare} f2)) from by unfold deliv; exact .rfl) $$ HD2
  icases HD0 with ⟨HR0, H0⟩
  icases HD1 with ⟨HR1, H1⟩
  icases HD2 with ⟨HR2, H2⟩
  ihave HR := ring_join c b g _ _ _ $$ [HR HR0 HR1 HR2]
  · isplitl [HR0]; · iexact HR0
    isplitl [HR1]; · iexact HR1
    isplitl [HR2] <;> iassumption
  icases HR with ⟨%G, %hG, HR⟩
  rw [View.read_write_univ, View.read_write_univ, View.read_write_univ] at hG
  iapply Hk
  isplitl [HR]
  · iexists G
    isplitr; · ipureintro; exact hG
    iexact HR
  isplitl [H0 H0']
  · iapply (hb_join c hbM0_0 e he f0); isplitl [H0] <;> iassumption
  isplitl [H1 H1']
  · iapply (hb_join c hbM0_1 e he f1); isplitl [H1] <;> iassumption
  isplitl [H2 H2']
  · iapply (hb_join c hbM0_2 e he f2); isplitl [H2] <;> iassumption
  isplitl [Hv]; · iexact Hv
  iexists _; iexact HO

end Cert.ExpertsIdeal.Ex

end
-- ==== Proof.ExC.lean ====
/-
  The weights an expert brings, rounded, and the pieces of the body that wait for them, start the next expert's and
  round the arrived ones.
-/
module

public import proofs.«01_k».proof.Proof.ExB
public import Idealize.ShloMosaic.Lib.Pipeline.Value

@[expose] public section

set_option maxRecDepth 16384

noncomputable section

namespace Cert.ExpertsIdeal.Ex

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

/-- The other slot. -/
abbrev oth (b : Fin 2) : Fin 2 := ![1, 0] b
/-- The slot as a word. -/
abbrev sw (b : Fin 2) : BitVec 32 := ![0#32, 1#32] b

/-- Expert `e`'s matrix of a weight array, rounded. -/
def wt (M : Memref sig .tc .hbm S32x1024x1024 .f32) (e : BitVec 32) (he : e.toNat < 32) (f : HbBuf0 (F := F) c M) : FVec F S1024x1024 .bf16 :=
  truncf .bf16 (show FVec F S1024x1024 .f32 from (srcm M e he).view.read (Elt F) f) bitsLt_bf16_f32

theorem pay6_eq (b : Fin 2) (G : RBuf (F := F) c) :
    k0_pay6 (F := F) (scM0_0.view.readAt (Elt F) (wrect b 0).toLoadRect G) = truncf .bf16 (show FVec F S1024x1024 .f32 from (win b 0).view.read (Elt F) G) bitsLt_bf16_f32 := by
  unfold k0_pay6; dsimp only; rw [shapeCast_self]; rfl
theorem pay7_eq (b : Fin 2) (G : RBuf (F := F) c) :
    k0_pay7 (F := F) (scM0_0.view.readAt (Elt F) (wrect b 1).toLoadRect G) = truncf .bf16 (show FVec F S1024x1024 .f32 from (win b 1).view.read (Elt F) G) bitsLt_bf16_f32 := by
  unfold k0_pay7; dsimp only; rw [shapeCast_self]; rfl
theorem pay8_eq (b : Fin 2) (G : RBuf (F := F) c) :
    k0_pay8 (F := F) (scM0_0.view.readAt (Elt F) (wrect b 2).toLoadRect G) = truncf .bf16 (show FVec F S1024x1024 .f32 from (win b 2).view.read (Elt F) G) bitsLt_bf16_f32 := by
  unfold k0_pay8; dsimp only; rw [shapeCast_self]; rfl

/-- The whole of a rounded weight buffer, as the kernel loads it. -/
abbrev rW : Rect S1024x1024 := Rect.unit (s := S1024x1024) ![0, 0] S1024x1024.size inb_S1024x1024_S1024x1024_0_0
abbrev r1 : Rect S1 := Rect.unit (s := S1) ![0] S1.size inb_S1_S1_0

/-- A rounded weight buffer holding `w`. -/
def wPt (M : Memref sig .tc .vmem S1024x1024 .bf16) (w : FVec F S1024x1024 .bf16) : sProp 𝕄 :=
  iprop(∃ f : Buf (Elt F) (M.view.loc (c : Thread nD τ)), ⌜M.view.readAt (Elt F) rW.toLoadRect f = w⌝ ∗ M.view.loc (c : Thread nD τ) ↦{fullShare} f)
/-- A rounded weight buffer at anything. -/
def wAny (M : Memref sig .tc .vmem S1024x1024 .bf16) : sProp 𝕄 :=
  iprop(∃ f : Buf (Elt F) (M.view.loc (c : Thread nD τ)), M.view.loc (c : Thread nD τ) ↦{fullShare} f)
/-- The slot word. -/
def sPt (w : BitVec 32) : sProp 𝕄 :=
  iprop(∃ f : Buf (Elt F) (scM0_4.view.loc (c : Thread nD τ)), ⌜∀ x, scM0_4.view.readAt (Elt F) r1.toLoadRect f x = w⌝ ∗ scM0_4.view.loc (c : Thread nD τ) ↦{fullShare} f)

/-- The ring at `g`, the weight arrays, and slot `b`'s semaphore: the copies of the next run's expert in flight when
    there is a next run (`r < n`), all idle otherwise. -/
def Fl (b : Fin 2) (xt : TbBuf0 (F := F) c tbM0_0) (hT : ∀ k, (T c xt k).toNat < 32) (n r : ℕ) (f0 : HbBuf0 (F := F) c hbM0_0) (f1 : HbBuf0 (F := F) c hbM0_1) (f2 : HbBuf0 (F := F) c hbM0_2) (g : RBuf (F := F) c) : sProp 𝕄 :=
  if r < n then InG c b (T c xt r) (hT r) f0 f1 f2 g
  else iprop(rPt c Finset.univ g ∗ hbPt0 c hbM0_0 f0 ∗ hbPt0 c hbM0_1 f1 ∗ hbPt0 c hbM0_2 f2 ∗ semVal ((c : Thread nD τ), SemLoc.dma (dm b)) 0)

theorem oth_sep : ∀ b : Fin 2, b.val + 1 ≤ (oth b).val ∨ (oth b).val + 1 ≤ b.val := by decide
theorem slot_disj (b : Fin 2) (t t' : Fin 3) : Disjoint (scM0_0.view.slice (wrect b t)).set (win (oth b) t').view.set := by
  rw [win_set]
  exact View.disjoint_slice_of_sep scM0_0.view (wrect b t) (wrect (oth b) t') (0 : Fin 4) rfl rfl (oth_sep b)
theorem slot_sub' (b : Fin 2) (t : Fin 3) : (scM0_0.view.slice (wrect b t)).set ⊆ rest3 c (oth b) :=
  Finset.subset_sdiff.mpr ⟨Finset.subset_sdiff.mpr ⟨Finset.subset_sdiff.mpr ⟨Finset.subset_univ _, slot_disj b t 0⟩, slot_disj b t 1⟩, slot_disj b t 2⟩
theorem slot_sub (b : Fin 2) (t : Fin 3) : scM0_0.view.setOn (wrect b t).toLoadRect.set ⊆ rest3 c (oth b) := by
  have h := slot_sub' c b t
  rwa [View.set_slice] at h

/-- A load of a window of slot `b` while the other slot may be in flight. -/
theorem fl_load (v : Option ℕ) (b : Fin 2) (t : Fin 3) (xt : TbBuf0 (F := F) c tbM0_0) (hT : ∀ k, (T c xt k).toNat < 32) (n r : ℕ) (f0 : HbBuf0 (F := F) c hbM0_0) (f1 : HbBuf0 (F := F) c hbM0_1) (f2 : HbBuf0 (F := F) c hbM0_2) (g : RBuf (F := F) c)
    {α : Type} (Q : α → sProp 𝕄) (hl : scM0_0.view.LoadsAt (wrect b t).toLoadRect) (k : ((wrect b t).toLoadRect.shape.Idx → Elt F .f32) → Prog (TpuEff nD τ sig (Elt F) (Λ₀ F) .tc) α) :
    Fl c (oth b) xt hT n r f0 f1 f2 g ⊢ iprop((Fl c (oth b) xt hT n r f0 f1 f2 g -∗ wp frame (wpE (defs₀ (F := F)) 𝒱₀ (c : Thread nD τ) v) Set.univ (k (scM0_0.view.readAt (Elt F) (wrect b t).toLoadRect g)) Q)
      -∗ wp frame (wpE (defs₀ (F := F)) 𝒱₀ (c : Thread nD τ) v) Set.univ (.op (.load scM0_0 (wrect b t).toLoadRect hl) k) Q) := by
  unfold Fl
  split
  · unfold InG
    iintro ⟨HB, HR, H⟩ Hk
    iapply (wp_load 𝒱₀ (c : Thread nD τ) v Set.univ (m := scM0_0) (slot_sub c b t)) $$ HR; iintro HR
    iapply Hk
    isplitl [HB]; · iexact HB
    isplitl [HR]; · iexact HR
    iexact H
  · iintro ⟨HR, H⟩ Hk
    iapply (wp_load 𝒱₀ (c : Thread nD τ) v Set.univ (m := scM0_0) (Finset.subset_univ _)) $$ HR; iintro HR
    iapply Hk
    isplitl [HR]; · iexact HR
    iexact H

theorem chk3_ok (i : grid0.Coords) (v0 v2 v4 v18 : BitVec 32) (b : Fin 2) : k0_chk3 i v0 v2 v4 v18 (sw b) := by
  have h : sw b = 0#32 ∨ sw b = 1#32 := by fin_cases b; exact .inl rfl; exact .inr rfl
  unfold k0_chk3
  rcases h with h | h <;> rw [h] <;>
    exact ⟨fun _ _ => by decide +kernel, fun _ _ => by decide +kernel, fun _ _ => by decide +kernel, fun _ _ => by decide +kernel, fun _ _ _ => by decide +kernel, fun _ _ _ => by decide +kernel,
      fun _ _ _ => by decide +kernel, fun _ _ _ => by decide +kernel, fun _ _ _ => by decide +kernel, fun _ _ => by decide +kernel, fun _ _ => by decide +kernel, fun _ _ => by decide +kernel⟩

end Cert.ExpertsIdeal.Ex

end
-- ==== Proof.ExD.lean ====
/-
  The body's conditions on words, and the piece that waits for a run's expert and starts the next run's.
-/
module

public import proofs.«01_k».proof.Proof.ExC

@[expose] public section

set_option maxRecDepth 16384

noncomputable section

namespace Cert.ExpertsIdeal.Ex

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

theorem ne_ext (b : BitVec 1) : Scalar.cmpi .ne (Scalar.extui b : BitVec 32) 0#32 = 1#1 ↔ b = 1#1 := by
  revert b; decide +kernel
theorem ori_iff (a b : BitVec 1) : Scalar.ori a b = 1#1 ↔ a = 1#1 ∨ b = 1#1 := by
  revert a b; decide
theorem ne_iff (a b : BitVec 32) : Scalar.cmpi .ne a b = 1#1 ↔ a ≠ b := by
  show IntOp.cmpi .ne a b = 1#1 ↔ _
  rw [WordCmp.cmpi_ne_eq, WordCmp.ofBool_decide_eq_one_iff]
theorem sge_iff {a b : ℕ} (ha : a < 2 ^ 31) (hb : b < 2 ^ 31) : Scalar.cmpi .sge (BitVec.ofNat 32 a) (BitVec.ofNat 32 b) = 1#1 ↔ b ≤ a := by
  show IntOp.cmpi .sge (BitVec.ofNat 32 a) (BitVec.ofNat 32 b) = 1#1 ↔ _
  exact WordCmp.cmpi_sge_ofNat_eq_one_iff ha hb

theorem i_lt (i : grid0.Coords) : (i 0).val < 160 := (i 0).isLt
theorem cond1_iff (i : grid0.Coords) (n : ℕ) (hn : n ≤ 160) : k0_cond1 i (BitVec.ofNat 32 n) = 1#1 ↔ (i 0).val < n := by
  have := i_lt i
  unfold k0_cond1; dsimp only; rw [ne_ext, slt_iff _ _ (by omega) (by omega)]
theorem cond5_iff (i : grid0.Coords) (n : ℕ) (hn : n ≤ 160) : k0_cond5 i (BitVec.ofNat 32 n) = 1#1 ↔ n ≤ (i 0).val := by
  have := i_lt i
  unfold k0_cond5; dsimp only; rw [ne_ext, sge_iff (by omega) (by omega)]
theorem cond4_iff (n r : ℕ) (hn : n ≤ 160) (hr : r ≤ 160) : k0_cond4 (BitVec.ofNat 32 n) (BitVec.ofNat 32 r) = 1#1 ↔ r < n := by
  unfold k0_cond4; dsimp only; rw [ne_ext, slt_iff _ _ (by omega) (by omega)]
theorem cond2_iff (i : grid0.Coords) : k0_cond2 i = 1#1 ↔ (i 0).val = 0 := by
  have h : ∀ a : Fin 160, Scalar.cmpi .ne (Scalar.extui (Scalar.cmpi .eq (BitVec.ofNat 32 a.val) 0#32) : BitVec 32) 0#32 = 1#1 ↔ a.val = 0 := by decide +kernel
  exact h ⟨(i 0).val, i_lt i⟩
theorem cond3_iff (i : grid0.Coords) (a b : BitVec 32) : k0_cond3 i a b = 1#1 ↔ (i 0).val = 0 ∨ a ≠ b := by
  have h : ∀ a : Fin 160, Scalar.cmpi .eq (BitVec.ofNat 32 a.val) 0#32 = 1#1 ↔ a.val = 0 := by decide +kernel
  unfold k0_cond3; dsimp only; rw [ne_ext, ori_iff, ne_iff]; exact or_congr (h ⟨(i 0).val, i_lt i⟩) Iff.rfl
theorem off4_eq (i : grid0.Coords) : k0_off4 i 0 = min ((i 0).val - 1) 159 := by
  have h : ∀ a : Fin 160, (Scalar.indexCast (Scalar.maxsi (Scalar.subi (BitVec.ofNat 32 a.val) 1#32) 0#32) : Index).toNat = min (a.val - 1) 159 := by decide +kernel
  exact h ⟨(i 0).val, i_lt i⟩
theorem off1_eq (i : grid0.Coords) : k0_off1 i 0 = min (i 0).val 159 := by
  have := i_lt i
  rw [k0_off1_eq]; show (i 0).val = _; omega
theorem off10_eq (j : ℕ) (hj : j ≤ 160) : k0_off10 (BitVec.ofNat 32 j) 0 = min j 159 := by
  have : ∀ j : Fin 161, k0_off10 (BitVec.ofNat 32 j.val) 0 = min j.val 159 := by decide +kernel
  exact this ⟨j, by omega⟩
theorem chk2_ok (i : grid0.Coords) (v0 e : BitVec 32) (he : e.toNat < 32) : k0_chk2 i v0 e := fun _ _ => src_inb e he
theorem chk5_ok (i : grid0.Coords) (v0 v2 v4 v18 e : BitVec 32) (he : e.toNat < 32) : k0_chk5 i v0 v2 v4 v18 e := fun _ _ _ => src_inb e he
theorem chk4_ok (i : grid0.Coords) (v0 e v18 : BitVec 32) (he : e.toNat < 32) (r : ℕ) (hr : r ≤ 160) : k0_chk4 i v0 e (BitVec.ofNat 32 r) v18 :=
  ⟨fun _ _ => src_inb e he, fun _ _ _ a => by
    obtain rfl : a = 0 := Subsingleton.elim _ _
    rw [off10_eq r hr]; show min r 159 + 1 ≤ 160; omega⟩

theorem w_back (M : Memref sig .tc .vmem S1024x1024 .bf16) (f : Buf (Elt F) (M.view.loc (c : Thread nD τ))) (w : FVec F S1024x1024 .bf16) :
    M.view.readAt (Elt F) rW.toLoadRect ((M.access rW).write (Elt F) f w Finset.univ) = w := View.read_write_univ (v := M.access rW) (Val := Elt F) f w

/-- A rounded weight buffer read (to nothing) and stored. -/
theorem w_store (v : Option ℕ) (M : Memref sig .tc .vmem S1024x1024 .bf16) (w : FVec F S1024x1024 .bf16) {α : Type} (Q : α → sProp 𝕄)
    (hl : M.view.LoadsAt rW.toLoadRect) (h1) (h2) (k : Prog (TpuEff nD τ sig (Elt F) (Λ₀ F) .tc) α) :
    wAny (F := F) c M ⊢ iprop((wPt c M w -∗ wp frame (wpE (defs₀ (F := F)) 𝒱₀ (c : Thread nD τ) v) Set.univ k Q)
      -∗ wp frame (wpE (defs₀ (F := F)) 𝒱₀ (c : Thread nD τ) v) Set.univ (.op (.load M rW.toLoadRect hl) fun _ => .op (.store M rW w Finset.univ h1 h2) fun _ => k) Q) := by
  unfold wAny wPt
  iintro ⟨%f, H⟩ Hk
  iapply (wp_load 𝒱₀ (c : Thread nD τ) v Set.univ (m := M) (Finset.subset_univ _)) $$ H; iintro H
  iapply (wp_store 𝒱₀ (c : Thread nD τ) v Set.univ (m := M) (r := rW) (Mk := Finset.univ) (Finset.subset_univ _)) $$ H; iintro H
  iapply Hk
  iexists _; isplitr; · ipureintro; exact w_back c M f w
  iexact H

theorem s_back (f : Buf (Elt F) (scM0_4.view.loc (c : Thread nD τ))) (w : BitVec 32) (x) :
    scM0_4.view.readAt (Elt F) r1.toLoadRect ((scM0_4.access r1).write (Elt F) f (fun _ => w) Finset.univ) x = w :=
  congrFun (View.read_write_univ (v := scM0_4.access r1) (Val := Elt F) f (fun _ => w)) x

/-- The slot word read (to nothing) and stored. -/
theorem s_store (v : Option ℕ) (f : Buf (Elt F) (scM0_4.view.loc (c : Thread nD τ))) (w : BitVec 32) {α : Type} (Q : α → sProp 𝕄)
    (hl : scM0_4.view.LoadsAt r1.toLoadRect) (h1) (h2) (k : Prog (TpuEff nD τ sig (Elt F) (Λ₀ F) .tc) α) :
    (scM0_4.view.loc (c : Thread nD τ) ↦{fullShare} f) ⊢ iprop((sPt (F := F) c w -∗ wp frame (wpE (defs₀ (F := F)) 𝒱₀ (c : Thread nD τ) v) Set.univ k Q)
      -∗ wp frame (wpE (defs₀ (F := F)) 𝒱₀ (c : Thread nD τ) v) Set.univ (.op (.load scM0_4 r1.toLoadRect hl) fun _ => .op (.store scM0_4 r1 (fun _ => w) Finset.univ h1 h2) fun _ => k) Q) := by
  unfold sPt
  iintro H Hk
  iapply (wp_load 𝒱₀ (c : Thread nD τ) v Set.univ (m := scM0_4) (Finset.subset_univ _)) $$ H; iintro H
  iapply (wp_store 𝒱₀ (c : Thread nD τ) v Set.univ (m := scM0_4) (r := r1) (Mk := Finset.univ) (Finset.subset_univ _)) $$ H; iintro H
  iapply Hk
  iexists _; isplitr; · ipureintro; exact fun x => s_back c f w x
  iexact H

set_option maxHeartbeats 600000 in
/-- The piece at slot 0: it waits for the expert in flight, starts the next run's copies into the other slot and rounds
    the gate matrix. -/
theorem part1_0 (v : Option ℕ) (i : grid0.Coords) (arg3 : Memref sig .tc .vmem S4096x128 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg10 : Memref sig .tc .vmem S4096x128 .f32) (harg10 : arg10.IsWhole) (n r : ℕ) (hn : n ≤ 160) (hr : r ≤ 160) (e v18 : BitVec 32) (he : e.toNat < 32)
    (h1 : k0_cond1 i (BitVec.ofNat 32 n) = 1#1) (hw4 : k0_chk4 i (BitVec.ofNat 32 n) e (BitVec.ofNat 32 r) v18) (h3 : k0_cond3 i e v18 = 1#1)
    (xt : TbBuf0 (F := F) c tbM0_0) (hT : ∀ k, (T c xt k).toNat < 32) (f0 : HbBuf0 (F := F) c hbM0_0) (f1 : HbBuf0 (F := F) c hbM0_1) (f2 : HbBuf0 (F := F) c hbM0_2) (W : Waits sig Unit)
    (K : (Σ' (v81 : Elt F .i32), k0_chk3 i (BitVec.ofNat 32 n) e (BitVec.ofNat 32 r) v18 v81) → sProp 𝕄) :
    iprop(tbPt0 c tbM0_0 xt ∗ sPt (F := F) c (sw 0) ∗ (∃ g : RBuf (F := F) c, InG c 0 e he f0 f1 f2 g) ∗ semVal ((c : Thread nD τ), SemLoc.dma (dm (oth 0))) 0 ∗ wAny (F := F) c scM0_1 ∗ owes (c : Thread nD τ) 0 W
      ∗ (∀ (hw3 : k0_chk3 i (BitVec.ofNat 32 n) e (BitVec.ofNat 32 r) v18 (sw 0)) (G : RBuf (F := F) c), ⌜Landed c 0 e he f0 f1 f2 G⌝ -∗ tbPt0 c tbM0_0 xt -∗ sPt (F := F) c (sw 0) -∗ Fl c (oth 0) xt hT n r f0 f1 f2 G
          -∗ semVal ((c : Thread nD τ), SemLoc.dma (dm 0)) 0 -∗ wPt c scM0_1 (wt c hbM0_0 e he f0) -∗ (∃ W', owes (c : Thread nD τ) 0 W') -∗ K ⟨sw 0, hw3⟩))
      ⊢ wp frame (wpE (defs₀ (F := F)) 𝒱₀ (c : Thread nD τ) v) Set.univ (k0_part1 (F := F) i tbM0_0 htbM0_0 tbM0_1 htbM0_1 arg3 harg3 arg4 harg4 arg5 harg5 arg6 harg6 hbM0_0 (Memref.isWhole_whole _) hbM0_1 (Memref.isWhole_whole _) hbM0_2 (Memref.isWhole_whole _) arg10 harg10 scM0_0 (Memref.isWhole_whole _) scM0_1 (Memref.isWhole_whole _) scM0_2 (Memref.isWhole_whole _) scM0_3 (Memref.isWhole_whole _) scM0_4 (Memref.isWhole_whole _) cc0_scratch5 (BitVec.ofNat 32 n) e (BitVec.ofNat 32 r) h1 v18 hw4 h3) K := by
  simp only [k0_part1_eq_skeleton]; unfold k0_part1_skel
  simp only [smemLoad, smemLoadElt, Prog.lift, Prog.bind_op, Prog.bind_ret, Prog.pure_eq_ret]
  unfold sPt
  iintro ⟨HT, ⟨%fs, %hs, Hs⟩, HI, Hd, Ha, HO, HK⟩
  iapply (wp_load 𝒱₀ (c : Thread nD τ) v Set.univ (m := scM0_4) (Finset.subset_univ _)) $$ Hs; iintro Hs
  rw [hs _]
  iapply (wp_assume 𝒱₀ (c : Thread nD τ) v Set.univ (chk3_ok i (BitVec.ofNat 32 n) e (BitVec.ofNat 32 r) v18 0))
  iapply (wait3 c v 0 e he f0 f1 f2 W _ _ _ _ _ _ _ _) $$ [HI HO]
  · isplitl [HI] <;> iassumption
  iintro ⟨⟨%G, %hG, HR⟩, H0, H1, H2, Hd', HO⟩
  by_cases h4 : k0_cond4 (BitVec.ofNat 32 n) (BitVec.ofNat 32 r) = 1#1
  · rw [dif_pos h4]
    simp only [Prog.bind_op, Prog.bind_ret]
    have hrn := (cond4_iff n r hn hr).1 h4
    iapply (wp_load 𝒱₀ (c : Thread nD τ) v Set.univ (m := tbM0_0) (Finset.subset_univ _)) $$ HT; iintro HT
    rw [word_eq c xt _ _ _ r (off10_eq r hr)]
    iapply (wp_assume 𝒱₀ (c : Thread nD τ) v Set.univ (chk5_ok i (BitVec.ofNat 32 n) e (BitVec.ofNat 32 r) v18 _ (hT r)))
    iapply (start3 c v (oth 0) (T c xt r) (hT r) f0 f1 f2 G _ _ _ _ _ _ _ _ _ _ _) $$ [HR H0 H1 H2 Hd]
    · isplitl [HR]; · iexact HR
      isplitl [H0]; · iexact H0
      isplitl [H1]; · iexact H1
      isplitl [H2] <;> iassumption
    iintro HI
    ihave HF := (show InG c (oth 0) (T c xt r) (hT r) f0 f1 f2 G ⊢ Fl c (oth 0) xt hT n r f0 f1 f2 G from by unfold Fl; rw [if_pos hrn]) $$ HI
    iapply (fl_load c v 0 0 xt hT n r f0 f1 f2 G _ _ _) $$ HF; iintro HF
    iapply (w_store c v scM0_1 _ _ _ _ _ _) $$ Ha; iintro Ha
    rw [wp_ret]; imodintro
    iapply HK $$ [] HT [Hs] HF Hd' [Ha] HO
    · ipureintro; exact hG
    · iexists fs; isplitr; · ipureintro; exact hs
      iexact Hs
    · rw [show k0_pay6 (F := F) (scM0_0.view.readAt (Elt F) (wrect 0 0).toLoadRect G) = wt c hbM0_0 e he f0 from (pay6_eq c 0 G).trans (congrArg (fun m => truncf .bf16 m bitsLt_bf16_f32) hG.1)]
      iexact Ha
  · rw [dif_neg h4]
    simp only [Prog.bind_op, Prog.bind_ret]
    have hrn : ¬ r < n := fun h => h4 ((cond4_iff n r hn hr).2 h)
    ihave HF := (show iprop(rPt c Finset.univ G ∗ hbPt0 c hbM0_0 f0 ∗ hbPt0 c hbM0_1 f1 ∗ hbPt0 c hbM0_2 f2 ∗ semVal ((c : Thread nD τ), SemLoc.dma (dm (oth 0))) 0) ⊢ Fl c (oth 0) xt hT n r f0 f1 f2 G from by unfold Fl; rw [if_neg hrn]) $$ [HR H0 H1 H2 Hd]
    · isplitl [HR]; · iexact HR
      isplitl [H0]; · iexact H0
      isplitl [H1]; · iexact H1
      isplitl [H2] <;> iassumption
    iapply (fl_load c v 0 0 xt hT n r f0 f1 f2 G _ _ _) $$ HF; iintro HF
    iapply (w_store c v scM0_1 _ _ _ _ _ _) $$ Ha; iintro Ha
    rw [wp_ret]; imodintro
    iapply HK $$ [] HT [Hs] HF Hd' [Ha] HO
    · ipureintro; exact hG
    · iexists fs; isplitr; · ipureintro; exact hs
      iexact Hs
    · rw [show k0_pay6 (F := F) (scM0_0.view.readAt (Elt F) (wrect 0 0).toLoadRect G) = wt c hbM0_0 e he f0 from (pay6_eq c 0 G).trans (congrArg (fun m => truncf .bf16 m bitsLt_bf16_f32) hG.1)]
      iexact Ha

set_option maxHeartbeats 600000 in
/-- The piece at slot 1: it waits for the expert in flight, starts the next run's copies into the other slot and rounds
    the gate matrix. -/
theorem part1_1 (v : Option ℕ) (i : grid0.Coords) (arg3 : Memref sig .tc .vmem S4096x128 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg10 : Memref sig .tc .vmem S4096x128 .f32) (harg10 : arg10.IsWhole) (n r : ℕ) (hn : n ≤ 160) (hr : r ≤ 160) (e v18 : BitVec 32) (he : e.toNat < 32)
    (h1 : k0_cond1 i (BitVec.ofNat 32 n) = 1#1) (hw4 : k0_chk4 i (BitVec.ofNat 32 n) e (BitVec.ofNat 32 r) v18) (h3 : k0_cond3 i e v18 = 1#1)
    (xt : TbBuf0 (F := F) c tbM0_0) (hT : ∀ k, (T c xt k).toNat < 32) (f0 : HbBuf0 (F := F) c hbM0_0) (f1 : HbBuf0 (F := F) c hbM0_1) (f2 : HbBuf0 (F := F) c hbM0_2) (W : Waits sig Unit)
    (K : (Σ' (v81 : Elt F .i32), k0_chk3 i (BitVec.ofNat 32 n) e (BitVec.ofNat 32 r) v18 v81) → sProp 𝕄) :
    iprop(tbPt0 c tbM0_0 xt ∗ sPt (F := F) c (sw 1) ∗ (∃ g : RBuf (F := F) c, InG c 1 e he f0 f1 f2 g) ∗ semVal ((c : Thread nD τ), SemLoc.dma (dm (oth 1))) 0 ∗ wAny (F := F) c scM0_1 ∗ owes (c : Thread nD τ) 0 W
      ∗ (∀ (hw3 : k0_chk3 i (BitVec.ofNat 32 n) e (BitVec.ofNat 32 r) v18 (sw 1)) (G : RBuf (F := F) c), ⌜Landed c 1 e he f0 f1 f2 G⌝ -∗ tbPt0 c tbM0_0 xt -∗ sPt (F := F) c (sw 1) -∗ Fl c (oth 1) xt hT n r f0 f1 f2 G
          -∗ semVal ((c : Thread nD τ), SemLoc.dma (dm 1)) 0 -∗ wPt c scM0_1 (wt c hbM0_0 e he f0) -∗ (∃ W', owes (c : Thread nD τ) 0 W') -∗ K ⟨sw 1, hw3⟩))
      ⊢ wp frame (wpE (defs₀ (F := F)) 𝒱₀ (c : Thread nD τ) v) Set.univ (k0_part1 (F := F) i tbM0_0 htbM0_0 tbM0_1 htbM0_1 arg3 harg3 arg4 harg4 arg5 harg5 arg6 harg6 hbM0_0 (Memref.isWhole_whole _) hbM0_1 (Memref.isWhole_whole _) hbM0_2 (Memref.isWhole_whole _) arg10 harg10 scM0_0 (Memref.isWhole_whole _) scM0_1 (Memref.isWhole_whole _) scM0_2 (Memref.isWhole_whole _) scM0_3 (Memref.isWhole_whole _) scM0_4 (Memref.isWhole_whole _) cc0_scratch5 (BitVec.ofNat 32 n) e (BitVec.ofNat 32 r) h1 v18 hw4 h3) K := by
  simp only [k0_part1_eq_skeleton]; unfold k0_part1_skel
  simp only [smemLoad, smemLoadElt, Prog.lift, Prog.bind_op, Prog.bind_ret, Prog.pure_eq_ret]
  unfold sPt
  iintro ⟨HT, ⟨%fs, %hs, Hs⟩, HI, Hd, Ha, HO, HK⟩
  iapply (wp_load 𝒱₀ (c : Thread nD τ) v Set.univ (m := scM0_4) (Finset.subset_univ _)) $$ Hs; iintro Hs
  rw [hs _]
  iapply (wp_assume 𝒱₀ (c : Thread nD τ) v Set.univ (chk3_ok i (BitVec.ofNat 32 n) e (BitVec.ofNat 32 r) v18 1))
  iapply (wait3 c v 1 e he f0 f1 f2 W _ _ _ _ _ _ _ _) $$ [HI HO]
  · isplitl [HI] <;> iassumption
  iintro ⟨⟨%G, %hG, HR⟩, H0, H1, H2, Hd', HO⟩
  by_cases h4 : k0_cond4 (BitVec.ofNat 32 n) (BitVec.ofNat 32 r) = 1#1
  · rw [dif_pos h4]
    simp only [Prog.bind_op, Prog.bind_ret]
    have hrn := (cond4_iff n r hn hr).1 h4
    iapply (wp_load 𝒱₀ (c : Thread nD τ) v Set.univ (m := tbM0_0) (Finset.subset_univ _)) $$ HT; iintro HT
    rw [word_eq c xt _ _ _ r (off10_eq r hr)]
    iapply (wp_assume 𝒱₀ (c : Thread nD τ) v Set.univ (chk5_ok i (BitVec.ofNat 32 n) e (BitVec.ofNat 32 r) v18 _ (hT r)))
    iapply (start3 c v (oth 1) (T c xt r) (hT r) f0 f1 f2 G _ _ _ _ _ _ _ _ _ _ _) $$ [HR H0 H1 H2 Hd]
    · isplitl [HR]; · iexact HR
      isplitl [H0]; · iexact H0
      isplitl [H1]; · iexact H1
      isplitl [H2] <;> iassumption
    iintro HI
    ihave HF := (show InG c (oth 1) (T c xt r) (hT r) f0 f1 f2 G ⊢ Fl c (oth 1) xt hT n r f0 f1 f2 G from by unfold Fl; rw [if_pos hrn]) $$ HI
    iapply (fl_load c v 1 0 xt hT n r f0 f1 f2 G _ _ _) $$ HF; iintro HF
    iapply (w_store c v scM0_1 _ _ _ _ _ _) $$ Ha; iintro Ha
    rw [wp_ret]; imodintro
    iapply HK $$ [] HT [Hs] HF Hd' [Ha] HO
    · ipureintro; exact hG
    · iexists fs; isplitr; · ipureintro; exact hs
      iexact Hs
    · rw [show k0_pay6 (F := F) (scM0_0.view.readAt (Elt F) (wrect 1 0).toLoadRect G) = wt c hbM0_0 e he f0 from (pay6_eq c 1 G).trans (congrArg (fun m => truncf .bf16 m bitsLt_bf16_f32) hG.1)]
      iexact Ha
  · rw [dif_neg h4]
    simp only [Prog.bind_op, Prog.bind_ret]
    have hrn : ¬ r < n := fun h => h4 ((cond4_iff n r hn hr).2 h)
    ihave HF := (show iprop(rPt c Finset.univ G ∗ hbPt0 c hbM0_0 f0 ∗ hbPt0 c hbM0_1 f1 ∗ hbPt0 c hbM0_2 f2 ∗ semVal ((c : Thread nD τ), SemLoc.dma (dm (oth 1))) 0) ⊢ Fl c (oth 1) xt hT n r f0 f1 f2 G from by unfold Fl; rw [if_neg hrn]) $$ [HR H0 H1 H2 Hd]
    · isplitl [HR]; · iexact HR
      isplitl [H0]; · iexact H0
      isplitl [H1]; · iexact H1
      isplitl [H2] <;> iassumption
    iapply (fl_load c v 1 0 xt hT n r f0 f1 f2 G _ _ _) $$ HF; iintro HF
    iapply (w_store c v scM0_1 _ _ _ _ _ _) $$ Ha; iintro Ha
    rw [wp_ret]; imodintro
    iapply HK $$ [] HT [Hs] HF Hd' [Ha] HO
    · ipureintro; exact hG
    · iexists fs; isplitr; · ipureintro; exact hs
      iexact Hs
    · rw [show k0_pay6 (F := F) (scM0_0.view.readAt (Elt F) (wrect 1 0).toLoadRect G) = wt c hbM0_0 e he f0 from (pay6_eq c 1 G).trans (congrArg (fun m => truncf .bf16 m bitsLt_bf16_f32) hG.1)]
      iexact Ha

end Cert.ExpertsIdeal.Ex

end
-- ==== Proof.ExE.lean ====
/-
  The body's second piece: at a new run it takes the expert in flight, and then it reads the token rows and forms the
  gate product.
-/
module

public import proofs.«01_k».proof.Proof.ExD

@[expose] public section

set_option maxRecDepth 16384

noncomputable section

namespace Cert.ExpertsIdeal.Ex

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

theorem srow_inb (j : ℕ) (hj : j < 8) : ∀ a : Fin 2, S512x128.size a = 0 ∨ (![j, 0] : Fin 2 → ℕ) a + (![8, 1] : Fin 2 → ℕ) a * (S512x128.size a - 1) < S4096x128.size a := by
  intro a
  match a with
  | ⟨0, _⟩ => right; show j + 8 * 511 < 4096; omega
  | ⟨1, _⟩ => right; show 0 + 1 * 127 < 128; omega

/-- The rows of a token tile whose number is `j` modulo 8. -/
abbrev srow (j : ℕ) (hj : j < 8) : Rect S4096x128 := ⟨(⟨![j, 0], S512x128.size, ![8, 1], srow_inb j hj⟩ : LoadRect S4096x128), spos_8_1⟩

/-- A bias row, whole. -/
abbrev rB : Rect S1x1x1024 := Rect.unit (s := S1x1x1024) ![0, 0, 0] S1x1x1024.size inb_S1x1x1024_S1x1x1024_0_0_0

section loads
variable {c}
/-- A token tile's rows, as the kernel loads them. -/
abbrev Ld (a : Memref sig .tc .vmem S4096x128 .f32) (g : Buf (Elt F) (a.view.loc (c : Thread nD τ))) (j : ℕ) (hj : j < 8 := by decide) : Vec F S512x128 .f32 := a.view.readAt (Elt F) (srow j hj).toLoadRect g
abbrev P9 (a : Memref sig .tc .vmem S4096x128 .f32) (g : Buf (Elt F) (a.view.loc (c : Thread nD τ))) : FVec F S512x1024 .bf16 :=
  k0_pay9 (Ld a g 0) (Ld a g 1) (Ld a g 2) (Ld a g 3) (Ld a g 4) (Ld a g 5) (Ld a g 6) (Ld a g 7)
abbrev Lb (a : Memref sig .tc .vmem S1x1x1024 .f32) (g : Buf (Elt F) (a.view.loc (c : Thread nD τ))) : Vec F S1x1x1024 .f32 := a.view.readAt (Elt F) rB.toLoadRect g
abbrev P10 (a : Memref sig .tc .vmem S4096x128 .f32) (g : Buf (Elt F) (a.view.loc (c : Thread nD τ))) (a4 : Memref sig .tc .vmem S1x1x1024 .f32) (g4 : Buf (Elt F) (a4.view.loc (c : Thread nD τ))) (w : FVec F S1024x1024 .bf16) : FVec F S512x1024 .f32 :=
  k0_pay10 (Ld a g 0) (Ld a g 1) (Ld a g 2) (Ld a g 3) (Ld a g 4) (Ld a g 5) (Ld a g 6) (Ld a g 7) w (Lb a4 g4)
end loads

set_option maxHeartbeats 600000 in
/-- Within a run: nothing is taken. -/
theorem part2_same (v : Option ℕ) (i : grid0.Coords) (arg3 : Memref sig .tc .vmem S4096x128 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg10 : Memref sig .tc .vmem S4096x128 .f32) (harg10 : arg10.IsWhole) (n r : ℕ) (hn : n ≤ 160) (hr : r ≤ 160) (e : BitVec 32) (he : e.toNat < 32) (a0 : BitVec 32)
    (hw2 : k0_chk2 i (BitVec.ofNat 32 n) e) (h1 : k0_cond1 i (BitVec.ofNat 32 n) = 1#1) (xt : TbBuf0 (F := F) c tbM0_0) (hT : ∀ k, (T c xt k).toNat < 32)
    (hi : (i 0).val ≠ 0) (hs : e = T c xt ((i 0).val - 1)) (wg : FVec F S1024x1024 .bf16) (g3 : Buf (Elt F) (arg3.view.loc (c : Thread nD τ))) (g4 : Buf (Elt F) (arg4.view.loc (c : Thread nD τ))) (K : (Σ' (v32 : FVec F S512x1024 .bf16), FVec F S512x1024 .f32) → sProp 𝕄) :
    iprop(tbPt0 c tbM0_0 xt ∗ wPt c scM0_1 wg ∗ (arg3.view.loc (c : Thread nD τ) ↦{fullShare} g3) ∗ (arg4.view.loc (c : Thread nD τ) ↦{fullShare} g4)
      ∗ (tbPt0 c tbM0_0 xt -∗ wPt c scM0_1 wg -∗ (arg3.view.loc (c : Thread nD τ) ↦{fullShare} g3) -∗ (arg4.view.loc (c : Thread nD τ) ↦{fullShare} g4) -∗ K ⟨P9 arg3 g3, P10 arg3 g3 arg4 g4 wg⟩))
      ⊢ wp frame (wpE (defs₀ (F := F)) 𝒱₀ (c : Thread nD τ) v) Set.univ (k0_part2 (F := F) i tbM0_0 htbM0_0 tbM0_1 htbM0_1 arg3 harg3 arg4 harg4 arg5 harg5 arg6 harg6 hbM0_0 (Memref.isWhole_whole _) hbM0_1 (Memref.isWhole_whole _) hbM0_2 (Memref.isWhole_whole _) arg10 harg10 scM0_0 (Memref.isWhole_whole _) scM0_1 (Memref.isWhole_whole _) scM0_2 (Memref.isWhole_whole _) scM0_3 (Memref.isWhole_whole _) scM0_4 (Memref.isWhole_whole _) cc0_scratch5 a0 (BitVec.ofNat 32 n) e hw2 (BitVec.ofNat 32 r) h1) K := by
  simp only [k0_part2_eq_skeleton]; unfold k0_part2_skel
  simp only [smemLoad, smemLoadElt, Prog.lift, Prog.bind_op, Prog.bind_ret, Prog.pure_eq_ret]
  iintro ⟨HT, Hwg, H3, H4, HK⟩
  rw [dif_neg (fun h => hi ((cond2_iff i).1 h))]
  try rw [ret_bind']
  try simp only [Prog.bind_op, Prog.bind_ret]
  iapply (wp_load 𝒱₀ (c : Thread nD τ) v Set.univ (m := tbM0_0) (Finset.subset_univ _)) $$ HT; iintro HT
  rw [word_eq c xt _ _ _ ((i 0).val - 1) (off4_eq i)]
  iapply (wp_assume 𝒱₀ (c : Thread nD τ) v Set.univ (chk4_ok i (BitVec.ofNat 32 n) e _ he r hr))
  rw [dif_neg (fun h => ((cond3_iff i _ _).1 h).elim hi (fun h' => h' hs))]
  try rw [ret_bind']
  try simp only [Prog.bind_op, Prog.bind_ret]
  iterate 8 (iapply (wp_load 𝒱₀ (c : Thread nD τ) v Set.univ (m := arg3) (Finset.subset_univ _)) $$ H3; iintro H3)
  unfold wPt
  icases Hwg with ⟨%fg, %hfg, Hwg⟩
  iapply (wp_load 𝒱₀ (c : Thread nD τ) v Set.univ (m := scM0_1) (Finset.subset_univ _)) $$ Hwg; iintro Hwg
  rw [hfg]
  iapply (wp_load 𝒱₀ (c : Thread nD τ) v Set.univ (m := arg4) (Finset.subset_univ _)) $$ H4; iintro H4
  rw [wp_ret]; imodintro
  iapply HK $$ HT [Hwg] H3 H4
  iexists fg; isplitr; · ipureintro; exact hfg
  iexact Hwg

set_option maxHeartbeats 1000000 in
/-- The first tile: it starts the first expert's copies and takes them. -/
theorem part2_first (v : Option ℕ) (i : grid0.Coords) (arg3 : Memref sig .tc .vmem S4096x128 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg10 : Memref sig .tc .vmem S4096x128 .f32) (harg10 : arg10.IsWhole) (n r : ℕ) (hn : n ≤ 160) (hr : r ≤ 160) (e : BitVec 32) (he : e.toNat < 32) (a0 : BitVec 32)
    (hw2 : k0_chk2 i (BitVec.ofNat 32 n) e) (h1 : k0_cond1 i (BitVec.ofNat 32 n) = 1#1) (xt : TbBuf0 (F := F) c tbM0_0) (hT : ∀ k, (T c xt k).toNat < 32)
    (hi : (i 0).val = 0) (f0 : HbBuf0 (F := F) c hbM0_0) (f1 : HbBuf0 (F := F) c hbM0_1) (f2 : HbBuf0 (F := F) c hbM0_2) (W : Waits sig Unit) (g3 : Buf (Elt F) (arg3.view.loc (c : Thread nD τ))) (g4 : Buf (Elt F) (arg4.view.loc (c : Thread nD τ))) (K : (Σ' (v32 : FVec F S512x1024 .bf16), FVec F S512x1024 .f32) → sProp 𝕄) :
    iprop(tbPt0 c tbM0_0 xt ∗ ((∃ f : Buf (Elt F) (scM0_4.view.loc (c : Thread nD τ)), scM0_4.view.loc (c : Thread nD τ) ↦{fullShare} f) ∗ (∃ g, rPt c Finset.univ g) ∗ hbPt0 c hbM0_0 f0 ∗ hbPt0 c hbM0_1 f1 ∗ hbPt0 c hbM0_2 f2 ∗ semVal ((c : Thread nD τ), SemLoc.dma (dm 0)) 0) ∗ semVal ((c : Thread nD τ), SemLoc.dma (dm (oth 0))) 0 ∗ wAny (F := F) c scM0_1 ∗ wAny (F := F) c scM0_2 ∗ wAny (F := F) c scM0_3 ∗ owes (c : Thread nD τ) 0 W ∗ (arg3.view.loc (c : Thread nD τ) ↦{fullShare} g3) ∗ (arg4.view.loc (c : Thread nD τ) ↦{fullShare} g4)
      ∗ (tbPt0 c tbM0_0 xt -∗ sPt (F := F) c (sw (oth 0)) -∗ (∃ G, Fl c (oth 0) xt hT n r f0 f1 f2 G) -∗ semVal ((c : Thread nD τ), SemLoc.dma (dm 0)) 0
          -∗ wPt c scM0_1 (wt c hbM0_0 e he f0) -∗ wPt c scM0_2 (wt c hbM0_1 e he f1) -∗ wPt c scM0_3 (wt c hbM0_2 e he f2) -∗ (∃ W', owes (c : Thread nD τ) 0 W') -∗ (arg3.view.loc (c : Thread nD τ) ↦{fullShare} g3) -∗ (arg4.view.loc (c : Thread nD τ) ↦{fullShare} g4)
          -∗ K ⟨P9 arg3 g3, P10 arg3 g3 arg4 g4 (wt c hbM0_0 e he f0)⟩))
      ⊢ wp frame (wpE (defs₀ (F := F)) 𝒱₀ (c : Thread nD τ) v) Set.univ (k0_part2 (F := F) i tbM0_0 htbM0_0 tbM0_1 htbM0_1 arg3 harg3 arg4 harg4 arg5 harg5 arg6 harg6 hbM0_0 (Memref.isWhole_whole _) hbM0_1 (Memref.isWhole_whole _) hbM0_2 (Memref.isWhole_whole _) arg10 harg10 scM0_0 (Memref.isWhole_whole _) scM0_1 (Memref.isWhole_whole _) scM0_2 (Memref.isWhole_whole _) scM0_3 (Memref.isWhole_whole _) scM0_4 (Memref.isWhole_whole _) cc0_scratch5 a0 (BitVec.ofNat 32 n) e hw2 (BitVec.ofNat 32 r) h1) K := by
  simp only [k0_part2_eq_skeleton]; unfold k0_part2_skel
  simp only [smemLoad, smemLoadElt, Prog.lift, Prog.bind_op, Prog.bind_ret, Prog.pure_eq_ret]
  iintro ⟨HT, ⟨⟨%fs, Hs⟩, ⟨%g, HR⟩, Hb0, Hb1, Hb2, Hd0⟩, Hd, Hw1, Hw2, Hw3, HO, H3, H4, HK⟩
  rw [dif_pos ((cond2_iff i).2 hi)]
  try rw [ret_bind']
  try simp only [Prog.bind_op, Prog.bind_ret]
  iapply (s_store c v fs 0#32 _ _ _ _ _) $$ Hs; iintro Hs
  iapply (start3 c v 0 e he f0 f1 f2 g _ _ _ _ _ _ _ _ _ _ _) $$ [HR Hb0 Hb1 Hb2 Hd0]
  · isplitl [HR]; · iexact HR
    isplitl [Hb0]; · iexact Hb0
    isplitl [Hb1]; · iexact Hb1
    isplitl [Hb2] <;> iassumption
  iintro HI
  ihave HI := (show InG c 0 e he f0 f1 f2 g ⊢ iprop(∃ g : RBuf (F := F) c, InG c 0 e he f0 f1 f2 g) from by iintro H; iexists g; iexact H) $$ HI
  iapply (wp_load 𝒱₀ (c : Thread nD τ) v Set.univ (m := tbM0_0) (Finset.subset_univ _)) $$ HT; iintro HT
  rw [word_eq c xt _ _ _ ((i 0).val - 1) (off4_eq i)]
  iapply (wp_assume 𝒱₀ (c : Thread nD τ) v Set.univ (chk4_ok i (BitVec.ofNat 32 n) e _ he r hr))
  rw [dif_pos ((cond3_iff i _ _).2 (.inl hi))]
  rw [wp_bind]
  iapply (part1_0 c v i arg3 harg3 arg4 harg4 arg5 harg5 arg6 harg6 arg10 harg10 n r hn hr e _ he h1 _ _ xt hT f0 f1 f2 W _)
  isplitl [HT]; · iexact HT
  isplitl [Hs]; · iexact Hs
  isplitl [HI]; · iexact HI
  isplitl [Hd]; · iexact Hd
  isplitl [Hw1]; · iexact Hw1
  isplitl [HO]; · iexact HO
  iintro %hw3 %G %hG HT Hs HF Hd Hwg HO
  try rw [ret_bind']
  try simp only [Prog.bind_op, Prog.bind_ret]
  iapply (fl_load c v 0 1 xt hT n r f0 f1 f2 G _ _ _) $$ HF; iintro HF
  iapply (w_store c v scM0_2 _ _ _ _ _ _) $$ Hw2; iintro Hwu
  rw [show k0_pay7 (F := F) (scM0_0.view.readAt (Elt F) (wrect 0 1).toLoadRect G) = wt c hbM0_1 e he f1 from (pay7_eq c 0 G).trans (congrArg (fun m => truncf .bf16 m bitsLt_bf16_f32) hG.2.1)]
  iapply (fl_load c v 0 2 xt hT n r f0 f1 f2 G _ _ _) $$ HF; iintro HF
  iapply (w_store c v scM0_3 _ _ _ _ _ _) $$ Hw3; iintro Hwd
  rw [show k0_pay8 (F := F) (scM0_0.view.readAt (Elt F) (wrect 0 2).toLoadRect G) = wt c hbM0_2 e he f2 from (pay8_eq c 0 G).trans (congrArg (fun m => truncf .bf16 m bitsLt_bf16_f32) hG.2.2)]
  ihave Hs := (show sPt (F := F) c (sw 0) ⊢ iprop(∃ f : Buf (Elt F) (scM0_4.view.loc (c : Thread nD τ)), scM0_4.view.loc (c : Thread nD τ) ↦{fullShare} f) from by unfold sPt; iintro ⟨%f, -, H⟩; iexists f; iexact H) $$ Hs
  icases Hs with ⟨%fs', Hs⟩
  iapply (s_store c v fs' (sw (oth 0)) _ _ _ _ _) $$ Hs; iintro Hs
  try rw [wp_ret]
  try imodintro
  try rw [ret_bind']
  try simp only [Prog.bind_op, Prog.bind_ret]
  iterate 8 (iapply (wp_load 𝒱₀ (c : Thread nD τ) v Set.univ (m := arg3) (Finset.subset_univ _)) $$ H3; iintro H3)
  unfold wPt
  icases Hwg with ⟨%fg, %hfg, Hwg⟩
  iapply (wp_load 𝒱₀ (c : Thread nD τ) v Set.univ (m := scM0_1) (Finset.subset_univ _)) $$ Hwg; iintro Hwg
  rw [hfg]
  iapply (wp_load 𝒱₀ (c : Thread nD τ) v Set.univ (m := arg4) (Finset.subset_univ _)) $$ H4; iintro H4
  rw [wp_ret]; imodintro
  iapply HK $$ HT Hs [HF] Hd [Hwg] Hwu Hwd HO H3 H4
  · iexists G; iexact HF
  · iexists fg; isplitr; · ipureintro; exact hfg
    iexact Hwg

set_option maxHeartbeats 1000000 in
/-- A new run at slot 0. -/
theorem part2_new0 (v : Option ℕ) (i : grid0.Coords) (arg3 : Memref sig .tc .vmem S4096x128 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg10 : Memref sig .tc .vmem S4096x128 .f32) (harg10 : arg10.IsWhole) (n r : ℕ) (hn : n ≤ 160) (hr : r ≤ 160) (e : BitVec 32) (he : e.toNat < 32) (a0 : BitVec 32)
    (hw2 : k0_chk2 i (BitVec.ofNat 32 n) e) (h1 : k0_cond1 i (BitVec.ofNat 32 n) = 1#1) (xt : TbBuf0 (F := F) c tbM0_0) (hT : ∀ k, (T c xt k).toNat < 32)
    (hi : (i 0).val ≠ 0) (hs : e ≠ T c xt ((i 0).val - 1)) (f0 : HbBuf0 (F := F) c hbM0_0) (f1 : HbBuf0 (F := F) c hbM0_1) (f2 : HbBuf0 (F := F) c hbM0_2) (W : Waits sig Unit) (g3 : Buf (Elt F) (arg3.view.loc (c : Thread nD τ))) (g4 : Buf (Elt F) (arg4.view.loc (c : Thread nD τ))) (K : (Σ' (v32 : FVec F S512x1024 .bf16), FVec F S512x1024 .f32) → sProp 𝕄) :
    iprop(tbPt0 c tbM0_0 xt ∗ (sPt (F := F) c (sw 0) ∗ (∃ g : RBuf (F := F) c, InG c 0 e he f0 f1 f2 g)) ∗ semVal ((c : Thread nD τ), SemLoc.dma (dm (oth 0))) 0 ∗ wAny (F := F) c scM0_1 ∗ wAny (F := F) c scM0_2 ∗ wAny (F := F) c scM0_3 ∗ owes (c : Thread nD τ) 0 W ∗ (arg3.view.loc (c : Thread nD τ) ↦{fullShare} g3) ∗ (arg4.view.loc (c : Thread nD τ) ↦{fullShare} g4)
      ∗ (tbPt0 c tbM0_0 xt -∗ sPt (F := F) c (sw (oth 0)) -∗ (∃ G, Fl c (oth 0) xt hT n r f0 f1 f2 G) -∗ semVal ((c : Thread nD τ), SemLoc.dma (dm 0)) 0
          -∗ wPt c scM0_1 (wt c hbM0_0 e he f0) -∗ wPt c scM0_2 (wt c hbM0_1 e he f1) -∗ wPt c scM0_3 (wt c hbM0_2 e he f2) -∗ (∃ W', owes (c : Thread nD τ) 0 W') -∗ (arg3.view.loc (c : Thread nD τ) ↦{fullShare} g3) -∗ (arg4.view.loc (c : Thread nD τ) ↦{fullShare} g4)
          -∗ K ⟨P9 arg3 g3, P10 arg3 g3 arg4 g4 (wt c hbM0_0 e he f0)⟩))
      ⊢ wp frame (wpE (defs₀ (F := F)) 𝒱₀ (c : Thread nD τ) v) Set.univ (k0_part2 (F := F) i tbM0_0 htbM0_0 tbM0_1 htbM0_1 arg3 harg3 arg4 harg4 arg5 harg5 arg6 harg6 hbM0_0 (Memref.isWhole_whole _) hbM0_1 (Memref.isWhole_whole _) hbM0_2 (Memref.isWhole_whole _) arg10 harg10 scM0_0 (Memref.isWhole_whole _) scM0_1 (Memref.isWhole_whole _) scM0_2 (Memref.isWhole_whole _) scM0_3 (Memref.isWhole_whole _) scM0_4 (Memref.isWhole_whole _) cc0_scratch5 a0 (BitVec.ofNat 32 n) e hw2 (BitVec.ofNat 32 r) h1) K := by
  simp only [k0_part2_eq_skeleton]; unfold k0_part2_skel
  simp only [smemLoad, smemLoadElt, Prog.lift, Prog.bind_op, Prog.bind_ret, Prog.pure_eq_ret]
  iintro ⟨HT, ⟨Hs, HI⟩, Hd, Hw1, Hw2, Hw3, HO, H3, H4, HK⟩
  rw [dif_neg (fun h => hi ((cond2_iff i).1 h))]
  try rw [ret_bind']
  try simp only [Prog.bind_op, Prog.bind_ret]
  iapply (wp_load 𝒱₀ (c : Thread nD τ) v Set.univ (m := tbM0_0) (Finset.subset_univ _)) $$ HT; iintro HT
  rw [word_eq c xt _ _ _ ((i 0).val - 1) (off4_eq i)]
  iapply (wp_assume 𝒱₀ (c : Thread nD τ) v Set.univ (chk4_ok i (BitVec.ofNat 32 n) e _ he r hr))
  rw [dif_pos ((cond3_iff i _ _).2 (.inr hs))]
  rw [wp_bind]
  iapply (part1_0 c v i arg3 harg3 arg4 harg4 arg5 harg5 arg6 harg6 arg10 harg10 n r hn hr e _ he h1 _ _ xt hT f0 f1 f2 W _)
  isplitl [HT]; · iexact HT
  isplitl [Hs]; · iexact Hs
  isplitl [HI]; · iexact HI
  isplitl [Hd]; · iexact Hd
  isplitl [Hw1]; · iexact Hw1
  isplitl [HO]; · iexact HO
  iintro %hw3 %G %hG HT Hs HF Hd Hwg HO
  try rw [ret_bind']
  try simp only [Prog.bind_op, Prog.bind_ret]
  iapply (fl_load c v 0 1 xt hT n r f0 f1 f2 G _ _ _) $$ HF; iintro HF
  iapply (w_store c v scM0_2 _ _ _ _ _ _) $$ Hw2; iintro Hwu
  rw [show k0_pay7 (F := F) (scM0_0.view.readAt (Elt F) (wrect 0 1).toLoadRect G) = wt c hbM0_1 e he f1 from (pay7_eq c 0 G).trans (congrArg (fun m => truncf .bf16 m bitsLt_bf16_f32) hG.2.1)]
  iapply (fl_load c v 0 2 xt hT n r f0 f1 f2 G _ _ _) $$ HF; iintro HF
  iapply (w_store c v scM0_3 _ _ _ _ _ _) $$ Hw3; iintro Hwd
  rw [show k0_pay8 (F := F) (scM0_0.view.readAt (Elt F) (wrect 0 2).toLoadRect G) = wt c hbM0_2 e he f2 from (pay8_eq c 0 G).trans (congrArg (fun m => truncf .bf16 m bitsLt_bf16_f32) hG.2.2)]
  ihave Hs := (show sPt (F := F) c (sw 0) ⊢ iprop(∃ f : Buf (Elt F) (scM0_4.view.loc (c : Thread nD τ)), scM0_4.view.loc (c : Thread nD τ) ↦{fullShare} f) from by unfold sPt; iintro ⟨%f, -, H⟩; iexists f; iexact H) $$ Hs
  icases Hs with ⟨%fs', Hs⟩
  iapply (s_store c v fs' (sw (oth 0)) _ _ _ _ _) $$ Hs; iintro Hs
  try rw [wp_ret]
  try imodintro
  try rw [ret_bind']
  try simp only [Prog.bind_op, Prog.bind_ret]
  iterate 8 (iapply (wp_load 𝒱₀ (c : Thread nD τ) v Set.univ (m := arg3) (Finset.subset_univ _)) $$ H3; iintro H3)
  unfold wPt
  icases Hwg with ⟨%fg, %hfg, Hwg⟩
  iapply (wp_load 𝒱₀ (c : Thread nD τ) v Set.univ (m := scM0_1) (Finset.subset_univ _)) $$ Hwg; iintro Hwg
  rw [hfg]
  iapply (wp_load 𝒱₀ (c : Thread nD τ) v Set.univ (m := arg4) (Finset.subset_univ _)) $$ H4; iintro H4
  rw [wp_ret]; imodintro
  iapply HK $$ HT Hs [HF] Hd [Hwg] Hwu Hwd HO H3 H4
  · iexists G; iexact HF
  · iexists fg; isplitr; · ipureintro; exact hfg
    iexact Hwg

set_option maxHeartbeats 1000000 in
/-- A new run at slot 1. -/
theorem part2_new1 (v : Option ℕ) (i : grid0.Coords) (arg3 : Memref sig .tc .vmem S4096x128 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg10 : Memref sig .tc .vmem S4096x128 .f32) (harg10 : arg10.IsWhole) (n r : ℕ) (hn : n ≤ 160) (hr : r ≤ 160) (e : BitVec 32) (he : e.toNat < 32) (a0 : BitVec 32)
    (hw2 : k0_chk2 i (BitVec.ofNat 32 n) e) (h1 : k0_cond1 i (BitVec.ofNat 32 n) = 1#1) (xt : TbBuf0 (F := F) c tbM0_0) (hT : ∀ k, (T c xt k).toNat < 32)
    (hi : (i 0).val ≠ 0) (hs : e ≠ T c xt ((i 0).val - 1)) (f0 : HbBuf0 (F := F) c hbM0_0) (f1 : HbBuf0 (F := F) c hbM0_1) (f2 : HbBuf0 (F := F) c hbM0_2) (W : Waits sig Unit) (g3 : Buf (Elt F) (arg3.view.loc (c : Thread nD τ))) (g4 : Buf (Elt F) (arg4.view.loc (c : Thread nD τ))) (K : (Σ' (v32 : FVec F S512x1024 .bf16), FVec F S512x1024 .f32) → sProp 𝕄) :
    iprop(tbPt0 c tbM0_0 xt ∗ (sPt (F := F) c (sw 1) ∗ (∃ g : RBuf (F := F) c, InG c 1 e he f0 f1 f2 g)) ∗ semVal ((c : Thread nD τ), SemLoc.dma (dm (oth 1))) 0 ∗ wAny (F := F) c scM0_1 ∗ wAny (F := F) c scM0_2 ∗ wAny (F := F) c scM0_3 ∗ owes (c : Thread nD τ) 0 W ∗ (arg3.view.loc (c : Thread nD τ) ↦{fullShare} g3) ∗ (arg4.view.loc (c : Thread nD τ) ↦{fullShare} g4)
      ∗ (tbPt0 c tbM0_0 xt -∗ sPt (F := F) c (sw (oth 1)) -∗ (∃ G, Fl c (oth 1) xt hT n r f0 f1 f2 G) -∗ semVal ((c : Thread nD τ), SemLoc.dma (dm 1)) 0
          -∗ wPt c scM0_1 (wt c hbM0_0 e he f0) -∗ wPt c scM0_2 (wt c hbM0_1 e he f1) -∗ wPt c scM0_3 (wt c hbM0_2 e he f2) -∗ (∃ W', owes (c : Thread nD τ) 0 W') -∗ (arg3.view.loc (c : Thread nD τ) ↦{fullShare} g3) -∗ (arg4.view.loc (c : Thread nD τ) ↦{fullShare} g4)
          -∗ K ⟨P9 arg3 g3, P10 arg3 g3 arg4 g4 (wt c hbM0_0 e he f0)⟩))
      ⊢ wp frame (wpE (defs₀ (F := F)) 𝒱₀ (c : Thread nD τ) v) Set.univ (k0_part2 (F := F) i tbM0_0 htbM0_0 tbM0_1 htbM0_1 arg3 harg3 arg4 harg4 arg5 harg5 arg6 harg6 hbM0_0 (Memref.isWhole_whole _) hbM0_1 (Memref.isWhole_whole _) hbM0_2 (Memref.isWhole_whole _) arg10 harg10 scM0_0 (Memref.isWhole_whole _) scM0_1 (Memref.isWhole_whole _) scM0_2 (Memref.isWhole_whole _) scM0_3 (Memref.isWhole_whole _) scM0_4 (Memref.isWhole_whole _) cc0_scratch5 a0 (BitVec.ofNat 32 n) e hw2 (BitVec.ofNat 32 r) h1) K := by
  simp only [k0_part2_eq_skeleton]; unfold k0_part2_skel
  simp only [smemLoad, smemLoadElt, Prog.lift, Prog.bind_op, Prog.bind_ret, Prog.pure_eq_ret]
  iintro ⟨HT, ⟨Hs, HI⟩, Hd, Hw1, Hw2, Hw3, HO, H3, H4, HK⟩
  rw [dif_neg (fun h => hi ((cond2_iff i).1 h))]
  try rw [ret_bind']
  try simp only [Prog.bind_op, Prog.bind_ret]
  iapply (wp_load 𝒱₀ (c : Thread nD τ) v Set.univ (m := tbM0_0) (Finset.subset_univ _)) $$ HT; iintro HT
  rw [word_eq c xt _ _ _ ((i 0).val - 1) (off4_eq i)]
  iapply (wp_assume 𝒱₀ (c : Thread nD τ) v Set.univ (chk4_ok i (BitVec.ofNat 32 n) e _ he r hr))
  rw [dif_pos ((cond3_iff i _ _).2 (.inr hs))]
  rw [wp_bind]
  iapply (part1_1 c v i arg3 harg3 arg4 harg4 arg5 harg5 arg6 harg6 arg10 harg10 n r hn hr e _ he h1 _ _ xt hT f0 f1 f2 W _)
  isplitl [HT]; · iexact HT
  isplitl [Hs]; · iexact Hs
  isplitl [HI]; · iexact HI
  isplitl [Hd]; · iexact Hd
  isplitl [Hw1]; · iexact Hw1
  isplitl [HO]; · iexact HO
  iintro %hw3 %G %hG HT Hs HF Hd Hwg HO
  try rw [ret_bind']
  try simp only [Prog.bind_op, Prog.bind_ret]
  iapply (fl_load c v 1 1 xt hT n r f0 f1 f2 G _ _ _) $$ HF; iintro HF
  iapply (w_store c v scM0_2 _ _ _ _ _ _) $$ Hw2; iintro Hwu
  rw [show k0_pay7 (F := F) (scM0_0.view.readAt (Elt F) (wrect 1 1).toLoadRect G) = wt c hbM0_1 e he f1 from (pay7_eq c 1 G).trans (congrArg (fun m => truncf .bf16 m bitsLt_bf16_f32) hG.2.1)]
  iapply (fl_load c v 1 2 xt hT n r f0 f1 f2 G _ _ _) $$ HF; iintro HF
  iapply (w_store c v scM0_3 _ _ _ _ _ _) $$ Hw3; iintro Hwd
  rw [show k0_pay8 (F := F) (scM0_0.view.readAt (Elt F) (wrect 1 2).toLoadRect G) = wt c hbM0_2 e he f2 from (pay8_eq c 1 G).trans (congrArg (fun m => truncf .bf16 m bitsLt_bf16_f32) hG.2.2)]
  ihave Hs := (show sPt (F := F) c (sw 1) ⊢ iprop(∃ f : Buf (Elt F) (scM0_4.view.loc (c : Thread nD τ)), scM0_4.view.loc (c : Thread nD τ) ↦{fullShare} f) from by unfold sPt; iintro ⟨%f, -, H⟩; iexists f; iexact H) $$ Hs
  icases Hs with ⟨%fs', Hs⟩
  iapply (s_store c v fs' (sw (oth 1)) _ _ _ _ _) $$ Hs; iintro Hs
  try rw [wp_ret]
  try imodintro
  try rw [ret_bind']
  try simp only [Prog.bind_op, Prog.bind_ret]
  iterate 8 (iapply (wp_load 𝒱₀ (c : Thread nD τ) v Set.univ (m := arg3) (Finset.subset_univ _)) $$ H3; iintro H3)
  unfold wPt
  icases Hwg with ⟨%fg, %hfg, Hwg⟩
  iapply (wp_load 𝒱₀ (c : Thread nD τ) v Set.univ (m := scM0_1) (Finset.subset_univ _)) $$ Hwg; iintro Hwg
  rw [hfg]
  iapply (wp_load 𝒱₀ (c : Thread nD τ) v Set.univ (m := arg4) (Finset.subset_univ _)) $$ H4; iintro H4
  rw [wp_ret]; imodintro
  iapply HK $$ HT Hs [HF] Hd [Hwg] Hwu Hwd HO H3 H4
  · iexists G; iexact HF
  · iexists fg; isplitr; · ipureintro; exact hfg
    iexact Hwg

end Cert.ExpertsIdeal.Ex

end
-- ==== Proof.ExF.lean ====
/-
  The eight strided stores of a tile's result, and the body's paths at a used tile and past the used tiles.
-/
module

public import proofs.«01_k».proof.Proof.ExE

@[expose] public section

set_option maxRecDepth 16384

noncomputable section

namespace Cert.ExpertsIdeal.Ex

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

/-- Element `y` of a tile's result rows laid out eight sub-rows to a row. -/
def oi (y : S4096x128.Idx) : S512x1024.Idx := fun a => match a with
  | ⟨0, _⟩ => ⟨(y 0).val / 8, by have : (y 0).val < 4096 := (y 0).isLt; show (y 0).val / 8 < 512; omega⟩
  | ⟨1, _⟩ => ⟨128 * ((y 0).val % 8) + (y 1).val, by have : (y 1).val < 128 := (y 1).isLt; show 128 * ((y 0).val % 8) + (y 1).val < 1024; omega⟩
def ov (out : FVec F S512x1024 .f32) : S4096x128.Idx → Elt F .f32 := fun y => out (oi y)

theorem ess_ov (out : FVec F S512x1024 .f32) (j : ℕ) (hj : j < 8) (h : S512x1024.Slices ![0, 128 * j] S512x128) (x : S512x128.Idx) :
    extractStridedSlice S512x128 ![0, 128 * j] out h x = ov out ((srow j hj).emb x) := by
  unfold extractStridedSlice ov
  have h0 : (x 0).val < 512 := (x 0).isLt
  have h1 : (x 1).val < 128 := (x 1).isLt
  refine congrArg out (funext fun a => Fin.ext ?_)
  match a with
  | ⟨0, _⟩ => show 0 + (x 0).val = (j + 8 * (x 0).val) / 8; omega
  | ⟨1, _⟩ => show 128 * j + (x 1).val = 128 * ((j + 8 * (x 0).val) % 8) + (0 + 1 * (x 1).val); omega

variable {c} in
/-- The rows below `j` modulo 8 hold the result. -/
def Row (a : Memref sig .tc .vmem S4096x128 .f32) (out : FVec F S512x1024 .f32) (j : ℕ) (g : Buf (Elt F) (a.view.loc (c : Thread nD τ))) : Prop :=
  ∀ y : S4096x128.Idx, (y 0).val % 8 < j → a.view.read (Elt F) g y = ov out y

theorem row_step (a : Memref sig .tc .vmem S4096x128 .f32) (out : FVec F S512x1024 .f32) (j : ℕ) (hj : j < 8) (g : Buf (Elt F) (a.view.loc (c : Thread nD τ)))
    (p : FVec F S512x128 .f32) (hp : ∀ x, p x = ov out ((srow j hj).emb x)) (h : Row a out j g) :
    Row (c := c) a out (j + 1) ((a.access (srow j hj)).write (Elt F) g p Finset.univ) := by
  intro y hy
  have hy0 : (y 0).val < 4096 := (y 0).isLt
  rcases Nat.lt_or_ge ((y 0).val % 8) j with hl | hg
  · refine (View.read_slice_write_of_not_mem (v := a.view) (Val := Elt F) (srow j hj) g p Finset.univ (y := y) ?_).trans (h y hl)
    intro hm
    obtain ⟨x, -, hx⟩ := Finset.mem_map.mp hm
    have h0 : j + 8 * (x 0).val = (y 0).val := congrArg (fun z : S4096x128.Idx => (z 0).val) hx
    omega
  · have hj' : (y 0).val % 8 = j := by omega
    let x : S512x128.Idx := fun b => match b with
      | ⟨0, _⟩ => ⟨(y 0).val / 8, by show (y 0).val / 8 < 512; omega⟩
      | ⟨1, _⟩ => y 1
    have hx : (srow j hj).emb x = y := by
      funext b
      refine Fin.ext ?_
      match b with
      | ⟨0, _⟩ => show j + 8 * ((y 0).val / 8) = (y 0).val; omega
      | ⟨1, _⟩ => show 0 + 1 * (y 1).val = (y 1).val; omega
    have h2 := View.read_slice_write_emb (v := a.view) (Val := Elt F) (srow j hj) g p (M := Finset.univ) (x := x) (Finset.mem_univ x)
    have h3 := hp x
    rw [hx] at h2 h3
    exact h2.trans h3

/-- One strided store (its rows read to nothing first). -/
theorem row_store (v : Option ℕ) (a : Memref sig .tc .vmem S4096x128 .f32) (out : FVec F S512x1024 .f32) (j : ℕ) (hj : j < 8) (g : Buf (Elt F) (a.view.loc (c : Thread nD τ)))
    (p : FVec F S512x128 .f32) (hp : ∀ x, p x = ov out ((srow j hj).emb x)) (h : Row a out j g) {α : Type} (Q : α → sProp 𝕄)
    (hl : a.view.LoadsAt (srow j hj).toLoadRect) (h1) (h2) (k : Prog (TpuEff nD τ sig (Elt F) (Λ₀ F) .tc) α) :
    (a.view.loc (c : Thread nD τ) ↦{fullShare} g) ⊢ iprop((∀ g' : Buf (Elt F) (a.view.loc (c : Thread nD τ)), ⌜Row a out (j + 1) g'⌝ -∗ (a.view.loc (c : Thread nD τ) ↦{fullShare} g') -∗ wp frame (wpE (defs₀ (F := F)) 𝒱₀ (c : Thread nD τ) v) Set.univ k Q)
      -∗ wp frame (wpE (defs₀ (F := F)) 𝒱₀ (c : Thread nD τ) v) Set.univ (.op (.load a (srow j hj).toLoadRect hl) fun _ => .op (.store a (srow j hj) p Finset.univ h1 h2) fun _ => k) Q) := by
  iintro H Hk
  iapply (wp_load 𝒱₀ (c : Thread nD τ) v Set.univ (m := a) (Finset.subset_univ _)) $$ H; iintro H
  iapply (wp_store 𝒱₀ (c : Thread nD τ) v Set.univ (m := a) (r := srow j hj) (Mk := Finset.univ) (Finset.subset_univ _)) $$ H; iintro H
  iapply Hk $$ [] H
  ipureintro; exact row_step c a out j hj g p hp h

set_option maxHeartbeats 600000 in
/-- The up and down products and the first three strided stores. -/
theorem part3_ok (v : Option ℕ) (i : grid0.Coords) (arg3 : Memref sig .tc .vmem S4096x128 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg10 : Memref sig .tc .vmem S4096x128 .f32) (harg10 : arg10.IsWhole) (v32 : FVec F S512x1024 .bf16) (v38 : FVec F S512x1024 .f32) (wu wd : FVec F S1024x1024 .bf16) (g5 : Buf (Elt F) (arg5.view.loc (c : Thread nD τ))) (g6 : Buf (Elt F) (arg6.view.loc (c : Thread nD τ))) (g10 : Buf (Elt F) (arg10.view.loc (c : Thread nD τ)))
    (K : (Σ' (v64 : FVec F S512x1024 .f32), FVec F S512x128 .f32) → sProp 𝕄) :
    iprop(wPt c scM0_2 wu ∗ wPt c scM0_3 wd ∗ (arg5.view.loc (c : Thread nD τ) ↦{fullShare} g5) ∗ (arg6.view.loc (c : Thread nD τ) ↦{fullShare} g6) ∗ (arg10.view.loc (c : Thread nD τ) ↦{fullShare} g10)
      ∗ (∀ g' : Buf (Elt F) (arg10.view.loc (c : Thread nD τ)), ⌜Row arg10 (k0_pay11 v32 v38 wu (Lb arg5 g5) wd (Lb arg6 g6)) 3 g'⌝ -∗ wPt c scM0_2 wu -∗ wPt c scM0_3 wd -∗ (arg5.view.loc (c : Thread nD τ) ↦{fullShare} g5) -∗ (arg6.view.loc (c : Thread nD τ) ↦{fullShare} g6) -∗ (arg10.view.loc (c : Thread nD τ) ↦{fullShare} g')
          -∗ K ⟨k0_pay11 v32 v38 wu (Lb arg5 g5) wd (Lb arg6 g6), k0_pay15 v32 v38 wu (Lb arg5 g5) wd (Lb arg6 g6)⟩))
      ⊢ wp frame (wpE (defs₀ (F := F)) 𝒱₀ (c : Thread nD τ) v) Set.univ (k0_part3 (F := F) i tbM0_0 htbM0_0 tbM0_1 htbM0_1 arg3 harg3 arg4 harg4 arg5 harg5 arg6 harg6 hbM0_0 (Memref.isWhole_whole _) hbM0_1 (Memref.isWhole_whole _) hbM0_2 (Memref.isWhole_whole _) arg10 harg10 scM0_0 (Memref.isWhole_whole _) scM0_1 (Memref.isWhole_whole _) scM0_2 (Memref.isWhole_whole _) scM0_3 (Memref.isWhole_whole _) scM0_4 (Memref.isWhole_whole _) cc0_scratch5 v32 v38) K := by
  simp only [k0_part3_eq_skeleton]; unfold k0_part3_skel
  simp only [smemLoad, smemLoadElt, Prog.lift, Prog.bind_op, Prog.bind_ret, Prog.pure_eq_ret]
  unfold wPt
  iintro ⟨⟨%fu, %hu, Hu⟩, ⟨%fd, %hd, Hd⟩, H5, H6, H10, HK⟩
  iapply (wp_load 𝒱₀ (c : Thread nD τ) v Set.univ (m := scM0_2) (Finset.subset_univ _)) $$ Hu; iintro Hu
  rw [hu]
  iapply (wp_load 𝒱₀ (c : Thread nD τ) v Set.univ (m := arg5) (Finset.subset_univ _)) $$ H5; iintro H5
  iapply (wp_load 𝒱₀ (c : Thread nD τ) v Set.univ (m := scM0_3) (Finset.subset_univ _)) $$ Hd; iintro Hd
  rw [hd]
  iapply (wp_load 𝒱₀ (c : Thread nD τ) v Set.univ (m := arg6) (Finset.subset_univ _)) $$ H6; iintro H6
  iapply (row_store c v arg10 (k0_pay11 v32 v38 wu (Lb arg5 g5) wd (Lb arg6 g6)) 0 (by decide) _ _ (fun x => by unfold k0_pay12; exact ess_ov _ 0 (by decide) slices_S512x1024_o0_0_S512x128 x) (fun y h => absurd h (Nat.not_lt_zero _)) _ _ _ _ _) $$ H10
  iintro %ga %ha H10
  iapply (row_store c v arg10 (k0_pay11 v32 v38 wu (Lb arg5 g5) wd (Lb arg6 g6)) 1 (by decide) _ _ (fun x => by unfold k0_pay13; exact ess_ov _ 1 (by decide) slices_S512x1024_o0_128_S512x128 x) ha _ _ _ _ _) $$ H10
  iintro %gb %hb H10
  iapply (row_store c v arg10 (k0_pay11 v32 v38 wu (Lb arg5 g5) wd (Lb arg6 g6)) 2 (by decide) _ _ (fun x => by unfold k0_pay14; exact ess_ov _ 2 (by decide) slices_S512x1024_o0_256_S512x128 x) hb _ _ _ _ _) $$ H10
  iintro %gc %hc H10
  rw [wp_ret]; imodintro
  iapply HK $$ [] [Hu] [Hd] H5 H6 H10
  · ipureintro; exact hc
  · iexists fu; isplitr; · ipureintro; exact hu
    iexact Hu
  · iexists fd; isplitr; · ipureintro; exact hd
    iexact Hd

set_option maxHeartbeats 1000000 in
/-- A used tile within a run. -/
theorem body_same (i : grid0.Coords) (arg3 : Memref sig .tc .vmem S4096x128 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg10 : Memref sig .tc .vmem S4096x128 .f32) (harg10 : arg10.IsWhole) (n : ℕ) (hn : n ≤ 160) (xt : TbBuf0 (F := F) c tbM0_0) (hT : ∀ k, (T c xt k).toNat < 32)
    (xt1 : TbBuf0 (F := F) c tbM0_1) (hx1 : ∀ x, tbM0_1.view.readAt (Elt F) r1.toLoadRect xt1 x = BitVec.ofNat 32 n)
    (hin : (i 0).val < n) (hi : (i 0).val ≠ 0) (hs : T c xt (i 0).val = T c xt ((i 0).val - 1)) (wg wu wd : FVec F S1024x1024 .bf16) (g3 : Buf (Elt F) (arg3.view.loc (c : Thread nD τ))) (g4 : Buf (Elt F) (arg4.view.loc (c : Thread nD τ))) (g5 : Buf (Elt F) (arg5.view.loc (c : Thread nD τ))) (g6 : Buf (Elt F) (arg6.view.loc (c : Thread nD τ))) (g10 : Buf (Elt F) (arg10.view.loc (c : Thread nD τ))) (K : PUnit → sProp 𝕄) :
    iprop(tbPt0 c tbM0_0 xt ∗ tbPt0 c tbM0_1 xt1 ∗ wPt c scM0_1 wg ∗ wPt c scM0_2 wu ∗ wPt c scM0_3 wd ∗ (arg3.view.loc (c : Thread nD τ) ↦{fullShare} g3) ∗ (arg4.view.loc (c : Thread nD τ) ↦{fullShare} g4) ∗ (arg5.view.loc (c : Thread nD τ) ↦{fullShare} g5) ∗ (arg6.view.loc (c : Thread nD τ) ↦{fullShare} g6) ∗ (arg10.view.loc (c : Thread nD τ) ↦{fullShare} g10)
      ∗ (∀ g' : Buf (Elt F) (arg10.view.loc (c : Thread nD τ)), ⌜Row arg10 (k0_pay11 (P9 arg3 g3) (P10 arg3 g3 arg4 g4 wg) wu (Lb arg5 g5) wd (Lb arg6 g6)) 8 g'⌝ -∗ tbPt0 c tbM0_0 xt -∗ tbPt0 c tbM0_1 xt1 -∗ wPt c scM0_1 wg -∗ wPt c scM0_2 wu -∗ wPt c scM0_3 wd
          -∗ (arg3.view.loc (c : Thread nD τ) ↦{fullShare} g3) -∗ (arg4.view.loc (c : Thread nD τ) ↦{fullShare} g4) -∗ (arg5.view.loc (c : Thread nD τ) ↦{fullShare} g5) -∗ (arg6.view.loc (c : Thread nD τ) ↦{fullShare} g6) -∗ (arg10.view.loc (c : Thread nD τ) ↦{fullShare} g') -∗ K ⟨⟩))
      ⊢ wp frame (wpE (defs₀ (F := F)) 𝒱₀ (c : Thread nD τ) none) Set.univ (cc0__moe_kernel (F := F) i tbM0_0 htbM0_0 tbM0_1 htbM0_1 arg3 harg3 arg4 harg4 arg5 harg5 arg6 harg6 hbM0_0 (Memref.isWhole_whole _) hbM0_1 (Memref.isWhole_whole _) hbM0_2 (Memref.isWhole_whole _) arg10 harg10 scM0_0 (Memref.isWhole_whole _) scM0_1 (Memref.isWhole_whole _) scM0_2 (Memref.isWhole_whole _) scM0_3 (Memref.isWhole_whole _) scM0_4 (Memref.isWhole_whole _) cc0_scratch5) K := by
  simp only [cc0__moe_kernel_eq_skeleton]; unfold cc0__moe_kernel_skel
  simp only [smemLoad, smemLoadElt, Prog.lift, Prog.bind_op, Prog.bind_ret, Prog.pure_eq_ret]
  have hi160 := i_lt i
  iintro ⟨HT, HT1, Hg, Hu, Hd, H3, H4, H5, H6, H10, HK⟩
  iapply (wp_load 𝒱₀ (c : Thread nD τ) none Set.univ (m := tbM0_1) (Finset.subset_univ _)) $$ HT1; iintro HT1
  rw [hx1 _]
  iapply (wp_load 𝒱₀ (c : Thread nD τ) none Set.univ (m := tbM0_0) (Finset.subset_univ _)) $$ HT; iintro HT
  rw [word_eq c xt _ _ _ (i 0).val (off1_eq i)]
  iapply (wp_assume 𝒱₀ (c : Thread nD τ) none Set.univ (chk2_ok i (BitVec.ofNat 32 n) _ (hT _)))
  rw [addi_one]
  iapply (wp_call 𝒱₀ (c : Thread nD τ) none Set.univ (160 - ((i 0).val + 1)) (fun u hu => by cases hu))
  iapply (while_sound c i xt n hn (T c xt (i 0).val) (160 - ((i 0).val + 1)) ((i 0).val + 1) (by omega) _)
  isplitl [HT]; · iexact HT
  iintro %r %hr HT
  rw [dif_pos ((cond1_iff i n hn).2 hin)]
  rw [wp_bind]
  iapply (part2_same c none i arg3 harg3 arg4 harg4 arg5 harg5 arg6 harg6 arg10 harg10 n r hn hr.2.1 _ (hT _) _ _ _ xt hT hi hs wg g3 g4 _)
  isplitl [HT]; · iexact HT
  isplitl [Hg]; · iexact Hg
  isplitl [H3]; · iexact H3
  isplitl [H4]; · iexact H4
  iintro HT Hg H3 H4
  rw [wp_bind]
  iapply (part3_ok c none i arg3 harg3 arg4 harg4 arg5 harg5 arg6 harg6 arg10 harg10 _ _ wu wd g5 g6 g10 _)
  isplitl [Hu]; · iexact Hu
  isplitl [Hd]; · iexact Hd
  isplitl [H5]; · iexact H5
  isplitl [H6]; · iexact H6
  isplitl [H10]; · iexact H10
  iintro %g3' %h3 Hu Hd H5 H6 H10
  simp only [Prog.bind_op, Prog.bind_ret]
  iapply (row_store c none arg10 (k0_pay11 (P9 arg3 g3) (P10 arg3 g3 arg4 g4 wg) wu (Lb arg5 g5) wd (Lb arg6 g6)) 3 (by decide) _ _ (fun x => by unfold k0_pay15; exact ess_ov _ 3 (by decide) slices_S512x1024_o0_384_S512x128 x) h3 _ _ _ _ _) $$ H10
  iintro %g4' %h4 H10
  iapply (row_store c none arg10 (k0_pay11 (P9 arg3 g3) (P10 arg3 g3 arg4 g4 wg) wu (Lb arg5 g5) wd (Lb arg6 g6)) 4 (by decide) _ _ (fun x => by unfold k0_pay1; exact ess_ov _ 4 (by decide) slices_S512x1024_o0_512_S512x128 x) h4 _ _ _ _ _) $$ H10
  iintro %g5' %h5 H10
  iapply (row_store c none arg10 (k0_pay11 (P9 arg3 g3) (P10 arg3 g3 arg4 g4 wg) wu (Lb arg5 g5) wd (Lb arg6 g6)) 5 (by decide) _ _ (fun x => by unfold k0_pay2; exact ess_ov _ 5 (by decide) slices_S512x1024_o0_640_S512x128 x) h5 _ _ _ _ _) $$ H10
  iintro %g6' %h6 H10
  iapply (row_store c none arg10 (k0_pay11 (P9 arg3 g3) (P10 arg3 g3 arg4 g4 wg) wu (Lb arg5 g5) wd (Lb arg6 g6)) 6 (by decide) _ _ (fun x => by unfold k0_pay3; exact ess_ov _ 6 (by decide) slices_S512x1024_o0_768_S512x128 x) h6 _ _ _ _ _) $$ H10
  iintro %g7' %h7 H10
  iapply (row_store c none arg10 (k0_pay11 (P9 arg3 g3) (P10 arg3 g3 arg4 g4 wg) wu (Lb arg5 g5) wd (Lb arg6 g6)) 7 (by decide) _ _ (fun x => by unfold k0_pay4; exact ess_ov _ 7 (by decide) slices_S512x1024_o0_896_S512x128 x) h7 _ _ _ _ _) $$ H10
  iintro %g8' %h8 H10
  rw [dif_neg (fun h => absurd ((cond5_iff i n hn).1 h) (by omega))]
  try rw [ret_bind']
  rw [wp_ret]; imodintro
  iapply HK $$ [] HT HT1 Hg Hu Hd H3 H4 H5 H6 H10
  ipureintro; exact h8

set_option maxHeartbeats 1000000 in
/-- The first tile. -/
theorem body_first (i : grid0.Coords) (arg3 : Memref sig .tc .vmem S4096x128 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg10 : Memref sig .tc .vmem S4096x128 .f32) (harg10 : arg10.IsWhole) (n : ℕ) (hn : n ≤ 160) (xt : TbBuf0 (F := F) c tbM0_0) (hT : ∀ k, (T c xt k).toNat < 32)
    (xt1 : TbBuf0 (F := F) c tbM0_1) (hx1 : ∀ x, tbM0_1.view.readAt (Elt F) r1.toLoadRect xt1 x = BitVec.ofNat 32 n)
    (hin : (i 0).val < n) (hi : (i 0).val = 0) (f0 : HbBuf0 (F := F) c hbM0_0) (f1 : HbBuf0 (F := F) c hbM0_1) (f2 : HbBuf0 (F := F) c hbM0_2) (W : Waits sig Unit) (g3 : Buf (Elt F) (arg3.view.loc (c : Thread nD τ))) (g4 : Buf (Elt F) (arg4.view.loc (c : Thread nD τ))) (g5 : Buf (Elt F) (arg5.view.loc (c : Thread nD τ))) (g6 : Buf (Elt F) (arg6.view.loc (c : Thread nD τ))) (g10 : Buf (Elt F) (arg10.view.loc (c : Thread nD τ))) (K : PUnit → sProp 𝕄) :
    iprop(tbPt0 c tbM0_0 xt ∗ tbPt0 c tbM0_1 xt1 ∗ ((∃ f : Buf (Elt F) (scM0_4.view.loc (c : Thread nD τ)), scM0_4.view.loc (c : Thread nD τ) ↦{fullShare} f) ∗ (∃ g, rPt c Finset.univ g) ∗ hbPt0 c hbM0_0 f0 ∗ hbPt0 c hbM0_1 f1 ∗ hbPt0 c hbM0_2 f2 ∗ semVal ((c : Thread nD τ), SemLoc.dma (dm 0)) 0) ∗ semVal ((c : Thread nD τ), SemLoc.dma (dm (oth 0))) 0 ∗ wAny (F := F) c scM0_1 ∗ wAny (F := F) c scM0_2 ∗ wAny (F := F) c scM0_3 ∗ owes (c : Thread nD τ) 0 W ∗ (arg3.view.loc (c : Thread nD τ) ↦{fullShare} g3) ∗ (arg4.view.loc (c : Thread nD τ) ↦{fullShare} g4) ∗ (arg5.view.loc (c : Thread nD τ) ↦{fullShare} g5) ∗ (arg6.view.loc (c : Thread nD τ) ↦{fullShare} g6) ∗ (arg10.view.loc (c : Thread nD τ) ↦{fullShare} g10)
      ∗ (∀ (g' : Buf (Elt F) (arg10.view.loc (c : Thread nD τ))) (r : ℕ), ⌜Row arg10 (k0_pay11 (P9 arg3 g3) (P10 arg3 g3 arg4 g4 (wt c hbM0_0 (T c xt (i 0).val) (hT _) f0)) (wt c hbM0_1 (T c xt (i 0).val) (hT _) f1) (Lb arg5 g5) (wt c hbM0_2 (T c xt (i 0).val) (hT _) f2) (Lb arg6 g6)) 8 g'⌝ -∗ ⌜IsNxt c xt n (T c xt (i 0).val) ((i 0).val + 1) r⌝ -∗ tbPt0 c tbM0_0 xt -∗ tbPt0 c tbM0_1 xt1
          -∗ sPt (F := F) c (sw (oth 0)) -∗ (∃ G, Fl c (oth 0) xt hT n r f0 f1 f2 G) -∗ semVal ((c : Thread nD τ), SemLoc.dma (dm 0)) 0
          -∗ wPt c scM0_1 (wt c hbM0_0 (T c xt (i 0).val) (hT _) f0) -∗ wPt c scM0_2 (wt c hbM0_1 (T c xt (i 0).val) (hT _) f1) -∗ wPt c scM0_3 (wt c hbM0_2 (T c xt (i 0).val) (hT _) f2) -∗ (∃ W', owes (c : Thread nD τ) 0 W')
          -∗ (arg3.view.loc (c : Thread nD τ) ↦{fullShare} g3) -∗ (arg4.view.loc (c : Thread nD τ) ↦{fullShare} g4) -∗ (arg5.view.loc (c : Thread nD τ) ↦{fullShare} g5) -∗ (arg6.view.loc (c : Thread nD τ) ↦{fullShare} g6) -∗ (arg10.view.loc (c : Thread nD τ) ↦{fullShare} g') -∗ K ⟨⟩))
      ⊢ wp frame (wpE (defs₀ (F := F)) 𝒱₀ (c : Thread nD τ) none) Set.univ (cc0__moe_kernel (F := F) i tbM0_0 htbM0_0 tbM0_1 htbM0_1 arg3 harg3 arg4 harg4 arg5 harg5 arg6 harg6 hbM0_0 (Memref.isWhole_whole _) hbM0_1 (Memref.isWhole_whole _) hbM0_2 (Memref.isWhole_whole _) arg10 harg10 scM0_0 (Memref.isWhole_whole _) scM0_1 (Memref.isWhole_whole _) scM0_2 (Memref.isWhole_whole _) scM0_3 (Memref.isWhole_whole _) scM0_4 (Memref.isWhole_whole _) cc0_scratch5) K := by
  simp only [cc0__moe_kernel_eq_skeleton]; unfold cc0__moe_kernel_skel
  simp only [smemLoad, smemLoadElt, Prog.lift, Prog.bind_op, Prog.bind_ret, Prog.pure_eq_ret]
  have hi160 := i_lt i
  iintro ⟨HT, HT1, HP, Hdo, Hg, Hu, Hd, HO, H3, H4, H5, H6, H10, HK⟩
  iapply (wp_load 𝒱₀ (c : Thread nD τ) none Set.univ (m := tbM0_1) (Finset.subset_univ _)) $$ HT1; iintro HT1
  rw [hx1 _]
  iapply (wp_load 𝒱₀ (c : Thread nD τ) none Set.univ (m := tbM0_0) (Finset.subset_univ _)) $$ HT; iintro HT
  rw [word_eq c xt _ _ _ (i 0).val (off1_eq i)]
  iapply (wp_assume 𝒱₀ (c : Thread nD τ) none Set.univ (chk2_ok i (BitVec.ofNat 32 n) _ (hT _)))
  rw [addi_one]
  iapply (wp_call 𝒱₀ (c : Thread nD τ) none Set.univ (160 - ((i 0).val + 1)) (fun u hu => by cases hu))
  iapply (while_sound c i xt n hn (T c xt (i 0).val) (160 - ((i 0).val + 1)) ((i 0).val + 1) (by omega) _)
  isplitl [HT]; · iexact HT
  iintro %r %hr HT
  rw [dif_pos ((cond1_iff i n hn).2 hin)]
  rw [wp_bind]
  iapply (part2_first c none i arg3 harg3 arg4 harg4 arg5 harg5 arg6 harg6 arg10 harg10 n r hn hr.2.1 _ (hT _) _ _ _ xt hT hi f0 f1 f2 W g3 g4 _)
  isplitl [HT]; · iexact HT
  isplitl [HP]; · iexact HP
  isplitl [Hdo]; · iexact Hdo
  isplitl [Hg]; · iexact Hg
  isplitl [Hu]; · iexact Hu
  isplitl [Hd]; · iexact Hd
  isplitl [HO]; · iexact HO
  isplitl [H3]; · iexact H3
  isplitl [H4]; · iexact H4
  iintro HT Hs HF Hdb Hg Hu Hd HO H3 H4
  rw [wp_bind]
  iapply (part3_ok c none i arg3 harg3 arg4 harg4 arg5 harg5 arg6 harg6 arg10 harg10 _ _ _ _ g5 g6 g10 _)
  isplitl [Hu]; · iexact Hu
  isplitl [Hd]; · iexact Hd
  isplitl [H5]; · iexact H5
  isplitl [H6]; · iexact H6
  isplitl [H10]; · iexact H10
  iintro %g3' %h3 Hu Hd H5 H6 H10
  simp only [Prog.bind_op, Prog.bind_ret]
  iapply (row_store c none arg10 (k0_pay11 (P9 arg3 g3) (P10 arg3 g3 arg4 g4 (wt c hbM0_0 (T c xt (i 0).val) (hT _) f0)) (wt c hbM0_1 (T c xt (i 0).val) (hT _) f1) (Lb arg5 g5) (wt c hbM0_2 (T c xt (i 0).val) (hT _) f2) (Lb arg6 g6)) 3 (by decide) _ _ (fun x => by unfold k0_pay15; exact ess_ov _ 3 (by decide) slices_S512x1024_o0_384_S512x128 x) h3 _ _ _ _ _) $$ H10
  iintro %g4' %h4 H10
  iapply (row_store c none arg10 (k0_pay11 (P9 arg3 g3) (P10 arg3 g3 arg4 g4 (wt c hbM0_0 (T c xt (i 0).val) (hT _) f0)) (wt c hbM0_1 (T c xt (i 0).val) (hT _) f1) (Lb arg5 g5) (wt c hbM0_2 (T c xt (i 0).val) (hT _) f2) (Lb arg6 g6)) 4 (by decide) _ _ (fun x => by unfold k0_pay1; exact ess_ov _ 4 (by decide) slices_S512x1024_o0_512_S512x128 x) h4 _ _ _ _ _) $$ H10
  iintro %g5' %h5 H10
  iapply (row_store c none arg10 (k0_pay11 (P9 arg3 g3) (P10 arg3 g3 arg4 g4 (wt c hbM0_0 (T c xt (i 0).val) (hT _) f0)) (wt c hbM0_1 (T c xt (i 0).val) (hT _) f1) (Lb arg5 g5) (wt c hbM0_2 (T c xt (i 0).val) (hT _) f2) (Lb arg6 g6)) 5 (by decide) _ _ (fun x => by unfold k0_pay2; exact ess_ov _ 5 (by decide) slices_S512x1024_o0_640_S512x128 x) h5 _ _ _ _ _) $$ H10
  iintro %g6' %h6 H10
  iapply (row_store c none arg10 (k0_pay11 (P9 arg3 g3) (P10 arg3 g3 arg4 g4 (wt c hbM0_0 (T c xt (i 0).val) (hT _) f0)) (wt c hbM0_1 (T c xt (i 0).val) (hT _) f1) (Lb arg5 g5) (wt c hbM0_2 (T c xt (i 0).val) (hT _) f2) (Lb arg6 g6)) 6 (by decide) _ _ (fun x => by unfold k0_pay3; exact ess_ov _ 6 (by decide) slices_S512x1024_o0_768_S512x128 x) h6 _ _ _ _ _) $$ H10
  iintro %g7' %h7 H10
  iapply (row_store c none arg10 (k0_pay11 (P9 arg3 g3) (P10 arg3 g3 arg4 g4 (wt c hbM0_0 (T c xt (i 0).val) (hT _) f0)) (wt c hbM0_1 (T c xt (i 0).val) (hT _) f1) (Lb arg5 g5) (wt c hbM0_2 (T c xt (i 0).val) (hT _) f2) (Lb arg6 g6)) 7 (by decide) _ _ (fun x => by unfold k0_pay4; exact ess_ov _ 7 (by decide) slices_S512x1024_o0_896_S512x128 x) h7 _ _ _ _ _) $$ H10
  iintro %g8' %h8 H10
  rw [dif_neg (fun h => absurd ((cond5_iff i n hn).1 h) (by omega))]
  try rw [ret_bind']
  rw [wp_ret]; imodintro
  iapply HK $$ [] [] HT HT1 Hs HF Hdb Hg Hu Hd HO H3 H4 H5 H6 H10
  · ipureintro; exact h8
  · ipureintro; exact hr

set_option maxHeartbeats 1000000 in
/-- A used tile that opens a run, at slot 0. -/
theorem body_new0 (i : grid0.Coords) (arg3 : Memref sig .tc .vmem S4096x128 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg10 : Memref sig .tc .vmem S4096x128 .f32) (harg10 : arg10.IsWhole) (n : ℕ) (hn : n ≤ 160) (xt : TbBuf0 (F := F) c tbM0_0) (hT : ∀ k, (T c xt k).toNat < 32)
    (xt1 : TbBuf0 (F := F) c tbM0_1) (hx1 : ∀ x, tbM0_1.view.readAt (Elt F) r1.toLoadRect xt1 x = BitVec.ofNat 32 n)
    (hin : (i 0).val < n) (hi : (i 0).val ≠ 0) (hs : T c xt (i 0).val ≠ T c xt ((i 0).val - 1)) (f0 : HbBuf0 (F := F) c hbM0_0) (f1 : HbBuf0 (F := F) c hbM0_1) (f2 : HbBuf0 (F := F) c hbM0_2) (W : Waits sig Unit) (g3 : Buf (Elt F) (arg3.view.loc (c : Thread nD τ))) (g4 : Buf (Elt F) (arg4.view.loc (c : Thread nD τ))) (g5 : Buf (Elt F) (arg5.view.loc (c : Thread nD τ))) (g6 : Buf (Elt F) (arg6.view.loc (c : Thread nD τ))) (g10 : Buf (Elt F) (arg10.view.loc (c : Thread nD τ))) (K : PUnit → sProp 𝕄) :
    iprop(tbPt0 c tbM0_0 xt ∗ tbPt0 c tbM0_1 xt1 ∗ (sPt (F := F) c (sw 0) ∗ (∃ g : RBuf (F := F) c, InG c 0 (T c xt (i 0).val) (hT _) f0 f1 f2 g)) ∗ semVal ((c : Thread nD τ), SemLoc.dma (dm (oth 0))) 0 ∗ wAny (F := F) c scM0_1 ∗ wAny (F := F) c scM0_2 ∗ wAny (F := F) c scM0_3 ∗ owes (c : Thread nD τ) 0 W ∗ (arg3.view.loc (c : Thread nD τ) ↦{fullShare} g3) ∗ (arg4.view.loc (c : Thread nD τ) ↦{fullShare} g4) ∗ (arg5.view.loc (c : Thread nD τ) ↦{fullShare} g5) ∗ (arg6.view.loc (c : Thread nD τ) ↦{fullShare} g6) ∗ (arg10.view.loc (c : Thread nD τ) ↦{fullShare} g10)
      ∗ (∀ (g' : Buf (Elt F) (arg10.view.loc (c : Thread nD τ))) (r : ℕ), ⌜Row arg10 (k0_pay11 (P9 arg3 g3) (P10 arg3 g3 arg4 g4 (wt c hbM0_0 (T c xt (i 0).val) (hT _) f0)) (wt c hbM0_1 (T c xt (i 0).val) (hT _) f1) (Lb arg5 g5) (wt c hbM0_2 (T c xt (i 0).val) (hT _) f2) (Lb arg6 g6)) 8 g'⌝ -∗ ⌜IsNxt c xt n (T c xt (i 0).val) ((i 0).val + 1) r⌝ -∗ tbPt0 c tbM0_0 xt -∗ tbPt0 c tbM0_1 xt1
          -∗ sPt (F := F) c (sw (oth 0)) -∗ (∃ G, Fl c (oth 0) xt hT n r f0 f1 f2 G) -∗ semVal ((c : Thread nD τ), SemLoc.dma (dm 0)) 0
          -∗ wPt c scM0_1 (wt c hbM0_0 (T c xt (i 0).val) (hT _) f0) -∗ wPt c scM0_2 (wt c hbM0_1 (T c xt (i 0).val) (hT _) f1) -∗ wPt c scM0_3 (wt c hbM0_2 (T c xt (i 0).val) (hT _) f2) -∗ (∃ W', owes (c : Thread nD τ) 0 W')
          -∗ (arg3.view.loc (c : Thread nD τ) ↦{fullShare} g3) -∗ (arg4.view.loc (c : Thread nD τ) ↦{fullShare} g4) -∗ (arg5.view.loc (c : Thread nD τ) ↦{fullShare} g5) -∗ (arg6.view.loc (c : Thread nD τ) ↦{fullShare} g6) -∗ (arg10.view.loc (c : Thread nD τ) ↦{fullShare} g') -∗ K ⟨⟩))
      ⊢ wp frame (wpE (defs₀ (F := F)) 𝒱₀ (c : Thread nD τ) none) Set.univ (cc0__moe_kernel (F := F) i tbM0_0 htbM0_0 tbM0_1 htbM0_1 arg3 harg3 arg4 harg4 arg5 harg5 arg6 harg6 hbM0_0 (Memref.isWhole_whole _) hbM0_1 (Memref.isWhole_whole _) hbM0_2 (Memref.isWhole_whole _) arg10 harg10 scM0_0 (Memref.isWhole_whole _) scM0_1 (Memref.isWhole_whole _) scM0_2 (Memref.isWhole_whole _) scM0_3 (Memref.isWhole_whole _) scM0_4 (Memref.isWhole_whole _) cc0_scratch5) K := by
  simp only [cc0__moe_kernel_eq_skeleton]; unfold cc0__moe_kernel_skel
  simp only [smemLoad, smemLoadElt, Prog.lift, Prog.bind_op, Prog.bind_ret, Prog.pure_eq_ret]
  have hi160 := i_lt i
  iintro ⟨HT, HT1, HP, Hdo, Hg, Hu, Hd, HO, H3, H4, H5, H6, H10, HK⟩
  iapply (wp_load 𝒱₀ (c : Thread nD τ) none Set.univ (m := tbM0_1) (Finset.subset_univ _)) $$ HT1; iintro HT1
  rw [hx1 _]
  iapply (wp_load 𝒱₀ (c : Thread nD τ) none Set.univ (m := tbM0_0) (Finset.subset_univ _)) $$ HT; iintro HT
  rw [word_eq c xt _ _ _ (i 0).val (off1_eq i)]
  iapply (wp_assume 𝒱₀ (c : Thread nD τ) none Set.univ (chk2_ok i (BitVec.ofNat 32 n) _ (hT _)))
  rw [addi_one]
  iapply (wp_call 𝒱₀ (c : Thread nD τ) none Set.univ (160 - ((i 0).val + 1)) (fun u hu => by cases hu))
  iapply (while_sound c i xt n hn (T c xt (i 0).val) (160 - ((i 0).val + 1)) ((i 0).val + 1) (by omega) _)
  isplitl [HT]; · iexact HT
  iintro %r %hr HT
  rw [dif_pos ((cond1_iff i n hn).2 hin)]
  rw [wp_bind]
  iapply (part2_new0 c none i arg3 harg3 arg4 harg4 arg5 harg5 arg6 harg6 arg10 harg10 n r hn hr.2.1 _ (hT _) _ _ _ xt hT hi hs f0 f1 f2 W g3 g4 _)
  isplitl [HT]; · iexact HT
  isplitl [HP]; · iexact HP
  isplitl [Hdo]; · iexact Hdo
  isplitl [Hg]; · iexact Hg
  isplitl [Hu]; · iexact Hu
  isplitl [Hd]; · iexact Hd
  isplitl [HO]; · iexact HO
  isplitl [H3]; · iexact H3
  isplitl [H4]; · iexact H4
  iintro HT Hs HF Hdb Hg Hu Hd HO H3 H4
  rw [wp_bind]
  iapply (part3_ok c none i arg3 harg3 arg4 harg4 arg5 harg5 arg6 harg6 arg10 harg10 _ _ _ _ g5 g6 g10 _)
  isplitl [Hu]; · iexact Hu
  isplitl [Hd]; · iexact Hd
  isplitl [H5]; · iexact H5
  isplitl [H6]; · iexact H6
  isplitl [H10]; · iexact H10
  iintro %g3' %h3 Hu Hd H5 H6 H10
  simp only [Prog.bind_op, Prog.bind_ret]
  iapply (row_store c none arg10 (k0_pay11 (P9 arg3 g3) (P10 arg3 g3 arg4 g4 (wt c hbM0_0 (T c xt (i 0).val) (hT _) f0)) (wt c hbM0_1 (T c xt (i 0).val) (hT _) f1) (Lb arg5 g5) (wt c hbM0_2 (T c xt (i 0).val) (hT _) f2) (Lb arg6 g6)) 3 (by decide) _ _ (fun x => by unfold k0_pay15; exact ess_ov _ 3 (by decide) slices_S512x1024_o0_384_S512x128 x) h3 _ _ _ _ _) $$ H10
  iintro %g4' %h4 H10
  iapply (row_store c none arg10 (k0_pay11 (P9 arg3 g3) (P10 arg3 g3 arg4 g4 (wt c hbM0_0 (T c xt (i 0).val) (hT _) f0)) (wt c hbM0_1 (T c xt (i 0).val) (hT _) f1) (Lb arg5 g5) (wt c hbM0_2 (T c xt (i 0).val) (hT _) f2) (Lb arg6 g6)) 4 (by decide) _ _ (fun x => by unfold k0_pay1; exact ess_ov _ 4 (by decide) slices_S512x1024_o0_512_S512x128 x) h4 _ _ _ _ _) $$ H10
  iintro %g5' %h5 H10
  iapply (row_store c none arg10 (k0_pay11 (P9 arg3 g3) (P10 arg3 g3 arg4 g4 (wt c hbM0_0 (T c xt (i 0).val) (hT _) f0)) (wt c hbM0_1 (T c xt (i 0).val) (hT _) f1) (Lb arg5 g5) (wt c hbM0_2 (T c xt (i 0).val) (hT _) f2) (Lb arg6 g6)) 5 (by decide) _ _ (fun x => by unfold k0_pay2; exact ess_ov _ 5 (by decide) slices_S512x1024_o0_640_S512x128 x) h5 _ _ _ _ _) $$ H10
  iintro %g6' %h6 H10
  iapply (row_store c none arg10 (k0_pay11 (P9 arg3 g3) (P10 arg3 g3 arg4 g4 (wt c hbM0_0 (T c xt (i 0).val) (hT _) f0)) (wt c hbM0_1 (T c xt (i 0).val) (hT _) f1) (Lb arg5 g5) (wt c hbM0_2 (T c xt (i 0).val) (hT _) f2) (Lb arg6 g6)) 6 (by decide) _ _ (fun x => by unfold k0_pay3; exact ess_ov _ 6 (by decide) slices_S512x1024_o0_768_S512x128 x) h6 _ _ _ _ _) $$ H10
  iintro %g7' %h7 H10
  iapply (row_store c none arg10 (k0_pay11 (P9 arg3 g3) (P10 arg3 g3 arg4 g4 (wt c hbM0_0 (T c xt (i 0).val) (hT _) f0)) (wt c hbM0_1 (T c xt (i 0).val) (hT _) f1) (Lb arg5 g5) (wt c hbM0_2 (T c xt (i 0).val) (hT _) f2) (Lb arg6 g6)) 7 (by decide) _ _ (fun x => by unfold k0_pay4; exact ess_ov _ 7 (by decide) slices_S512x1024_o0_896_S512x128 x) h7 _ _ _ _ _) $$ H10
  iintro %g8' %h8 H10
  rw [dif_neg (fun h => absurd ((cond5_iff i n hn).1 h) (by omega))]
  try rw [ret_bind']
  rw [wp_ret]; imodintro
  iapply HK $$ [] [] HT HT1 Hs HF Hdb Hg Hu Hd HO H3 H4 H5 H6 H10
  · ipureintro; exact h8
  · ipureintro; exact hr

set_option maxHeartbeats 1000000 in
/-- A used tile that opens a run, at slot 1. -/
theorem body_new1 (i : grid0.Coords) (arg3 : Memref sig .tc .vmem S4096x128 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg10 : Memref sig .tc .vmem S4096x128 .f32) (harg10 : arg10.IsWhole) (n : ℕ) (hn : n ≤ 160) (xt : TbBuf0 (F := F) c tbM0_0) (hT : ∀ k, (T c xt k).toNat < 32)
    (xt1 : TbBuf0 (F := F) c tbM0_1) (hx1 : ∀ x, tbM0_1.view.readAt (Elt F) r1.toLoadRect xt1 x = BitVec.ofNat 32 n)
    (hin : (i 0).val < n) (hi : (i 0).val ≠ 0) (hs : T c xt (i 0).val ≠ T c xt ((i 0).val - 1)) (f0 : HbBuf0 (F := F) c hbM0_0) (f1 : HbBuf0 (F := F) c hbM0_1) (f2 : HbBuf0 (F := F) c hbM0_2) (W : Waits sig Unit) (g3 : Buf (Elt F) (arg3.view.loc (c : Thread nD τ))) (g4 : Buf (Elt F) (arg4.view.loc (c : Thread nD τ))) (g5 : Buf (Elt F) (arg5.view.loc (c : Thread nD τ))) (g6 : Buf (Elt F) (arg6.view.loc (c : Thread nD τ))) (g10 : Buf (Elt F) (arg10.view.loc (c : Thread nD τ))) (K : PUnit → sProp 𝕄) :
    iprop(tbPt0 c tbM0_0 xt ∗ tbPt0 c tbM0_1 xt1 ∗ (sPt (F := F) c (sw 1) ∗ (∃ g : RBuf (F := F) c, InG c 1 (T c xt (i 0).val) (hT _) f0 f1 f2 g)) ∗ semVal ((c : Thread nD τ), SemLoc.dma (dm (oth 1))) 0 ∗ wAny (F := F) c scM0_1 ∗ wAny (F := F) c scM0_2 ∗ wAny (F := F) c scM0_3 ∗ owes (c : Thread nD τ) 0 W ∗ (arg3.view.loc (c : Thread nD τ) ↦{fullShare} g3) ∗ (arg4.view.loc (c : Thread nD τ) ↦{fullShare} g4) ∗ (arg5.view.loc (c : Thread nD τ) ↦{fullShare} g5) ∗ (arg6.view.loc (c : Thread nD τ) ↦{fullShare} g6) ∗ (arg10.view.loc (c : Thread nD τ) ↦{fullShare} g10)
      ∗ (∀ (g' : Buf (Elt F) (arg10.view.loc (c : Thread nD τ))) (r : ℕ), ⌜Row arg10 (k0_pay11 (P9 arg3 g3) (P10 arg3 g3 arg4 g4 (wt c hbM0_0 (T c xt (i 0).val) (hT _) f0)) (wt c hbM0_1 (T c xt (i 0).val) (hT _) f1) (Lb arg5 g5) (wt c hbM0_2 (T c xt (i 0).val) (hT _) f2) (Lb arg6 g6)) 8 g'⌝ -∗ ⌜IsNxt c xt n (T c xt (i 0).val) ((i 0).val + 1) r⌝ -∗ tbPt0 c tbM0_0 xt -∗ tbPt0 c tbM0_1 xt1
          -∗ sPt (F := F) c (sw (oth 1)) -∗ (∃ G, Fl c (oth 1) xt hT n r f0 f1 f2 G) -∗ semVal ((c : Thread nD τ), SemLoc.dma (dm 1)) 0
          -∗ wPt c scM0_1 (wt c hbM0_0 (T c xt (i 0).val) (hT _) f0) -∗ wPt c scM0_2 (wt c hbM0_1 (T c xt (i 0).val) (hT _) f1) -∗ wPt c scM0_3 (wt c hbM0_2 (T c xt (i 0).val) (hT _) f2) -∗ (∃ W', owes (c : Thread nD τ) 0 W')
          -∗ (arg3.view.loc (c : Thread nD τ) ↦{fullShare} g3) -∗ (arg4.view.loc (c : Thread nD τ) ↦{fullShare} g4) -∗ (arg5.view.loc (c : Thread nD τ) ↦{fullShare} g5) -∗ (arg6.view.loc (c : Thread nD τ) ↦{fullShare} g6) -∗ (arg10.view.loc (c : Thread nD τ) ↦{fullShare} g') -∗ K ⟨⟩))
      ⊢ wp frame (wpE (defs₀ (F := F)) 𝒱₀ (c : Thread nD τ) none) Set.univ (cc0__moe_kernel (F := F) i tbM0_0 htbM0_0 tbM0_1 htbM0_1 arg3 harg3 arg4 harg4 arg5 harg5 arg6 harg6 hbM0_0 (Memref.isWhole_whole _) hbM0_1 (Memref.isWhole_whole _) hbM0_2 (Memref.isWhole_whole _) arg10 harg10 scM0_0 (Memref.isWhole_whole _) scM0_1 (Memref.isWhole_whole _) scM0_2 (Memref.isWhole_whole _) scM0_3 (Memref.isWhole_whole _) scM0_4 (Memref.isWhole_whole _) cc0_scratch5) K := by
  simp only [cc0__moe_kernel_eq_skeleton]; unfold cc0__moe_kernel_skel
  simp only [smemLoad, smemLoadElt, Prog.lift, Prog.bind_op, Prog.bind_ret, Prog.pure_eq_ret]
  have hi160 := i_lt i
  iintro ⟨HT, HT1, HP, Hdo, Hg, Hu, Hd, HO, H3, H4, H5, H6, H10, HK⟩
  iapply (wp_load 𝒱₀ (c : Thread nD τ) none Set.univ (m := tbM0_1) (Finset.subset_univ _)) $$ HT1; iintro HT1
  rw [hx1 _]
  iapply (wp_load 𝒱₀ (c : Thread nD τ) none Set.univ (m := tbM0_0) (Finset.subset_univ _)) $$ HT; iintro HT
  rw [word_eq c xt _ _ _ (i 0).val (off1_eq i)]
  iapply (wp_assume 𝒱₀ (c : Thread nD τ) none Set.univ (chk2_ok i (BitVec.ofNat 32 n) _ (hT _)))
  rw [addi_one]
  iapply (wp_call 𝒱₀ (c : Thread nD τ) none Set.univ (160 - ((i 0).val + 1)) (fun u hu => by cases hu))
  iapply (while_sound c i xt n hn (T c xt (i 0).val) (160 - ((i 0).val + 1)) ((i 0).val + 1) (by omega) _)
  isplitl [HT]; · iexact HT
  iintro %r %hr HT
  rw [dif_pos ((cond1_iff i n hn).2 hin)]
  rw [wp_bind]
  iapply (part2_new1 c none i arg3 harg3 arg4 harg4 arg5 harg5 arg6 harg6 arg10 harg10 n r hn hr.2.1 _ (hT _) _ _ _ xt hT hi hs f0 f1 f2 W g3 g4 _)
  isplitl [HT]; · iexact HT
  isplitl [HP]; · iexact HP
  isplitl [Hdo]; · iexact Hdo
  isplitl [Hg]; · iexact Hg
  isplitl [Hu]; · iexact Hu
  isplitl [Hd]; · iexact Hd
  isplitl [HO]; · iexact HO
  isplitl [H3]; · iexact H3
  isplitl [H4]; · iexact H4
  iintro HT Hs HF Hdb Hg Hu Hd HO H3 H4
  rw [wp_bind]
  iapply (part3_ok c none i arg3 harg3 arg4 harg4 arg5 harg5 arg6 harg6 arg10 harg10 _ _ _ _ g5 g6 g10 _)
  isplitl [Hu]; · iexact Hu
  isplitl [Hd]; · iexact Hd
  isplitl [H5]; · iexact H5
  isplitl [H6]; · iexact H6
  isplitl [H10]; · iexact H10
  iintro %g3' %h3 Hu Hd H5 H6 H10
  simp only [Prog.bind_op, Prog.bind_ret]
  iapply (row_store c none arg10 (k0_pay11 (P9 arg3 g3) (P10 arg3 g3 arg4 g4 (wt c hbM0_0 (T c xt (i 0).val) (hT _) f0)) (wt c hbM0_1 (T c xt (i 0).val) (hT _) f1) (Lb arg5 g5) (wt c hbM0_2 (T c xt (i 0).val) (hT _) f2) (Lb arg6 g6)) 3 (by decide) _ _ (fun x => by unfold k0_pay15; exact ess_ov _ 3 (by decide) slices_S512x1024_o0_384_S512x128 x) h3 _ _ _ _ _) $$ H10
  iintro %g4' %h4 H10
  iapply (row_store c none arg10 (k0_pay11 (P9 arg3 g3) (P10 arg3 g3 arg4 g4 (wt c hbM0_0 (T c xt (i 0).val) (hT _) f0)) (wt c hbM0_1 (T c xt (i 0).val) (hT _) f1) (Lb arg5 g5) (wt c hbM0_2 (T c xt (i 0).val) (hT _) f2) (Lb arg6 g6)) 4 (by decide) _ _ (fun x => by unfold k0_pay1; exact ess_ov _ 4 (by decide) slices_S512x1024_o0_512_S512x128 x) h4 _ _ _ _ _) $$ H10
  iintro %g5' %h5 H10
  iapply (row_store c none arg10 (k0_pay11 (P9 arg3 g3) (P10 arg3 g3 arg4 g4 (wt c hbM0_0 (T c xt (i 0).val) (hT _) f0)) (wt c hbM0_1 (T c xt (i 0).val) (hT _) f1) (Lb arg5 g5) (wt c hbM0_2 (T c xt (i 0).val) (hT _) f2) (Lb arg6 g6)) 5 (by decide) _ _ (fun x => by unfold k0_pay2; exact ess_ov _ 5 (by decide) slices_S512x1024_o0_640_S512x128 x) h5 _ _ _ _ _) $$ H10
  iintro %g6' %h6 H10
  iapply (row_store c none arg10 (k0_pay11 (P9 arg3 g3) (P10 arg3 g3 arg4 g4 (wt c hbM0_0 (T c xt (i 0).val) (hT _) f0)) (wt c hbM0_1 (T c xt (i 0).val) (hT _) f1) (Lb arg5 g5) (wt c hbM0_2 (T c xt (i 0).val) (hT _) f2) (Lb arg6 g6)) 6 (by decide) _ _ (fun x => by unfold k0_pay3; exact ess_ov _ 6 (by decide) slices_S512x1024_o0_768_S512x128 x) h6 _ _ _ _ _) $$ H10
  iintro %g7' %h7 H10
  iapply (row_store c none arg10 (k0_pay11 (P9 arg3 g3) (P10 arg3 g3 arg4 g4 (wt c hbM0_0 (T c xt (i 0).val) (hT _) f0)) (wt c hbM0_1 (T c xt (i 0).val) (hT _) f1) (Lb arg5 g5) (wt c hbM0_2 (T c xt (i 0).val) (hT _) f2) (Lb arg6 g6)) 7 (by decide) _ _ (fun x => by unfold k0_pay4; exact ess_ov _ 7 (by decide) slices_S512x1024_o0_896_S512x128 x) h7 _ _ _ _ _) $$ H10
  iintro %g8' %h8 H10
  rw [dif_neg (fun h => absurd ((cond5_iff i n hn).1 h) (by omega))]
  try rw [ret_bind']
  rw [wp_ret]; imodintro
  iapply HK $$ [] [] HT HT1 Hs HF Hdb Hg Hu Hd HO H3 H4 H5 H6 H10
  · ipureintro; exact h8
  · ipureintro; exact hr

theorem whole_back (a : Memref sig .tc .vmem S4096x128 .f32) (g : Buf (Elt F) (a.view.loc (c : Thread nD τ))) (w : FVec F S4096x128 .f32) :
    a.view.read (Elt F) ((a.access (Rect.unit (s := S4096x128) ![0, 0] S4096x128.size inb_S4096x128_S4096x128_0_0)).write (Elt F) g w Finset.univ) = w := by
  funext y
  have hx : (Rect.unit (s := S4096x128) ![0, 0] S4096x128.size inb_S4096x128_S4096x128_0_0).emb y = y := by
    funext b; refine Fin.ext ?_
    match b with
    | ⟨0, _⟩ => show 0 + 1 * (y 0).val = (y 0).val; omega
    | ⟨1, _⟩ => show 0 + 1 * (y 1).val = (y 1).val; omega
  have h2 := View.read_slice_write_emb (v := a.view) (Val := Elt F) (Rect.unit (s := S4096x128) ![0, 0] S4096x128.size inb_S4096x128_S4096x128_0_0) g w (M := Finset.univ) (x := y) (Finset.mem_univ y)
  rw [hx] at h2
  exact h2

set_option maxHeartbeats 600000 in
/-- Past the used tiles. -/
theorem body_idle (i : grid0.Coords) (arg3 : Memref sig .tc .vmem S4096x128 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg10 : Memref sig .tc .vmem S4096x128 .f32) (harg10 : arg10.IsWhole) (n : ℕ) (hn : n ≤ 160) (xt : TbBuf0 (F := F) c tbM0_0) (hT : ∀ k, (T c xt k).toNat < 32)
    (xt1 : TbBuf0 (F := F) c tbM0_1) (hx1 : ∀ x, tbM0_1.view.readAt (Elt F) r1.toLoadRect xt1 x = BitVec.ofNat 32 n)
    (hin : n ≤ (i 0).val) (g3 : Buf (Elt F) (arg3.view.loc (c : Thread nD τ))) (g4 : Buf (Elt F) (arg4.view.loc (c : Thread nD τ))) (g5 : Buf (Elt F) (arg5.view.loc (c : Thread nD τ))) (g6 : Buf (Elt F) (arg6.view.loc (c : Thread nD τ))) (g10 : Buf (Elt F) (arg10.view.loc (c : Thread nD τ))) (K : PUnit → sProp 𝕄) :
    iprop(tbPt0 c tbM0_0 xt ∗ tbPt0 c tbM0_1 xt1 ∗ (arg10.view.loc (c : Thread nD τ) ↦{fullShare} g10)
      ∗ (∀ g' : Buf (Elt F) (arg10.view.loc (c : Thread nD τ)), ⌜arg10.view.read (Elt F) g' = k0_pay5 (F := F)⌝ -∗ tbPt0 c tbM0_0 xt -∗ tbPt0 c tbM0_1 xt1 -∗ (arg10.view.loc (c : Thread nD τ) ↦{fullShare} g') -∗ K ⟨⟩))
      ⊢ wp frame (wpE (defs₀ (F := F)) 𝒱₀ (c : Thread nD τ) none) Set.univ (cc0__moe_kernel (F := F) i tbM0_0 htbM0_0 tbM0_1 htbM0_1 arg3 harg3 arg4 harg4 arg5 harg5 arg6 harg6 hbM0_0 (Memref.isWhole_whole _) hbM0_1 (Memref.isWhole_whole _) hbM0_2 (Memref.isWhole_whole _) arg10 harg10 scM0_0 (Memref.isWhole_whole _) scM0_1 (Memref.isWhole_whole _) scM0_2 (Memref.isWhole_whole _) scM0_3 (Memref.isWhole_whole _) scM0_4 (Memref.isWhole_whole _) cc0_scratch5) K := by
  simp only [cc0__moe_kernel_eq_skeleton]; unfold cc0__moe_kernel_skel
  simp only [smemLoad, smemLoadElt, Prog.lift, Prog.bind_op, Prog.bind_ret, Prog.pure_eq_ret]
  have hi160 := i_lt i
  iintro ⟨HT, HT1, H10, HK⟩
  iapply (wp_load 𝒱₀ (c : Thread nD τ) none Set.univ (m := tbM0_1) (Finset.subset_univ _)) $$ HT1; iintro HT1
  rw [hx1 _]
  iapply (wp_load 𝒱₀ (c : Thread nD τ) none Set.univ (m := tbM0_0) (Finset.subset_univ _)) $$ HT; iintro HT
  rw [word_eq c xt _ _ _ (i 0).val (off1_eq i)]
  iapply (wp_assume 𝒱₀ (c : Thread nD τ) none Set.univ (chk2_ok i (BitVec.ofNat 32 n) _ (hT _)))
  rw [addi_one]
  iapply (wp_call 𝒱₀ (c : Thread nD τ) none Set.univ (160 - ((i 0).val + 1)) (fun u hu => by cases hu))
  iapply (while_sound c i xt n hn (T c xt (i 0).val) (160 - ((i 0).val + 1)) ((i 0).val + 1) (by omega) _)
  isplitl [HT]; · iexact HT
  iintro %r %hr HT
  rw [dif_neg (fun h => absurd ((cond1_iff i n hn).1 h) (by omega))]
  try rw [ret_bind']
  rw [dif_pos ((cond5_iff i n hn).2 hin)]
  simp only [Prog.bind_op, Prog.bind_ret]
  iapply (wp_load 𝒱₀ (c : Thread nD τ) none Set.univ (m := arg10) (Finset.subset_univ _)) $$ H10; iintro H10
  iapply (wp_store 𝒱₀ (c : Thread nD τ) none Set.univ (m := arg10) (r := Rect.unit (s := S4096x128) ![0, 0] S4096x128.size inb_S4096x128_S4096x128_0_0) (Mk := Finset.univ) (Finset.subset_univ _)) $$ H10; iintro H10
  rw [wp_ret]; imodintro
  iapply HK $$ [] HT HT1 H10
  ipureintro
  exact whole_back c arg10 g10 (k0_pay5 (F := F))

end Cert.ExpertsIdeal.Ex

end
-- ==== Proof.ExG.lean ====
/-
  The state between grid points, and one body from each state to the next.
-/
module

public import proofs.«01_k».proof.Proof.ExF

@[expose] public section

set_option maxRecDepth 16384

noncomputable section

namespace Cert.ExpertsIdeal.Ex

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

/-- Sub-row `j` of a block of the tile's rows. -/
abbrev Sx (x : S4096x128.Idx → Elt F .f32) (j : ℕ) (hj : j < 8 := by decide) : Vec F S512x128 .f32 := fun z => x ((srow j hj).toLoadRect.idx z)
abbrev Bx (x : S1x1x1024.Idx → Elt F .f32) : Vec F S1x1x1024 .f32 := fun z => x (rB.toLoadRect.idx z)
abbrev P9x (x : S4096x128.Idx → Elt F .f32) : FVec F S512x1024 .bf16 := k0_pay9 (Sx x 0) (Sx x 1) (Sx x 2) (Sx x 3) (Sx x 4) (Sx x 5) (Sx x 6) (Sx x 7)
abbrev P10x (x : S4096x128.Idx → Elt F .f32) (x4 : S1x1x1024.Idx → Elt F .f32) (w : FVec F S1024x1024 .bf16) : FVec F S512x1024 .f32 := k0_pay10 (Sx x 0) (Sx x 1) (Sx x 2) (Sx x 3) (Sx x 4) (Sx x 5) (Sx x 6) (Sx x 7) w (Bx x4)

/-- The tile's result from its blocks and its expert's rounded matrices. -/
def outx (x3 : S4096x128.Idx → Elt F .f32) (x4 x5 x6 : S1x1x1024.Idx → Elt F .f32) (wg wu wd : FVec F S1024x1024 .bf16) : FVec F S512x1024 .f32 :=
  k0_pay11 (P9x x3) (P10x x3 x4 wg) wu (Bx x5) wd (Bx x6)

theorem outx_eq (arg3 : Memref sig .tc .vmem S4096x128 .f32) (arg4 arg5 arg6 : Memref sig .tc .vmem S1x1x1024 .f32)
    (g3 : Buf (Elt F) (arg3.view.loc (c : Thread nD τ))) (g4 : Buf (Elt F) (arg4.view.loc (c : Thread nD τ))) (g5 : Buf (Elt F) (arg5.view.loc (c : Thread nD τ))) (g6 : Buf (Elt F) (arg6.view.loc (c : Thread nD τ)))
    (wg wu wd : FVec F S1024x1024 .bf16) :
    k0_pay11 (P9 arg3 g3) (P10 arg3 g3 arg4 g4 wg) wu (Lb arg5 g5) wd (Lb arg6 g6)
      = outx (arg3.view.read (Elt F) g3) (arg4.view.read (Elt F) g4) (arg5.view.read (Elt F) g5) (arg6.view.read (Elt F) g6) wg wu wd := rfl

theorem wt_T (M : Memref sig .tc .hbm S32x1024x1024 .f32) (f : HbBuf0 (F := F) c M) (xt : TbBuf0 (F := F) c tbM0_0) (hT : ∀ k, (T c xt k).toNat < 32) (k k' : ℕ) (h : T c xt k = T c xt k') :
    wt c M (T c xt k) (hT k) f = wt c M (T c xt k') (hT k') f := by
  have key : ∀ (e e' : BitVec 32) (he : e.toNat < 32) (he' : e'.toNat < 32), e = e' → wt c M e he f = wt c M e' he' f := by
    intro e e' he he' h; subst h; rfl
  exact key _ _ _ _ h

/-- What tile `i` leaves in its output block. -/
def resx (xt : TbBuf0 (F := F) c tbM0_0) (hT : ∀ k, (T c xt k).toNat < 32) (n : ℕ) (f0 : HbBuf0 (F := F) c hbM0_0) (f1 : HbBuf0 (F := F) c hbM0_1) (f2 : HbBuf0 (F := F) c hbM0_2) (i : ℕ) (x3 : S4096x128.Idx → Elt F .f32) (x4 x5 x6 : S1x1x1024.Idx → Elt F .f32) : S4096x128.Idx → Elt F .f32 :=
  if i < n then ov (outx x3 x4 x5 x6 (wt c hbM0_0 (T c xt i) (hT _) f0) (wt c hbM0_1 (T c xt i) (hT _) f1) (wt c hbM0_2 (T c xt i) (hT _) f2)) else k0_pay5 (F := F)

/-- The three rounded matrices after tile `q`: tile `q`'s expert's while tiles are in use. -/
def Wts (xt : TbBuf0 (F := F) c tbM0_0) (hT : ∀ k, (T c xt k).toNat < 32) (n : ℕ) (f0 : HbBuf0 (F := F) c hbM0_0) (f1 : HbBuf0 (F := F) c hbM0_1) (f2 : HbBuf0 (F := F) c hbM0_2) (q : ℕ) : sProp 𝕄 :=
  if q < n then iprop(wPt c scM0_1 (wt c hbM0_0 (T c xt q) (hT _) f0) ∗ wPt c scM0_2 (wt c hbM0_1 (T c xt q) (hT _) f1) ∗ wPt c scM0_3 (wt c hbM0_2 (T c xt q) (hT _) f2))
  else iprop(wAny (F := F) c scM0_1 ∗ wAny (F := F) c scM0_2 ∗ wAny (F := F) c scM0_3)

/-- The state before the first tile. -/
def Init (f0 : HbBuf0 (F := F) c hbM0_0) (f1 : HbBuf0 (F := F) c hbM0_1) (f2 : HbBuf0 (F := F) c hbM0_2) : sProp 𝕄 :=
  iprop((∃ f : Buf (Elt F) (scM0_4.view.loc (c : Thread nD τ)), scM0_4.view.loc (c : Thread nD τ) ↦{fullShare} f) ∗ (∃ g, rPt (F := F) c Finset.univ g) ∗ hbPt0 c hbM0_0 f0 ∗ hbPt0 c hbM0_1 f1 ∗ hbPt0 c hbM0_2 f2
    ∗ semVal ((c : Thread nD τ), SemLoc.dma (dm 0)) 0 ∗ semVal ((c : Thread nD τ), SemLoc.dma (dm (oth 0))) 0 ∗ wAny (F := F) c scM0_1 ∗ wAny (F := F) c scM0_2 ∗ wAny (F := F) c scM0_3)

/-- Where the next run starts, after tile `q`. -/
def Nx (xt : TbBuf0 (F := F) c tbM0_0) (n q r : ℕ) : Prop := (q < n → IsNxt c xt n (T c xt q) (q + 1) r) ∧ (n ≤ q → n ≤ r)

/-- The state after tile `q`. -/
def Run (xt : TbBuf0 (F := F) c tbM0_0) (hT : ∀ k, (T c xt k).toNat < 32) (n : ℕ) (f0 : HbBuf0 (F := F) c hbM0_0) (f1 : HbBuf0 (F := F) c hbM0_1) (f2 : HbBuf0 (F := F) c hbM0_2) (q : ℕ) : sProp 𝕄 :=
  iprop(∃ (s : Fin 2) (r : ℕ), ⌜Nx c xt n q r⌝ ∗ sPt (F := F) c (sw s) ∗ (∃ G, Fl c s xt hT n r f0 f1 f2 G) ∗ semVal ((c : Thread nD τ), SemLoc.dma (dm (oth s))) 0 ∗ Wts c xt hT n f0 f1 f2 q)

/-- The state before tile `p`. -/
def Inv (xt : TbBuf0 (F := F) c tbM0_0) (hT : ∀ k, (T c xt k).toNat < 32) (n : ℕ) (f0 : HbBuf0 (F := F) c hbM0_0) (f1 : HbBuf0 (F := F) c hbM0_1) (f2 : HbBuf0 (F := F) c hbM0_2) (p : ℕ) : sProp 𝕄 := match p with
  | 0 => Init c f0 f1 f2
  | q + 1 => Run c xt hT n f0 f1 f2 q

theorem inv_succ (xt : TbBuf0 (F := F) c tbM0_0) (hT : ∀ k, (T c xt k).toNat < 32) (n : ℕ) (f0 : HbBuf0 (F := F) c hbM0_0) (f1 : HbBuf0 (F := F) c hbM0_1) (f2 : HbBuf0 (F := F) c hbM0_2) (p : ℕ) : Inv c xt hT n f0 f1 f2 (p + 1) = Run c xt hT n f0 f1 f2 p := rfl

/-- A whole buffer owned at a value. -/
theorem owns_whole_eq {s : Shape} {e : EltTy} (a : Memref sig .tc .vmem s e) (ha : a.IsWhole) (x : s.Idx → Elt F e) :
    (owns (c : Thread nD τ) a fullShare x : sProp 𝕄) = iprop(∃ f : Buf (Elt F) (a.view.loc (c : Thread nD τ)), ⌜a.view.read (Elt F) f = x⌝ ∗ a.view.loc (c : Thread nD τ) ↦{fullShare} f) := by
  unfold owns; rw [ha.set_eq_univ]

theorem wPt_any (M : Memref sig .tc .vmem S1024x1024 .bf16) (w : FVec F S1024x1024 .bf16) : wPt c M w ⊢ (wAny (F := F) c M : sProp 𝕄) := by
  unfold wPt wAny
  iintro ⟨%f, -, H⟩
  iexists f; iexact H

theorem wts_any (xt : TbBuf0 (F := F) c tbM0_0) (hT : ∀ k, (T c xt k).toNat < 32) (n : ℕ) (f0 : HbBuf0 (F := F) c hbM0_0) (f1 : HbBuf0 (F := F) c hbM0_1) (f2 : HbBuf0 (F := F) c hbM0_2) (q : ℕ) : Wts c xt hT n f0 f1 f2 q ⊢ (iprop(wAny (F := F) c scM0_1 ∗ wAny (F := F) c scM0_2 ∗ wAny (F := F) c scM0_3) : sProp 𝕄) := by
  unfold Wts
  by_cases h : q < n
  · rw [if_pos h]
    iintro ⟨H1, H2, H3⟩
    isplitl [H1]; · iapply (wPt_any c scM0_1 _); iexact H1
    isplitl [H2]; · iapply (wPt_any c scM0_2 _); iexact H2
    iapply (wPt_any c scM0_3 _); iexact H3
  · rw [if_neg h]

theorem wts_busy (xt : TbBuf0 (F := F) c tbM0_0) (hT : ∀ k, (T c xt k).toNat < 32) (n : ℕ) (f0 : HbBuf0 (F := F) c hbM0_0) (f1 : HbBuf0 (F := F) c hbM0_1) (f2 : HbBuf0 (F := F) c hbM0_2) (q : ℕ) (h : q < n) : Wts c xt hT n f0 f1 f2 q ⊢ (iprop(wPt c scM0_1 (wt c hbM0_0 (T c xt q) (hT _) f0) ∗ wPt c scM0_2 (wt c hbM0_1 (T c xt q) (hT _) f1) ∗ wPt c scM0_3 (wt c hbM0_2 (T c xt q) (hT _) f2)) : sProp 𝕄) := by
  unfold Wts; rw [if_pos h]

theorem fl_busy (xt : TbBuf0 (F := F) c tbM0_0) (hT : ∀ k, (T c xt k).toNat < 32) (n : ℕ) (f0 : HbBuf0 (F := F) c hbM0_0) (f1 : HbBuf0 (F := F) c hbM0_1) (f2 : HbBuf0 (F := F) c hbM0_2) (s : Fin 2) (r : ℕ) (g : RBuf (F := F) c) (h : r < n) : Fl c s xt hT n r f0 f1 f2 g ⊢ (InG c s (T c xt r) (hT r) f0 f1 f2 g : sProp 𝕄) := by
  unfold Fl; rw [if_pos h]

theorem fl_idle (xt : TbBuf0 (F := F) c tbM0_0) (hT : ∀ k, (T c xt k).toNat < 32) (n : ℕ) (f0 : HbBuf0 (F := F) c hbM0_0) (f1 : HbBuf0 (F := F) c hbM0_1) (f2 : HbBuf0 (F := F) c hbM0_2) (s : Fin 2) (r : ℕ) (g : RBuf (F := F) c) (h : ¬ r < n) : Fl c s xt hT n r f0 f1 f2 g ⊢
    (iprop(rPt c Finset.univ g ∗ hbPt0 c hbM0_0 f0 ∗ hbPt0 c hbM0_1 f1 ∗ hbPt0 c hbM0_2 f2 ∗ semVal ((c : Thread nD τ), SemLoc.dma (dm s)) 0) : sProp 𝕄) := by
  unfold Fl; rw [if_neg h]

/-- After the last tile nothing is in flight and everything is given back. -/
theorem run_end (xt : TbBuf0 (F := F) c tbM0_0) (hT : ∀ k, (T c xt k).toNat < 32) (n : ℕ) (f0 : HbBuf0 (F := F) c hbM0_0) (f1 : HbBuf0 (F := F) c hbM0_1) (f2 : HbBuf0 (F := F) c hbM0_2) (q : ℕ) (hq : n ≤ q + 1) : Run c xt hT n f0 f1 f2 q ⊢
    (iprop((∃ f : Buf (Elt F) (scM0_4.view.loc (c : Thread nD τ)), scM0_4.view.loc (c : Thread nD τ) ↦{fullShare} f) ∗ (∃ g, rPt (F := F) c Finset.univ g) ∗ hbPt0 c hbM0_0 f0 ∗ hbPt0 c hbM0_1 f1 ∗ hbPt0 c hbM0_2 f2
    ∗ semVal ((c : Thread nD τ), SemLoc.dma (dm 0)) 0 ∗ semVal ((c : Thread nD τ), SemLoc.dma (dm (oth 0))) 0 ∗ wAny (F := F) c scM0_1 ∗ wAny (F := F) c scM0_2 ∗ wAny (F := F) c scM0_3) : sProp 𝕄) := by
  unfold Run sPt
  iintro ⟨%s, %r, %hr, ⟨%f, -, Hs⟩, ⟨%G, HF⟩, Hq, Hw⟩
  have hnr : ¬ r < n := by
    by_cases h : q < n
    · have := (hr.1 h).1; omega
    · have := hr.2 (by omega); omega
  ihave HF := fl_idle c xt hT n f0 f1 f2 s r G hnr $$ [HF]
  · iexact HF
  icases HF with ⟨Hr, H0, H1, H2, Hp⟩
  ihave Hw := wts_any c xt hT n f0 f1 f2 q $$ [Hw]
  · iexact Hw
  isplitl [Hs]; · iexists f; iexact Hs
  isplitl [Hr]; · iexists G; iexact Hr
  isplitl [H0]; · iexact H0
  isplitl [H1]; · iexact H1
  isplitl [H2]; · iexact H2
  obtain rfl | rfl : s = 0 ∨ s = 1 := by omega
  · isplitl [Hp]; · iexact Hp
    isplitl [Hq]; · iexact Hq
    iexact Hw
  · isplitl [Hq]; · iexact Hq
    isplitl [Hp]; · iexact Hp
    iexact Hw

/-- A step that keeps the expert: the weights held stay, and the pending fetch with them. -/
theorem nx_same (xt : TbBuf0 (F := F) c tbM0_0) (n q r : ℕ) (hin : q + 1 < n) (hs : T c xt (q + 1) = T c xt q) (h : Nx c xt n q r) : Nx c xt n (q + 1) r := by
  obtain ⟨h1, h2, h3, h4⟩ := h.1 (by omega)
  have hne : r ≠ q + 1 := fun hr => h4 (by omega) (by rw [hr, hs])
  exact ⟨fun _ => ⟨by omega, h2, fun k hk hk' => (h3 k (by omega) hk').trans hs.symm, fun hr => hs ▸ h4 hr⟩, fun h' => by omega⟩

theorem nx_new (xt : TbBuf0 (F := F) c tbM0_0) (n q r : ℕ) (hin : q + 1 < n) (hs : T c xt (q + 1) ≠ T c xt q) (h : Nx c xt n q r) : r = q + 1 := by
  obtain ⟨h1, h2, h3, h4⟩ := h.1 (by omega)
  by_contra hr
  exact hs (h3 (q + 1) le_rfl (by omega))

theorem nx_idle (xt : TbBuf0 (F := F) c tbM0_0) (n q r : ℕ) (hin : n ≤ q + 1) (h : Nx c xt n q r) : Nx c xt n (q + 1) r := by
  refine ⟨fun h' => by omega, fun _ => ?_⟩
  by_cases hq : q < n
  · have := (h.1 hq).1; omega
  · exact h.2 (by omega)

set_option maxHeartbeats 1000000 in
/-- The body at tile `i`, the first. -/
theorem step_first (i : grid0.Coords) (arg3 : Memref sig .tc .vmem S4096x128 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg10 : Memref sig .tc .vmem S4096x128 .f32) (harg10 : arg10.IsWhole) (n : ℕ) (hn : n ≤ 160) (xt : TbBuf0 (F := F) c tbM0_0) (hT : ∀ k, (T c xt k).toNat < 32)
    (xt1 : TbBuf0 (F := F) c tbM0_1) (hx1 : ∀ x, tbM0_1.view.readAt (Elt F) r1.toLoadRect xt1 x = BitVec.ofNat 32 n)
    (f0 : HbBuf0 (F := F) c hbM0_0) (f1 : HbBuf0 (F := F) c hbM0_1) (f2 : HbBuf0 (F := F) c hbM0_2) (W : Waits sig Unit) (x3 : S4096x128.Idx → Elt F .f32) (x4 x5 x6 : S1x1x1024.Idx → Elt F .f32)
    (K : PUnit → sProp 𝕄) (hin : (i 0).val < n) (hi : (i 0).val = 0) :
    iprop(tbPt0 c tbM0_0 xt ∗ tbPt0 c tbM0_1 xt1 ∗ Inv c xt hT n f0 f1 f2 (i 0).val ∗ owes (c : Thread nD τ) 0 W ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg10 fullShare d)
      ∗ (iprop(tbPt0 c tbM0_0 xt ∗ tbPt0 c tbM0_1 xt1 ∗ Inv c xt hT n f0 f1 f2 ((i 0).val + 1) ∗ (∃ W', owes (c : Thread nD τ) 0 W') ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg10 fullShare (resx c xt hT n f0 f1 f2 (i 0).val x3 x4 x5 x6)) -∗ K ⟨⟩))
      ⊢ wp frame (wpE (defs₀ (F := F)) 𝒱₀ (c : Thread nD τ) none) Set.univ (cc0__moe_kernel (F := F) i tbM0_0 htbM0_0 tbM0_1 htbM0_1 arg3 harg3 arg4 harg4 arg5 harg5 arg6 harg6 hbM0_0 (Memref.isWhole_whole _) hbM0_1 (Memref.isWhole_whole _) hbM0_2 (Memref.isWhole_whole _) arg10 harg10 scM0_0 (Memref.isWhole_whole _) scM0_1 (Memref.isWhole_whole _) scM0_2 (Memref.isWhole_whole _) scM0_3 (Memref.isWhole_whole _) scM0_4 (Memref.isWhole_whole _) cc0_scratch5) K := by
  rw [show Inv c xt hT n f0 f1 f2 (i 0).val = Init c f0 f1 f2 from by rw [hi]; rfl]
  unfold Init
  simp only [owns_whole_eq c arg3 harg3, owns_whole_eq c arg4 harg4, owns_whole_eq c arg5 harg5, owns_whole_eq c arg6 harg6, owns_whole_eq c arg10 harg10]
  iintro ⟨Ht0, Ht1, HI, HW, ⟨%g3, %e3, H3⟩, ⟨%g4, %e4, H4⟩, ⟨%g5, %e5, H5⟩, ⟨%g6, %e6, H6⟩, ⟨%d10, %g10, -, H10⟩, HK⟩
  subst e3 e4 e5 e6
  icases HI with ⟨Hs, Hr, Hh0, Hh1, Hh2, Hp, Hq, Ha, Hb, Hc⟩
  iapply (body_first c i arg3 harg3 arg4 harg4 arg5 harg5 arg6 harg6 arg10 harg10 n hn xt hT xt1 hx1 hin hi f0 f1 f2 W g3 g4 g5 g6 g10 K)
  isplitl [Ht0]; · iexact Ht0
  isplitl [Ht1]; · iexact Ht1
  isplitl [Hs Hr Hh0 Hh1 Hh2 Hp]
  · isplitl [Hs]; · iexact Hs
    isplitl [Hr]; · iexact Hr
    isplitl [Hh0]; · iexact Hh0
    isplitl [Hh1]; · iexact Hh1
    isplitl [Hh2]; · iexact Hh2
    iexact Hp
  isplitl [Hq]; · iexact Hq
  isplitl [Ha]; · iexact Ha
  isplitl [Hb]; · iexact Hb
  isplitl [Hc]; · iexact Hc
  isplitl [HW]; · iexact HW
  isplitl [H3]; · iexact H3
  isplitl [H4]; · iexact H4
  isplitl [H5]; · iexact H5
  isplitl [H6]; · iexact H6
  isplitl [H10]; · iexact H10
  iintro %g' %r' %hrow %hnx Ht0 Ht1 Hs HF Hd Ha Hb Hc HW H3 H4 H5 H6 H10
  iapply HK
  isplitl [Ht0]; · iexact Ht0
  isplitl [Ht1]; · iexact Ht1
  isplitl [Hs HF Hd Ha Hb Hc]
  · rw [inv_succ]
    unfold Run Wts
    rw [if_pos hin]
    iexists (oth 0), r'
    isplitr; · ipureintro; exact ⟨fun _ => hnx, fun h => by omega⟩
    isplitl [Hs]; · iexact Hs
    isplitl [HF]; · iexact HF
    isplitl [Hd]; · iexact Hd
    isplitl [Ha]; · iexact Ha
    isplitl [Hb]; · iexact Hb
    iexact Hc
  isplitl [HW]; · iexact HW
  isplitl [H3]; · iexists g3; isplitr; · ipureintro; rfl
                  iexact H3
  isplitl [H4]; · iexists g4; isplitr; · ipureintro; rfl
                  iexact H4
  isplitl [H5]; · iexists g5; isplitr; · ipureintro; rfl
                  iexact H5
  isplitl [H6]; · iexists g6; isplitr; · ipureintro; rfl
                  iexact H6
  iexists g'; isplitr
  swap; · iexact H10
  ipureintro
  unfold resx; rw [if_pos hin]; exact funext fun y => (hrow y (by omega)).trans (congrFun (congrArg ov (outx_eq c arg3 arg4 arg5 arg6 g3 g4 g5 g6 _ _ _)) y)

set_option maxHeartbeats 1000000 in
/-- The body at tile `i`, its expert the tile before it had. -/
theorem step_same (i : grid0.Coords) (arg3 : Memref sig .tc .vmem S4096x128 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg10 : Memref sig .tc .vmem S4096x128 .f32) (harg10 : arg10.IsWhole) (n : ℕ) (hn : n ≤ 160) (xt : TbBuf0 (F := F) c tbM0_0) (hT : ∀ k, (T c xt k).toNat < 32)
    (xt1 : TbBuf0 (F := F) c tbM0_1) (hx1 : ∀ x, tbM0_1.view.readAt (Elt F) r1.toLoadRect xt1 x = BitVec.ofNat 32 n)
    (f0 : HbBuf0 (F := F) c hbM0_0) (f1 : HbBuf0 (F := F) c hbM0_1) (f2 : HbBuf0 (F := F) c hbM0_2) (W : Waits sig Unit) (x3 : S4096x128.Idx → Elt F .f32) (x4 x5 x6 : S1x1x1024.Idx → Elt F .f32)
    (K : PUnit → sProp 𝕄) (hin : (i 0).val < n) (q : ℕ) (hq : (i 0).val = q + 1) (hs : T c xt (q + 1) = T c xt q) :
    iprop(tbPt0 c tbM0_0 xt ∗ tbPt0 c tbM0_1 xt1 ∗ Inv c xt hT n f0 f1 f2 (i 0).val ∗ owes (c : Thread nD τ) 0 W ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg10 fullShare d)
      ∗ (iprop(tbPt0 c tbM0_0 xt ∗ tbPt0 c tbM0_1 xt1 ∗ Inv c xt hT n f0 f1 f2 ((i 0).val + 1) ∗ (∃ W', owes (c : Thread nD τ) 0 W') ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg10 fullShare (resx c xt hT n f0 f1 f2 (i 0).val x3 x4 x5 x6)) -∗ K ⟨⟩))
      ⊢ wp frame (wpE (defs₀ (F := F)) 𝒱₀ (c : Thread nD τ) none) Set.univ (cc0__moe_kernel (F := F) i tbM0_0 htbM0_0 tbM0_1 htbM0_1 arg3 harg3 arg4 harg4 arg5 harg5 arg6 harg6 hbM0_0 (Memref.isWhole_whole _) hbM0_1 (Memref.isWhole_whole _) hbM0_2 (Memref.isWhole_whole _) arg10 harg10 scM0_0 (Memref.isWhole_whole _) scM0_1 (Memref.isWhole_whole _) scM0_2 (Memref.isWhole_whole _) scM0_3 (Memref.isWhole_whole _) scM0_4 (Memref.isWhole_whole _) cc0_scratch5) K := by
  rw [show Inv c xt hT n f0 f1 f2 (i 0).val = Run c xt hT n f0 f1 f2 q from by rw [hq]; rfl]
  unfold Run
  simp only [owns_whole_eq c arg3 harg3, owns_whole_eq c arg4 harg4, owns_whole_eq c arg5 harg5, owns_whole_eq c arg6 harg6, owns_whole_eq c arg10 harg10]
  iintro ⟨Ht0, Ht1, HI, HW, ⟨%g3, %e3, H3⟩, ⟨%g4, %e4, H4⟩, ⟨%g5, %e5, H5⟩, ⟨%g6, %e6, H6⟩, ⟨%d10, %g10, -, H10⟩, HK⟩
  subst e3 e4 e5 e6
  icases HI with ⟨%s, %r, %hr, Hs, ⟨%G, HF⟩, Hq, Hw⟩
  ihave Hw := wts_busy c xt hT n f0 f1 f2 q (by omega) $$ [Hw]
  · iexact Hw
  icases Hw with ⟨Ha, Hb, Hc⟩
  iapply (body_same c i arg3 harg3 arg4 harg4 arg5 harg5 arg6 harg6 arg10 harg10 n hn xt hT xt1 hx1 hin (by omega) (by rw [hq]; exact hs) _ _ _ g3 g4 g5 g6 g10 K)
  isplitl [Ht0]; · iexact Ht0
  isplitl [Ht1]; · iexact Ht1
  isplitl [Ha]; · iexact Ha
  isplitl [Hb]; · iexact Hb
  isplitl [Hc]; · iexact Hc
  isplitl [H3]; · iexact H3
  isplitl [H4]; · iexact H4
  isplitl [H5]; · iexact H5
  isplitl [H6]; · iexact H6
  isplitl [H10]; · iexact H10
  iintro %g' %hrow Ht0 Ht1 Ha Hb Hc H3 H4 H5 H6 H10
  iapply HK
  isplitl [Ht0]; · iexact Ht0
  isplitl [Ht1]; · iexact Ht1
  isplitl [Hs HF Hq Ha Hb Hc]
  · rw [inv_succ]
    rw [hq]
    unfold Run Wts
    rw [if_pos (show q + 1 < n by omega)]
    iexists s, r
    isplitr; · ipureintro; exact nx_same c xt n q r (by omega) hs hr
    isplitl [Hs]; · iexact Hs
    isplitl [HF]; · iexists G; iexact HF
    isplitl [Hq]; · iexact Hq
    rw [wt_T c hbM0_0 f0 xt hT _ _ hs, wt_T c hbM0_1 f1 xt hT _ _ hs, wt_T c hbM0_2 f2 xt hT _ _ hs]
    isplitl [Ha]; · iexact Ha
    isplitl [Hb]; · iexact Hb
    iexact Hc
  isplitl [HW]; · iexists W; iexact HW
  isplitl [H3]; · iexists g3; isplitr; · ipureintro; rfl
                  iexact H3
  isplitl [H4]; · iexists g4; isplitr; · ipureintro; rfl
                  iexact H4
  isplitl [H5]; · iexists g5; isplitr; · ipureintro; rfl
                  iexact H5
  isplitl [H6]; · iexists g6; isplitr; · ipureintro; rfl
                  iexact H6
  iexists g'; isplitr
  swap; · iexact H10
  ipureintro
  have hs' : T c xt (i 0).val = T c xt q := by rw [hq]; exact hs
  unfold resx; rw [if_pos hin]; rw [wt_T c hbM0_0 f0 xt hT _ _ hs', wt_T c hbM0_1 f1 xt hT _ _ hs', wt_T c hbM0_2 f2 xt hT _ _ hs']; exact funext fun y => (hrow y (by omega)).trans (congrFun (congrArg ov (outx_eq c arg3 arg4 arg5 arg6 g3 g4 g5 g6 _ _ _)) y)

set_option maxHeartbeats 1000000 in
/-- The body at tile `i`, its expert another than the tile before it had. -/
theorem step_new (i : grid0.Coords) (arg3 : Memref sig .tc .vmem S4096x128 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg10 : Memref sig .tc .vmem S4096x128 .f32) (harg10 : arg10.IsWhole) (n : ℕ) (hn : n ≤ 160) (xt : TbBuf0 (F := F) c tbM0_0) (hT : ∀ k, (T c xt k).toNat < 32)
    (xt1 : TbBuf0 (F := F) c tbM0_1) (hx1 : ∀ x, tbM0_1.view.readAt (Elt F) r1.toLoadRect xt1 x = BitVec.ofNat 32 n)
    (f0 : HbBuf0 (F := F) c hbM0_0) (f1 : HbBuf0 (F := F) c hbM0_1) (f2 : HbBuf0 (F := F) c hbM0_2) (W : Waits sig Unit) (x3 : S4096x128.Idx → Elt F .f32) (x4 x5 x6 : S1x1x1024.Idx → Elt F .f32)
    (K : PUnit → sProp 𝕄) (hin : (i 0).val < n) (q : ℕ) (hq : (i 0).val = q + 1) (hs : T c xt (q + 1) ≠ T c xt q) :
    iprop(tbPt0 c tbM0_0 xt ∗ tbPt0 c tbM0_1 xt1 ∗ Inv c xt hT n f0 f1 f2 (i 0).val ∗ owes (c : Thread nD τ) 0 W ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg10 fullShare d)
      ∗ (iprop(tbPt0 c tbM0_0 xt ∗ tbPt0 c tbM0_1 xt1 ∗ Inv c xt hT n f0 f1 f2 ((i 0).val + 1) ∗ (∃ W', owes (c : Thread nD τ) 0 W') ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg10 fullShare (resx c xt hT n f0 f1 f2 (i 0).val x3 x4 x5 x6)) -∗ K ⟨⟩))
      ⊢ wp frame (wpE (defs₀ (F := F)) 𝒱₀ (c : Thread nD τ) none) Set.univ (cc0__moe_kernel (F := F) i tbM0_0 htbM0_0 tbM0_1 htbM0_1 arg3 harg3 arg4 harg4 arg5 harg5 arg6 harg6 hbM0_0 (Memref.isWhole_whole _) hbM0_1 (Memref.isWhole_whole _) hbM0_2 (Memref.isWhole_whole _) arg10 harg10 scM0_0 (Memref.isWhole_whole _) scM0_1 (Memref.isWhole_whole _) scM0_2 (Memref.isWhole_whole _) scM0_3 (Memref.isWhole_whole _) scM0_4 (Memref.isWhole_whole _) cc0_scratch5) K := by
  rw [show Inv c xt hT n f0 f1 f2 (i 0).val = Run c xt hT n f0 f1 f2 q from by rw [hq]; rfl]
  unfold Run
  simp only [owns_whole_eq c arg3 harg3, owns_whole_eq c arg4 harg4, owns_whole_eq c arg5 harg5, owns_whole_eq c arg6 harg6, owns_whole_eq c arg10 harg10]
  iintro ⟨Ht0, Ht1, HI, HW, ⟨%g3, %e3, H3⟩, ⟨%g4, %e4, H4⟩, ⟨%g5, %e5, H5⟩, ⟨%g6, %e6, H6⟩, ⟨%d10, %g10, -, H10⟩, HK⟩
  subst e3 e4 e5 e6
  icases HI with ⟨%s, %r, %hr, Hs, ⟨%G, HF⟩, Hq, Hw⟩
  ihave Hw := wts_any c xt hT n f0 f1 f2 q $$ [Hw]
  · iexact Hw
  icases Hw with ⟨Ha, Hb, Hc⟩
  have hri : r = (i 0).val := (nx_new c xt n q r (by omega) hs hr).trans hq.symm
  subst hri
  ihave HF := fl_busy c xt hT n f0 f1 f2 s (i 0).val G hin $$ [HF]
  · iexact HF
  have hi : (i 0).val ≠ 0 := by omega
  have hs' : T c xt (i 0).val ≠ T c xt ((i 0).val - 1) := by rw [hq]; exact hs
  obtain rfl | rfl : s = 0 ∨ s = 1 := by omega
  · iapply (body_new0 c i arg3 harg3 arg4 harg4 arg5 harg5 arg6 harg6 arg10 harg10 n hn xt hT xt1 hx1 hin hi hs' f0 f1 f2 W g3 g4 g5 g6 g10 K)
    isplitl [Ht0]; · iexact Ht0
    isplitl [Ht1]; · iexact Ht1
    isplitl [Hs HF]
    · isplitl [Hs]; · iexact Hs
      iexists G; iexact HF
    isplitl [Hq]; · iexact Hq
    isplitl [Ha]; · iexact Ha
    isplitl [Hb]; · iexact Hb
    isplitl [Hc]; · iexact Hc
    isplitl [HW]; · iexact HW
    isplitl [H3]; · iexact H3
    isplitl [H4]; · iexact H4
    isplitl [H5]; · iexact H5
    isplitl [H6]; · iexact H6
    isplitl [H10]; · iexact H10
    iintro %g' %r' %hrow %hnx Ht0 Ht1 Hs HF Hd Ha Hb Hc HW H3 H4 H5 H6 H10
    iapply HK
    isplitl [Ht0]; · iexact Ht0
    isplitl [Ht1]; · iexact Ht1
    isplitl [Hs HF Hd Ha Hb Hc]
    · rw [inv_succ]
      unfold Run Wts
      rw [if_pos hin]
      iexists (oth 0), r'
      isplitr; · ipureintro; exact ⟨fun _ => hnx, fun h => by omega⟩
      isplitl [Hs]; · iexact Hs
      isplitl [HF]; · iexact HF
      isplitl [Hd]; · iexact Hd
      isplitl [Ha]; · iexact Ha
      isplitl [Hb]; · iexact Hb
      iexact Hc
    isplitl [HW]; · iexact HW
    isplitl [H3]; · iexists g3; isplitr; · ipureintro; rfl
                    iexact H3
    isplitl [H4]; · iexists g4; isplitr; · ipureintro; rfl
                    iexact H4
    isplitl [H5]; · iexists g5; isplitr; · ipureintro; rfl
                    iexact H5
    isplitl [H6]; · iexists g6; isplitr; · ipureintro; rfl
                    iexact H6
    iexists g'; isplitr
    swap; · iexact H10
    ipureintro
    unfold resx; rw [if_pos hin]; exact funext fun y => (hrow y (by omega)).trans (congrFun (congrArg ov (outx_eq c arg3 arg4 arg5 arg6 g3 g4 g5 g6 _ _ _)) y)
  · iapply (body_new1 c i arg3 harg3 arg4 harg4 arg5 harg5 arg6 harg6 arg10 harg10 n hn xt hT xt1 hx1 hin hi hs' f0 f1 f2 W g3 g4 g5 g6 g10 K)
    isplitl [Ht0]; · iexact Ht0
    isplitl [Ht1]; · iexact Ht1
    isplitl [Hs HF]
    · isplitl [Hs]; · iexact Hs
      iexists G; iexact HF
    isplitl [Hq]; · iexact Hq
    isplitl [Ha]; · iexact Ha
    isplitl [Hb]; · iexact Hb
    isplitl [Hc]; · iexact Hc
    isplitl [HW]; · iexact HW
    isplitl [H3]; · iexact H3
    isplitl [H4]; · iexact H4
    isplitl [H5]; · iexact H5
    isplitl [H6]; · iexact H6
    isplitl [H10]; · iexact H10
    iintro %g' %r' %hrow %hnx Ht0 Ht1 Hs HF Hd Ha Hb Hc HW H3 H4 H5 H6 H10
    iapply HK
    isplitl [Ht0]; · iexact Ht0
    isplitl [Ht1]; · iexact Ht1
    isplitl [Hs HF Hd Ha Hb Hc]
    · rw [inv_succ]
      unfold Run Wts
      rw [if_pos hin]
      iexists (oth 1), r'
      isplitr; · ipureintro; exact ⟨fun _ => hnx, fun h => by omega⟩
      isplitl [Hs]; · iexact Hs
      isplitl [HF]; · iexact HF
      isplitl [Hd]; · iexact Hd
      isplitl [Ha]; · iexact Ha
      isplitl [Hb]; · iexact Hb
      iexact Hc
    isplitl [HW]; · iexact HW
    isplitl [H3]; · iexists g3; isplitr; · ipureintro; rfl
                    iexact H3
    isplitl [H4]; · iexists g4; isplitr; · ipureintro; rfl
                    iexact H4
    isplitl [H5]; · iexists g5; isplitr; · ipureintro; rfl
                    iexact H5
    isplitl [H6]; · iexists g6; isplitr; · ipureintro; rfl
                    iexact H6
    iexists g'; isplitr
    swap; · iexact H10
    ipureintro
    unfold resx; rw [if_pos hin]; exact funext fun y => (hrow y (by omega)).trans (congrFun (congrArg ov (outx_eq c arg3 arg4 arg5 arg6 g3 g4 g5 g6 _ _ _)) y)

set_option maxHeartbeats 1000000 in
/-- The body at tile `i`, past the used ones. -/
theorem step_idle (i : grid0.Coords) (arg3 : Memref sig .tc .vmem S4096x128 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg10 : Memref sig .tc .vmem S4096x128 .f32) (harg10 : arg10.IsWhole) (n : ℕ) (hn : n ≤ 160) (xt : TbBuf0 (F := F) c tbM0_0) (hT : ∀ k, (T c xt k).toNat < 32)
    (xt1 : TbBuf0 (F := F) c tbM0_1) (hx1 : ∀ x, tbM0_1.view.readAt (Elt F) r1.toLoadRect xt1 x = BitVec.ofNat 32 n)
    (f0 : HbBuf0 (F := F) c hbM0_0) (f1 : HbBuf0 (F := F) c hbM0_1) (f2 : HbBuf0 (F := F) c hbM0_2) (W : Waits sig Unit) (x3 : S4096x128.Idx → Elt F .f32) (x4 x5 x6 : S1x1x1024.Idx → Elt F .f32)
    (K : PUnit → sProp 𝕄) (hin : n ≤ (i 0).val) (q : ℕ) (hq : (i 0).val = q + 1) :
    iprop(tbPt0 c tbM0_0 xt ∗ tbPt0 c tbM0_1 xt1 ∗ Inv c xt hT n f0 f1 f2 (i 0).val ∗ owes (c : Thread nD τ) 0 W ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg10 fullShare d)
      ∗ (iprop(tbPt0 c tbM0_0 xt ∗ tbPt0 c tbM0_1 xt1 ∗ Inv c xt hT n f0 f1 f2 ((i 0).val + 1) ∗ (∃ W', owes (c : Thread nD τ) 0 W') ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg10 fullShare (resx c xt hT n f0 f1 f2 (i 0).val x3 x4 x5 x6)) -∗ K ⟨⟩))
      ⊢ wp frame (wpE (defs₀ (F := F)) 𝒱₀ (c : Thread nD τ) none) Set.univ (cc0__moe_kernel (F := F) i tbM0_0 htbM0_0 tbM0_1 htbM0_1 arg3 harg3 arg4 harg4 arg5 harg5 arg6 harg6 hbM0_0 (Memref.isWhole_whole _) hbM0_1 (Memref.isWhole_whole _) hbM0_2 (Memref.isWhole_whole _) arg10 harg10 scM0_0 (Memref.isWhole_whole _) scM0_1 (Memref.isWhole_whole _) scM0_2 (Memref.isWhole_whole _) scM0_3 (Memref.isWhole_whole _) scM0_4 (Memref.isWhole_whole _) cc0_scratch5) K := by
  rw [show Inv c xt hT n f0 f1 f2 (i 0).val = Run c xt hT n f0 f1 f2 q from by rw [hq]; rfl]
  unfold Run
  simp only [owns_whole_eq c arg3 harg3, owns_whole_eq c arg4 harg4, owns_whole_eq c arg5 harg5, owns_whole_eq c arg6 harg6, owns_whole_eq c arg10 harg10]
  iintro ⟨Ht0, Ht1, HI, HW, ⟨%g3, %e3, H3⟩, ⟨%g4, %e4, H4⟩, ⟨%g5, %e5, H5⟩, ⟨%g6, %e6, H6⟩, ⟨%d10, %g10, -, H10⟩, HK⟩
  subst e3 e4 e5 e6
  icases HI with ⟨%s, %r, %hr, Hs, ⟨%G, HF⟩, Hq, Hw⟩
  iapply (body_idle c i arg3 harg3 arg4 harg4 arg5 harg5 arg6 harg6 arg10 harg10 n hn xt hT xt1 hx1 hin g3 g4 g5 g6 g10 K)
  isplitl [Ht0]; · iexact Ht0
  isplitl [Ht1]; · iexact Ht1
  isplitl [H10]; · iexact H10
  iintro %g' %hrow Ht0 Ht1 H10
  iapply HK
  isplitl [Ht0]; · iexact Ht0
  isplitl [Ht1]; · iexact Ht1
  isplitl [Hs HF Hq Hw]
  · rw [inv_succ]
    rw [hq]
    unfold Run
    iexists s, r
    isplitr; · ipureintro; exact nx_idle c xt n q r (by omega) hr
    isplitl [Hs]; · iexact Hs
    isplitl [HF]; · iexists G; iexact HF
    isplitl [Hq]; · iexact Hq
    rw [show Wts c xt hT n f0 f1 f2 (q + 1) = iprop(wAny (F := F) c scM0_1 ∗ wAny (F := F) c scM0_2 ∗ wAny (F := F) c scM0_3) from by unfold Wts; rw [if_neg (by omega)]]
    iapply (wts_any c xt hT n f0 f1 f2 q); iexact Hw
  isplitl [HW]; · iexists W; iexact HW
  isplitl [H3]; · iexists g3; isplitr; · ipureintro; rfl
                  iexact H3
  isplitl [H4]; · iexists g4; isplitr; · ipureintro; rfl
                  iexact H4
  isplitl [H5]; · iexists g5; isplitr; · ipureintro; rfl
                  iexact H5
  isplitl [H6]; · iexists g6; isplitr; · ipureintro; rfl
                  iexact H6
  iexists g'; isplitr
  swap; · iexact H10
  ipureintro
  unfold resx; rw [if_neg (by omega)]; exact hrow

set_option maxHeartbeats 1000000 in
/-- The body at tile `i`, whichever it is. -/
theorem step (i : grid0.Coords) (arg3 : Memref sig .tc .vmem S4096x128 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg10 : Memref sig .tc .vmem S4096x128 .f32) (harg10 : arg10.IsWhole) (n : ℕ) (hn : n ≤ 160) (xt : TbBuf0 (F := F) c tbM0_0) (hT : ∀ k, (T c xt k).toNat < 32)
    (xt1 : TbBuf0 (F := F) c tbM0_1) (hx1 : ∀ x, tbM0_1.view.readAt (Elt F) r1.toLoadRect xt1 x = BitVec.ofNat 32 n)
    (f0 : HbBuf0 (F := F) c hbM0_0) (f1 : HbBuf0 (F := F) c hbM0_1) (f2 : HbBuf0 (F := F) c hbM0_2) (W : Waits sig Unit) (x3 : S4096x128.Idx → Elt F .f32) (x4 x5 x6 : S1x1x1024.Idx → Elt F .f32)
    (K : PUnit → sProp 𝕄) (hn1 : 1 ≤ n) :
    iprop(tbPt0 c tbM0_0 xt ∗ tbPt0 c tbM0_1 xt1 ∗ Inv c xt hT n f0 f1 f2 (i 0).val ∗ owes (c : Thread nD τ) 0 W ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg10 fullShare d)
      ∗ (iprop(tbPt0 c tbM0_0 xt ∗ tbPt0 c tbM0_1 xt1 ∗ Inv c xt hT n f0 f1 f2 ((i 0).val + 1) ∗ (∃ W', owes (c : Thread nD τ) 0 W') ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg10 fullShare (resx c xt hT n f0 f1 f2 (i 0).val x3 x4 x5 x6)) -∗ K ⟨⟩))
      ⊢ wp frame (wpE (defs₀ (F := F)) 𝒱₀ (c : Thread nD τ) none) Set.univ (cc0__moe_kernel (F := F) i tbM0_0 htbM0_0 tbM0_1 htbM0_1 arg3 harg3 arg4 harg4 arg5 harg5 arg6 harg6 hbM0_0 (Memref.isWhole_whole _) hbM0_1 (Memref.isWhole_whole _) hbM0_2 (Memref.isWhole_whole _) arg10 harg10 scM0_0 (Memref.isWhole_whole _) scM0_1 (Memref.isWhole_whole _) scM0_2 (Memref.isWhole_whole _) scM0_3 (Memref.isWhole_whole _) scM0_4 (Memref.isWhole_whole _) cc0_scratch5) K := by
  by_cases hi : (i 0).val = 0
  · exact step_first c i arg3 harg3 arg4 harg4 arg5 harg5 arg6 harg6 arg10 harg10 n hn xt hT xt1 hx1 f0 f1 f2 W x3 x4 x5 x6 K (by omega) hi
  obtain ⟨q, hq⟩ : ∃ q, (i 0).val = q + 1 := ⟨(i 0).val - 1, by omega⟩
  by_cases hin : (i 0).val < n
  · by_cases hs : T c xt (q + 1) = T c xt q
    · exact step_same c i arg3 harg3 arg4 harg4 arg5 harg5 arg6 harg6 arg10 harg10 n hn xt hT xt1 hx1 f0 f1 f2 W x3 x4 x5 x6 K hin q hq hs
    · exact step_new c i arg3 harg3 arg4 harg4 arg5 harg5 arg6 harg6 arg10 harg10 n hn xt hT xt1 hx1 f0 f1 f2 W x3 x4 x5 x6 K hin q hq hs
  · exact step_idle c i arg3 harg3 arg4 harg4 arg5 harg5 arg6 harg6 arg10 harg10 n hn xt hT xt1 hx1 f0 f1 f2 W x3 x4 x5 x6 K (by omega) q hq

end Cert.ExpertsIdeal.Ex

end
-- ==== Proof.ExH.lean ====
/-
  The run of the region: the proof data, the body at every grid point, and the frame.
-/
module

public import proofs.«01_k».proof.Proof.ExG
public import Idealize.ShloMosaic.Lib.Claim

@[expose] public section

set_option maxRecDepth 16384

noncomputable section

namespace Cert.ExpertsIdeal.Ex

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the tables hold: the number of tiles in use between 1 and all of them, and an expert's number at every tile. -/
structure Hy (n : ℕ) : Prop where
  one_le : 1 ≤ n
  le : n ≤ 160
  lt : ∀ (c : Dev nD) (k : ℕ), (T c (tbl m 0) k).toNat < 32
  eq : ∀ (c : Dev nD) x, tbM0_1.view.readAt (Elt F) r1.toLoadRect (show TbBuf0 (F := F) c tbM0_1 from tbl m 1) x = BitVec.ofNat 32 n

/-- A tile's grid point is its number. -/
theorem coords_val (t : Fin grid0.N) : (grid0.coords t 0).val = t.val :=
  (Pipeline.Grid.coords_val (G := grid0) t 0 (S := 1) (B := 160) (by decide) (by decide)).trans (by have : t.val < 160 := t.isLt; omega)

/-- The state before tile `p` with the tables and the generator register. -/
def Ph (n : ℕ) (hy : Hy m n) (c : Dev nD) (p : ℕ) : sProp 𝕄 :=
  iprop((tbPt0 c tbM0_0 (tbl m 0) ∗ tbPt0 c tbM0_1 (tbl m 1)) ∗ Inv c (tbl m 0) (hy.lt c) n (V m c main_arg3) (V m c main_arg5) (V m c main_arg7) p ∗ (∃ r, prngReg c r))

/-- What the body leaves in the output's buffer at point `t`. -/
def res (hO : Ok m) (n : ℕ) (hy : Hy m n) (c : Dev nD) (t : Fin (cfgM m hO).N) : S4096x128.Idx → Elt F .f32 :=
  resx c (tbl m 0) (hy.lt c) n (V m c main_arg3) (V m c main_arg5) (V m c main_arg7) (grid0.coords t 0).val
    (iblk m hO c 0 t) (iblk m hO c 1 t) (iblk m hO c 2 t) (iblk m hO c 3 t)

/-- The proof data: the inputs' buffers at their blocks, the output's at `res`, the state `Ph` between points. -/
def dats (hO : Ok m) (n : ℕ) (hy : Hy m n) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (res m hO n hy c t)
  Φ p := Ph m n hy c p.val
  q _ := fullShare
  owed _ := 0

theorem A_eq (hO : Ok m) (n : ℕ) (hy : Hy m n) (c : Dev nD) (w : Fin (cfgM m hO).W) : (dats m hO n hy 0 c).A w = V m c (Pipeline.arrRef spec0 w) := by
  dsimp only [dats]

theorem after0_0 (hO : Ok m) (n : ℕ) (hy : Hy m n) (c : Dev nD) (t : Fin (cfgM m hO).N) : (dats m hO n hy 0 c).after 0 t = iblk m hO c 0 t := by dsimp only [dats]; try rfl
theorem after0_1 (hO : Ok m) (n : ℕ) (hy : Hy m n) (c : Dev nD) (t : Fin (cfgM m hO).N) : (dats m hO n hy 0 c).after 1 t = iblk m hO c 1 t := by dsimp only [dats]; try rfl
theorem after0_2 (hO : Ok m) (n : ℕ) (hy : Hy m n) (c : Dev nD) (t : Fin (cfgM m hO).N) : (dats m hO n hy 0 c).after 2 t = iblk m hO c 2 t := by dsimp only [dats]; try rfl
theorem after0_3 (hO : Ok m) (n : ℕ) (hy : Hy m n) (c : Dev nD) (t : Fin (cfgM m hO).N) : (dats m hO n hy 0 c).after 3 t = iblk m hO c 3 t := by dsimp only [dats]; try rfl
theorem after0_4 (hO : Ok m) (n : ℕ) (hy : Hy m n) (c : Dev nD) (t : Fin (cfgM m hO).N) : (dats m hO n hy 0 c).after 4 t = (res m hO n hy c t) := by dsimp only [dats]; try rfl
theorem before0_0 (hO : Ok m) (n : ℕ) (hy : Hy m n) (c : Dev nD) (t : Fin (cfgM m hO).N) (d) : (dats m hO n hy 0 c).before 0 t d = iblk m hO c 0 t :=
  before0_0_of m hO (dats m hO n hy 0 c) (A_eq m hO n hy c 0) (after0_0 m hO n hy c) t d
theorem before0_1 (hO : Ok m) (n : ℕ) (hy : Hy m n) (c : Dev nD) (t : Fin (cfgM m hO).N) (d) : (dats m hO n hy 0 c).before 1 t d = iblk m hO c 1 t :=
  before0_1_of m hO (dats m hO n hy 0 c) (A_eq m hO n hy c 1) (after0_1 m hO n hy c) t d
theorem before0_2 (hO : Ok m) (n : ℕ) (hy : Hy m n) (c : Dev nD) (t : Fin (cfgM m hO).N) (d) : (dats m hO n hy 0 c).before 2 t d = iblk m hO c 2 t :=
  before0_2_of m hO (dats m hO n hy 0 c) (A_eq m hO n hy c 2) (after0_2 m hO n hy c) t d
theorem before0_3 (hO : Ok m) (n : ℕ) (hy : Hy m n) (c : Dev nD) (t : Fin (cfgM m hO).N) (d) : (dats m hO n hy 0 c).before 3 t d = iblk m hO c 3 t :=
  before0_3_of m hO (dats m hO n hy 0 c) (A_eq m hO n hy c 3) (after0_3 m hO n hy c) t d

/-- What the body is called with at point `t`. -/
def bodyPre (hO : Ok m) (n : ℕ) (hy : Hy m n) (c : Dev nD) (t : Fin (cfgM m hO).N) : sProp 𝕄 :=
  iprop((dats m hO n hy 0 c).Φ t.castSucc ∗ (dats m hO n hy 0 c).owesAt () t.castSucc
    ∗ (∃ d, owns (c : Thread nD τ) (ms0_0 m hO t) fullShare ((dats m hO n hy 0 c).before 0 t d))
    ∗ (∃ d, owns (c : Thread nD τ) (ms0_1 m hO t) fullShare ((dats m hO n hy 0 c).before 1 t d))
    ∗ (∃ d, owns (c : Thread nD τ) (ms0_2 m hO t) fullShare ((dats m hO n hy 0 c).before 2 t d))
    ∗ (∃ d, owns (c : Thread nD τ) (ms0_3 m hO t) fullShare ((dats m hO n hy 0 c).before 3 t d))
    ∗ (∃ d, owns (c : Thread nD τ) (ms0_4 m hO t) fullShare ((dats m hO n hy 0 c).before 4 t d)))

/-- What it returns. -/
def bodyPost (hO : Ok m) (n : ℕ) (hy : Hy m n) (c : Dev nD) (t : Fin (cfgM m hO).N) : sProp 𝕄 :=
  iprop((dats m hO n hy 0 c).Φ t.succ ∗ (dats m hO n hy 0 c).owesAt () t.succ
    ∗ owns (c : Thread nD τ) (ms0_0 m hO t) fullShare ((dats m hO n hy 0 c).after 0 t)
    ∗ owns (c : Thread nD τ) (ms0_1 m hO t) fullShare ((dats m hO n hy 0 c).after 1 t)
    ∗ owns (c : Thread nD τ) (ms0_2 m hO t) fullShare ((dats m hO n hy 0 c).after 2 t)
    ∗ owns (c : Thread nD τ) (ms0_3 m hO t) fullShare ((dats m hO n hy 0 c).after 3 t)
    ∗ owns (c : Thread nD τ) (ms0_4 m hO t) fullShare ((dats m hO n hy 0 c).after 4 t))

set_option maxHeartbeats 1000000 in
/-- The body at every point: from the state before it and the inputs' blocks to the state after it and the result. -/
theorem sound_body (hO : Ok m) (n : ℕ) (hy : Hy m n) (c : Dev nD) (t : Fin (cfgM m hO).N) :
    bodyPre m hO n hy c t ⊢ wp frame (wpE (defs₀ (F := F)) 𝒱₀ c none) Set.univ (bodyAt0 (adm m hO) t) (fun _ => bodyPost m hO n hy c t) := by
  unfold bodyPre bodyPost bodyAt0
  simp only [before0_0, before0_1, before0_2, before0_3]
  rw [after0_0, after0_1, after0_2, after0_3, after0_4]
  rw [show (dats m hO n hy 0 c).Φ t.castSucc = Ph m n hy c (grid0.coords t 0).val from by rw [coords_val t]; rfl,
    show (dats m hO n hy 0 c).Φ t.succ = Ph m n hy c ((grid0.coords t 0).val + 1) from by rw [coords_val t]; rfl]
  unfold Dat.owesAt Pipeline.owesWithin Ph
  rw [show (dats m hO n hy 0 c).owed t.castSucc = 0 from rfl, show (dats m hO n hy 0 c).owed t.succ = 0 from rfl]
  iintro ⟨⟨⟨HT0, HT1⟩, HI, Hg⟩, ⟨%W, -, HW⟩, ⟨%d0, H0⟩, ⟨%d1, H1⟩, ⟨%d2, H2⟩, ⟨%d3, H3⟩, ⟨%d4, H4⟩⟩
  iapply (step c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) n hy.le (tbl m 0) (hy.lt c) (tbl m 1) (hy.eq c) (V m c main_arg3) (V m c main_arg5) (V m c main_arg7) W (iblk m hO c 0 t) (iblk m hO c 1 t) (iblk m hO c 2 t) (iblk m hO c 3 t) _ hy.one_le)
  isplitl [HT0]; · iexact HT0
  isplitl [HT1]; · iexact HT1
  isplitl [HI]; · iexact HI
  isplitl [HW]; · iexact HW
  isplitl [H0]; · iexact H0
  isplitl [H1]; · iexact H1
  isplitl [H2]; · iexact H2
  isplitl [H3]; · iexact H3
  isplitl [H4]; · iexists _; iexact H4
  iintro ⟨HT0, HT1, HI, ⟨%W', HW⟩, H0, H1, H2, H3, H4⟩
  isplitl [HT0 HT1 HI Hg]
  · isplitl [HT0 HT1]
    · isplitl [HT0]; · iexact HT0
      iexact HT1
    isplitl [HI]; · iexact HI
    iexact Hg
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

/-- The body table's row at point `t` is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The second table's word is the number of tiles in use. -/
theorem word_nv (n : ℕ) (hy : Hy m n) : (show S1.Idx → BitVec 32 from tbl m 1) (fun a => ⟨(![0] : Fin 1 → ℕ) a, by obtain rfl : a = 0 := Subsingleton.elim _ _; show 0 < 1; omega⟩) = BitVec.ofNat 32 n := by
  refine Eq.trans ?_ (hy.eq 0 (fun a => ⟨0, by obtain rfl : a = 0 := Subsingleton.elim _ _; show 0 < 1; omega⟩))
  show (show S1.Idx → BitVec 32 from tbl m 1) _ = (show S1.Idx → BitVec 32 from tbl m 1) _
  refine congrArg _ (funext fun (a : Fin 1) => ?_)
  obtain rfl : a = 0 := Subsingleton.elim _ _
  apply Fin.ext
  show 0 = 0 + 1 * 0
  omega

theorem atD_nv (n : ℕ) (hy : Hy m n) : Pipeline.Prefetch.Contents.atD (pre := pre0) (tbl m) 1 ![0] = BitVec.ofNat 32 n := by
  unfold Pipeline.Prefetch.Contents.atD
  rw [dif_pos (fun a => by
    have ha : a = (0 : Fin 1) := Subsingleton.elim (α := Fin 1) _ _
    subst ha
    show 0 + 1 ≤ 1
    omega)]
  exact word_nv m n hy

theorem idle0_4 (n : ℕ) (hy : Hy m n) (i : grid0.Coords) : idle0 (F := F) (tbl m) 4 i = false := by
  show (!(k0_cond1 i (Pipeline.Prefetch.Contents.atD (pre := pre0) (tbl m) 1 ![0]) == 1#1) && !(k0_cond5 i (Pipeline.Prefetch.Contents.atD (pre := pre0) (tbl m) 1 ![0]) == 1#1)) = false
  rw [atD_nv m n hy]
  have h1 := cond1_iff i n hy.le
  have h5 := cond5_iff i n hy.le
  by_cases h : (i 0).val < n
  · rw [h1.2 h]; rfl
  · rw [h5.2 (by omega), Bool.and_comm]; rfl

theorem idle0_all (n : ℕ) (hy : Hy m n) (w : Fin 5) (i : grid0.Coords) : idle0 (F := F) (tbl m) w i = false := by
  match w with
  | ⟨0, _⟩ => rfl
  | ⟨1, _⟩ => rfl
  | ⟨2, _⟩ => rfl
  | ⟨3, _⟩ => rfl
  | ⟨4, _⟩ => exact idle0_4 m n hy i

/-- No window is idle at any tile: the output is stored at every tile, in use or not. -/
theorem idle_all (hO : Ok m) (n : ℕ) (hy : Hy m n) (w : Fin (cfgM m hO).W) (t : Fin (cfgM m hO).N) : (cfgM m hO).idle w ((cfgM m hO).grid.coords t) = false :=
  (show (cfgM m hO).idle w ((cfgM m hO).grid.coords t) = idle0 (F := F) (tbl m) w ((cfgM m hO).grid.coords t) from rfl).trans (idle0_all m n hy w _)

set_option maxHeartbeats 1000000 in
/-- The library's body obligation at every point. -/
theorem body_obligation (hO : Ok m) (n : ℕ) (hy : Hy m n) (c : Dev nD) : BodyObligation (dats (F := F) m hO n hy 0 c) (defs₀ (F := F)) 𝒱₀ () Set.univ := fun t => by
  rw [bigSep_W0, bigSep_W0, defs₀_row m hO]
  refine triple_restated (sound_body m hO n hy c t) rfl .rfl fun _ => ?_
  unfold bodyPost
  refine sep_mono .rfl (sep_mono .rfl (sep_mono .rfl (sep_mono .rfl (sep_mono .rfl (sep_mono .rfl ?_)))))
  have h4 := idle_all m hO n hy 4 t
  split
  · exact absurd ‹_› (by simp)
  · split
    · rename_i h; exact absurd (h.symm.trans h4) (by simp)
    · exact .rfl

theorem owns_any (c : Dev nD) {sp : Space} {s : Shape} {e : EltTy} (a : Memref sig .tc sp s e) (ha : a.IsWhole) :
    (iprop(∃ d, owns (c : Thread nD τ) a fullShare d) : sProp 𝕄) ⊢ iprop(∃ f : Buf (Elt F) (a.view.loc (c : Thread nD τ)), a.view.loc (c : Thread nD τ) ↦{fullShare} f) := by
  unfold owns; rw [ha.set_eq_univ]
  iintro ⟨%d, %f, -, H⟩
  iexists f; iexact H

theorem any_owns (c : Dev nD) {sp : Space} {s : Shape} {e : EltTy} (a : Memref sig .tc sp s e) (ha : a.IsWhole) :
    (iprop(∃ f : Buf (Elt F) (a.view.loc (c : Thread nD τ)), a.view.loc (c : Thread nD τ) ↦{fullShare} f) : sProp 𝕄) ⊢ iprop(∃ d, owns (c : Thread nD τ) a fullShare d) := by
  unfold owns; rw [ha.set_eq_univ]
  iintro ⟨%f, H⟩
  iexists (a.view.read (Elt F) f), f
  isplitr; · ipureintro; rfl
  iexact H

/-- The region's start gives the state before the first tile. -/
theorem ph_in (n : ℕ) (hy : Hy m n) (c : Dev nD) : iprop(Pipeline.ΦD osem0 spec0 H0 (V m) c ∗ Pipeline.ΦT pre0 (tbl m) c) ⊢ (Ph m n hy c 0 : sProp 𝕄) := by
  rw [PhiD0_eq, PhiT0_eq]
  unfold Ph
  rw [show Inv c (tbl m 0) (hy.lt c) n (V m c main_arg3) (V m c main_arg5) (V m c main_arg7) 0 = Init c (V m c main_arg3) (V m c main_arg5) (V m c main_arg7) from rfl]
  unfold Init wAny
  iintro ⟨⟨⟨HS0, HS1, HS2, HS3, HS4⟩, Hg, ⟨Hq0, Hq1⟩, ⟨Hh0, Hh1, Hh2⟩⟩, ⟨HT0, HT1⟩⟩
  isplitl [HT0 HT1]
  · isplitl [HT0]; · iexact HT0
    iexact HT1
  isplitl [HS0 HS1 HS2 HS3 HS4 Hq0 Hq1 Hh0 Hh1 Hh2]
  · isplitl [HS4]; · iapply (owns_any c scM0_4 (Memref.isWhole_whole _)); iexact HS4
    isplitl [HS0]; · iapply (owns_any c scM0_0 (Memref.isWhole_whole _)); iexact HS0
    isplitl [Hh0]; · iexact Hh0
    isplitl [Hh1]; · iexact Hh1
    isplitl [Hh2]; · iexact Hh2
    isplitl [Hq0]; · iexact Hq0
    isplitl [Hq1]; · iexact Hq1
    isplitl [HS1]; · iapply (owns_any c scM0_1 (Memref.isWhole_whole _)); iexact HS1
    isplitl [HS2]; · iapply (owns_any c scM0_2 (Memref.isWhole_whole _)); iexact HS2
    iapply (owns_any c scM0_3 (Memref.isWhole_whole _)); iexact HS3
  iexact Hg

/-- The state after the last tile gives back what the region was entered with. -/
theorem ph_out (n : ℕ) (hy : Hy m n) (c : Dev nD) : (Ph m n hy c 160 : sProp 𝕄) ⊢ Pipeline.ΦD osem0 spec0 H0 (V m) c := by
  rw [PhiD0_eq]
  unfold Ph
  rw [show Inv c (tbl m 0) (hy.lt c) n (V m c main_arg3) (V m c main_arg5) (V m c main_arg7) 160 = Run c (tbl m 0) (hy.lt c) n (V m c main_arg3) (V m c main_arg5) (V m c main_arg7) 159 from rfl]
  iintro ⟨-, HI, Hg⟩
  ihave HI := run_end c (tbl m 0) (hy.lt c) n (V m c main_arg3) (V m c main_arg5) (V m c main_arg7) 159 hy.le $$ [HI]
  · iexact HI
  unfold wAny
  icases HI with ⟨HS4, HS0, Hh0, Hh1, Hh2, Hq0, Hq1, HS1, HS2, HS3⟩
  isplitl [HS0 HS1 HS2 HS3 HS4]
  · isplitl [HS0]; · iapply (any_owns c scM0_0 (Memref.isWhole_whole _)); iexact HS0
    isplitl [HS1]; · iapply (any_owns c scM0_1 (Memref.isWhole_whole _)); iexact HS1
    isplitl [HS2]; · iapply (any_owns c scM0_2 (Memref.isWhole_whole _)); iexact HS2
    isplitl [HS3]; · iapply (any_owns c scM0_3 (Memref.isWhole_whole _)); iexact HS3
    iapply (any_owns c scM0_4 (Memref.isWhole_whole _)); iexact HS4
  isplitl [Hg]; · iexact Hg
  isplitl [Hq0 Hq1]
  · isplitl [Hq0]; · iexact Hq0
    iexact Hq1
  isplitl [Hh0]; · iexact Hh0
  isplitl [Hh1]; · iexact Hh1
  iexact Hh2

set_option backward.isDefEq.respectTransparency.types false in
/-- The launch: every final state has the pipeline's arrays at what the proof data computes, every other buffer as the
    region found it, and every semaphore at zero. -/
theorem run_main_quiescent (hO : Ok m) (n : ℕ) (hy : Hy m n) : θ_run defs (onTc (τ := τ) (main (F := F))) (s₀ m ρ) (fun r => (Pipeline.FramePost (Pipeline.pin pcfgs fun _ => adm m hO) (dats m hO n hy) 0 (V m)) r ∧ r.2.sem = fun _ => 0) :=
  Pipeline.θ_run_frameP_dma (Q' := _) pcfgs (fun _ => adm m hO) (dats m hO n hy) (0 : Fin 1) launch0 osem0 defs₀ 𝒱₀ ownSemFacts0 H0 H0_sub m ρ main
    (hbody := fun c => (body_obligation m hO n hy c).loose) (hshare := fun c => (dats m hO n hy 0 c).share_full fun _ => rfl)
    (howed := fun _ _ => rfl) (V := V m) (hmain := hmain m 𝒱₀) (hA := A_eq m hO n hy) (hpf := V_pre m)
    (hin := fun c => ph_in m n hy c) (hout := fun c => ph_out m n hy c)

/-- The launch without the semaphores. -/
theorem run_main (hO : Ok m) (n : ℕ) (hy : Hy m n) : θ_run defs (onTc (τ := τ) (main (F := F))) (s₀ m ρ) (Pipeline.FramePost (Pipeline.pin pcfgs fun _ => adm m hO) (dats m hO n hy) 0 (V m)) :=
  (θ_run defs _ _).mono (fun _ h => h.1) (run_main_quiescent m ρ hO n hy)

/-- The argument arrays end unchanged. -/
theorem unchanged (hO : Ok m) (n : ℕ) (hy : Hy m n) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hO n hy) (A_eq m hO n hy) (run_main m ρ hO n hy)

/-- The frame: the argument arrays end unchanged and every semaphore at zero. -/
theorem frame (hO : Ok m) (n : ℕ) (hy : Hy m n) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO n hy) ((θ_run defs _ _).mono (fun _ h => h.2) (run_main_quiescent m ρ hO n hy))

end Cert.ExpertsIdeal.Ex

end
-- ==== Proof.ExI.lean ====
/- The tables the region of the expert products finds: the tiles' experts held at the last tile used, and the number
   of tiles used. With the experts below 32 and the number between 1 and 160 every block lies inside its array. -/
module

public import proofs.«01_k».proof.Proof.ExH
public import Idealize.ShloMosaic.Lib.StableHlo.Predicate
public import Idealize.ShloMosaic.Lib.StableHlo.ReadAt
public import Idealize.ShloMosaic.Lib.Routing.OpsSet

@[expose] public section

set_option maxRecDepth 16384

noncomputable section

namespace Cert.ExpertsIdeal.Ex

open Idealize.ShloMosaic Idealize.ShloMosaic.TcCoe Idealize.ShloMosaic.Tactic
open Cert.ExpertsIdeal Cert.ExpertsIdeal.Gen
open Idealize.SL.Sem

variable {F : FTy → Type} [FloatOps F]
variable (m : (ℓ : Loc nD τ sig) → Buf (Elt F) ℓ)

/-- The words of the tables as the arguments hold them. -/
abbrev a0 (c : Dev nD) : S160.Idx → BitVec 32 := m ((c : Thread nD τ).loc main_arg0)
abbrev a1 (c : Dev nD) : S1.Idx → BitVec 32 := m ((c : Thread nD τ).loc main_arg1)

/-- A word below 2 ^ 31 read as a signed number. -/
theorem toInt_of_lt {w : BitVec 32} (h : w.toNat < 2 ^ 31) : w.toInt = w.toNat := by
  rw [BitVec.toInt_eq_toNat_cond, if_pos (by omega)]

/-- The smaller of a tile's number and the number of the last tile used. -/
theorem minsi_word (k n : ℕ) (hk : k < 160) (h1 : 1 ≤ n) (hn : n ≤ 160) :
    Scalar.minsi (BitVec.ofNat 32 k) (BitVec.ofNat 32 n - 1#32) = BitVec.ofNat 32 (min k (n - 1)) := by
  have e : BitVec.ofNat 32 n - 1#32 = BitVec.ofNat 32 (n - 1) := by
    apply BitVec.eq_of_toNat_eq; simp only [BitVec.toNat_sub, BitVec.toNat_ofNat]; omega
  rw [e]
  have i1 := toInt_of_lt (w := BitVec.ofNat 32 k) (by simp; omega)
  have i2 := toInt_of_lt (w := BitVec.ofNat 32 (n - 1)) (by simp; omega)
  have t1 : (BitVec.ofNat 32 k).toNat = k := by simp; omega
  have t2 : (BitVec.ofNat 32 (n - 1)).toNat = n - 1 := by simp; omega
  show IntOp.minsi _ _ = _
  unfold IntOp.minsi
  by_cases h : k < n - 1
  · rw [if_pos (by rw [BitVec.slt_iff_toInt_lt, i1, i2, t1, t2]; omega), Nat.min_eq_left (by omega)]
  · rw [if_neg (by rw [BitVec.slt_iff_toInt_lt, i1, i2, t1, t2]; omega), Nat.min_eq_right (by omega)]

/-- A word that is not negative is what the index of the gather takes. -/
theorem col_word (M : S160.Idx → BitVec 32) (n : ℕ) (hm : ∀ y : S160.Idx, M y = BitVec.ofNat 32 (min (y 0).val (n - 1))) (k : ℕ) :
    broadcastInDim S160x1 ![0] bcast_S160_S160x1_0 (select (cmpi .slt M (broadcastInDim S160 ![] bcast_S_S160 (constantI S_ 32 0#32)))
      (addi M (broadcastInDim S160 ![] bcast_S_S160 (constantI S_ 32 160#32))) M) (ValueIdx.ix2 (⟨min k 159, by omega⟩ : Fin 160) (0 : Fin 1))
      = BitVec.ofNat 32 (min (min k (n - 1)) 159) := by
  refine (broadcastInDim_apply _ bcast_S160_S160x1_0 _ _ (ValueIdx.ix1 (⟨min k 159, by omega⟩ : Fin 160) : S160.Idx) (fun a => match a with
    | ⟨0, _⟩ => by show min k 159 = if (160 : Nat) = 1 then 0 else min k 159; rw [if_neg (by decide)])).trans ?_
  show Scalar.select (IntOp.cmpi .slt (M (ValueIdx.ix1 (⟨min k 159, by omega⟩ : Fin 160))) 0#32) (M (ValueIdx.ix1 (⟨min k 159, by omega⟩ : Fin 160)) + 160#32) (M (ValueIdx.ix1 (⟨min k 159, by omega⟩ : Fin 160))) = _
  rw [hm]
  have hc : IntOp.cmpi .slt (BitVec.ofNat 32 (min (min k 159) (n - 1))) 0#32 = 0#1 := by
    have i1 := toInt_of_lt (w := BitVec.ofNat 32 (min (min k 159) (n - 1))) (by simp; omega)
    have h : (BitVec.ofNat 32 (min (min k 159) (n - 1))).slt 0#32 = false := by
      rw [Bool.eq_false_iff, ne_eq, BitVec.slt_iff_toInt_lt, i1]
      have : (0#32 : BitVec 32).toInt = 0 := rfl
      omega
    show BitVec.ofBool _ = _
    rw [h]; rfl
  show Scalar.select (IntOp.cmpi .slt (BitVec.ofNat 32 (min (min k 159) (n - 1))) 0#32) _ (BitVec.ofNat 32 (min (min k 159) (n - 1))) = BitVec.ofNat 32 (min (min k (n - 1)) 159)
  rw [hc, show min (min k 159) (n - 1) = min (min k (n - 1)) 159 by omega]
  rfl

set_option maxHeartbeats 800000 in
/-- The table of experts the region finds: at `k` the expert of tile `min k (n - 1)`. -/
theorem V_v11 (c : Dev nD) (n : ℕ) (h1 : 1 ≤ n) (hn : n ≤ 160) (e : ∀ x, a1 m c x = BitVec.ofNat 32 n) (k : ℕ) :
    (V m c main_v11 : S160.Idx → BitVec 32) (ix k) = a0 m c (ix (min k (n - 1))) := by
  unfold V
  after_reads_at
  have hx : ∀ j : ℕ, ix j = (ValueIdx.ix1 (⟨min j 159, by omega⟩ : Fin 160) : S160.Idx) := fun j => by
    funext a; obtain rfl : a = 0 := Subsingleton.elim _ _; rfl
  have hm : ∀ y : S160.Idx, minsi (iotaInDim S160 32 0) (broadcastInDim S160 ![] bcast_S_S160 (subi (fun _ => m (c, Proc.tc.devRef main_arg1) (ValueIdx.ix1 0)) (constantI S_ 32 1#32))) y = BitVec.ofNat 32 (min (y 0).val (n - 1)) := by
    intro y
    show Scalar.minsi (BitVec.ofNat 32 (y 0).val) (a1 m c (ValueIdx.ix1 0) - 1#32) = _
    rw [e]
    exact minsi_word _ n (y 0).isLt h1 hn
  rw [hx, hx]
  refine Routing.gather_take1 gather_S160_S160x1_S160_n_0_n_n_0_1_1 rfl rfl rfl rfl _ _ _ _ ?_ (by decide)
  exact col_word _ n hm k

/-- What the tables hold: the experts below 32, the number `n` of tiles used between 1 and 160. -/
structure Wd (n : ℕ) : Prop where
  one_le : 1 ≤ n
  le : n ≤ 160
  lt : ∀ (c : Dev nD) x, (a0 m c x).toNat < 32
  eq : ∀ (c : Dev nD) x, a1 m c x = BitVec.ofNat 32 n

variable {m}
variable {n : ℕ} (w : Wd m n)
include w

/-- The table's word at `k`. -/
theorem T_tbl (c : Dev nD) (k : ℕ) : T c (tbl m 0) k = a0 m c (ix (min k (n - 1))) := by
  obtain rfl : c = 0 := Subsingleton.elim _ _
  exact V_v11 m 0 n w.one_le w.le (w.eq 0) k

omit w in
theorem tbl_1 (c : Dev nD) : (tbl m 1 : S1.Idx → BitVec 32) = a1 m c := by
  obtain rfl : c = 0 := Subsingleton.elim _ _
  exact V_main_arg1 m 0

theorem hy_of : Hy m n where
  one_le := w.one_le
  le := w.le
  lt := fun c k => by rw [T_tbl w]; exact w.lt c _
  eq := fun c x => by
    refine Eq.trans ?_ (w.eq c x)
    rw [← tbl_1 c]
    show (show S1.Idx → BitVec 32 from tbl m 1) _ = (show S1.Idx → BitVec 32 from tbl m 1) _
    refine congrArg _ (funext fun (a : Fin 1) => ?_)
    obtain rfl : a = 0 := Subsingleton.elim _ _
    apply Fin.ext
    show 0 + 1 * (x 0).val = (x 0).val
    omega

/-- The number of tiles used as an index map reads it. -/
theorem at_1 (i : grid0.Coords) : (tbl m).at 1 (Rect.unit (s := S1) ![0] S1.size inb_S1_S1_0) numel1_S1 = BitVec.ofNat 32 n := by
  refine Eq.trans ?_ (w.eq 0 (ValueIdx.ix1 0))
  rw [← tbl_1 0]
  show (show S1.Idx → BitVec 32 from tbl m 1) _ = (show S1.Idx → BitVec 32 from tbl m 1) _
  refine congrArg _ (funext fun (a : Fin 1) => ?_)
  obtain rfl : a = 0 := Subsingleton.elim _ _
  exact Subsingleton.elim (α := Fin 1) _ _

/-- A tile's expert as an index map reads it. -/
theorem at_0 (i : grid0.Coords) (c : Dev nD) : (tbl m).at 0 (Rect.unit (s := S160) ![(Scalar.indexCast (BitVec.ofNat 32 (i 0).val)).toNat] S1.size (k0_off1_inb i)) numel1_S1
    = a0 m c (ix (min (i 0).val (n - 1))) := by
  refine Eq.trans ?_ (T_tbl w c _)
  obtain rfl : c = 0 := Subsingleton.elim _ _
  show (show S160.Idx → BitVec 32 from tbl m 0) _ = (show S160.Idx → BitVec 32 from tbl m 0) _
  refine congrArg _ (funext fun (a : Fin 1) => ?_)
  obtain rfl : a = 0 := Subsingleton.elim _ _
  apply Fin.ext
  have h : (i 0).val < 160 := (i 0).isLt
  show (BitVec.ofNat 32 (i 0).val).toNat + 1 * 0 = min (i 0).val 159
  rw [BitVec.toNat_ofNat, Nat.mod_eq_of_lt (by omega)]
  omega

/-- The block of rows tile `i` reads. -/
theorem tr0 (i : grid0.Coords) : cc0_transform_0 inb_S1_S1_0 numel1_S1 (tbl m) i = ![min (i 0).val (n - 1), 0] := by
  unfold cc0_transform_0
  dsimp only
  rw [at_1 w i]
  have h : (i 0).val < 160 := (i 0).isLt
  have e : (Scalar.minsi (BitVec.ofNat 32 (i 0).val) (Scalar.subi (BitVec.ofNat 32 n) 1#32)) = _ := minsi_word _ n h w.one_le w.le
  rw [e]
  funext a
  match a with
  | ⟨0, _⟩ => show (BitVec.ofNat 32 (min (i 0).val (n - 1))).toNat = _; simp; omega
  | ⟨1, _⟩ => rfl

/-- The block of a bias tile `i` reads: its expert's. -/
theorem tr1 (i : grid0.Coords) (c : Dev nD) : cc0_transform_1 k0_off1_inb numel1_S1 (tbl m) i = ![(a0 m c (ix (min (i 0).val (n - 1)))).toNat, 0, 0] := by
  unfold cc0_transform_1
  dsimp only
  rw [at_0 w i c]
  rfl
theorem tr2 (i : grid0.Coords) (c : Dev nD) : cc0_transform_2 k0_off1_inb numel1_S1 (tbl m) i = ![(a0 m c (ix (min (i 0).val (n - 1)))).toNat, 0, 0] := tr1 w i c
theorem tr3 (i : grid0.Coords) (c : Dev nD) : cc0_transform_3 k0_off1_inb numel1_S1 (tbl m) i = ![(a0 m c (ix (min (i 0).val (n - 1)))).toNat, 0, 0] := tr1 w i c

omit w in
/-- An expert below 32 has its row of a bias. -/
theorem bias_in (v : BitVec 32) (h : v.toNat < 32) : ∀ a, ((![v.toNat, 0, 0] : Fin 3 → ℕ) a + 1) * S1x1x1024.size a ≤ S32x1x1024.size a := fun a =>
  match a with
  | ⟨0, _⟩ => by show (v.toNat + 1) * 1 ≤ 32; omega
  | ⟨1, _⟩ => by show (0 + 1) * 1 ≤ 1; omega
  | ⟨2, _⟩ => by show (0 + 1) * 1024 ≤ 1024; omega

/-- Every block an index map names lies inside its array. -/
theorem ok_of : Ok m := by
  refine ⟨fun i => ⟨?_, Or.inl rfl⟩, fun i => ⟨?_, Or.inl rfl⟩, fun i => ⟨?_, Or.inl rfl⟩, fun i => ⟨?_, Or.inl rfl⟩⟩
  · rw [tr0 w i]
    have h : (i 0).val < 160 := (i 0).isLt
    exact fun a => match a with
      | ⟨0, _⟩ => by show (min (i 0).val (n - 1) + 1) * 4096 ≤ 655360; omega
      | ⟨1, _⟩ => by show (0 + 1) * 128 ≤ 128; omega
  · rw [tr1 w i 0]; exact bias_in _ (w.lt 0 _)
  · rw [tr2 w i 0]; exact bias_in _ (w.lt 0 _)
  · rw [tr3 w i 0]; exact bias_in _ (w.lt 0 _)

end Cert.ExpertsIdeal.Ex

end
-- ==== Proof.ExPre.lean ====
/- What the precondition says of the tables: every expert below 32, the number of tiles used between 1 and 160. -/
module

public import proofs.«01_k».proof.Pre_tables_in_range
public import Idealize.ShloMosaic.Lib.ReduceAll
public import Idealize.ShloMosaic.Lib.StableHlo.Predicate
public import Idealize.ShloMosaic.Lib.WordCmp

@[expose] public section

noncomputable section

namespace Cert.Pre_tables_in_range

open Idealize.ShloMosaic

variable {F : FTy → Type} [FloatOps F] [Facts]

/-- A word that is signed at least `a` and at most `b`, the bounds small, is a number between them. -/
theorem word_between (x : BitVec 32) (a b : ℕ) (ha : a < 2 ^ 31) (hb : b < 2 ^ 31) (h1 : (BitVec.ofNat 32 a).toInt ≤ x.toInt) (h2 : x.toInt ≤ (BitVec.ofNat 32 b).toInt) :
    a ≤ x.toNat ∧ x.toNat ≤ b := by
  have e : ∀ k : ℕ, k < 2 ^ 31 → (BitVec.ofNat 32 k).toInt = k := fun k hk => by
    rw [BitVec.toInt_eq_toNat_cond, BitVec.toNat_ofNat, Nat.mod_eq_of_lt (by omega), if_pos (by omega)]
  rw [e a ha] at h1
  rw [e b hb] at h2
  rw [BitVec.toInt_eq_toNat_cond] at h1 h2
  have := x.isLt
  split at h1 <;> omega

instance : Subsingleton S_.Idx := ⟨fun a b => funext fun k => k.elim0⟩

/-- The precondition's two clauses as numbers. -/
theorem read_pre (x0 : IVec S160 32) (x1 : IVec S1 32) (x2 : FVec F S655360x128 .f32) (x3 : FVec F S32x1024x1024 .f32) (x4 : FVec F S32x1024 .f32)
    (x5 : FVec F S32x1024x1024 .f32) (x6 : FVec F S32x1024 .f32) (x7 : FVec F S32x1024x1024 .f32) (x8 : FVec F S32x1024 .f32)
    (h : fn x0 x1 x2 x3 x4 x5 x6 x7 x8 = fun _ => 1#1) :
    (∀ k, (x0 k).toNat < 32) ∧ (∀ k, 1 ≤ (x1 k).toNat ∧ (x1 k).toNat ≤ 160) := by
  have hand : ∀ a b : BitVec 1, a &&& b = 1#1 → a = 1#1 ∧ b = 1#1 := by decide
  have hof : ∀ b : Bool, BitVec.ofBool b = 1#1 → b = true := by decide
  have h0 := congrFun h (fun a => a.elim0)
  obtain ⟨hA, hB⟩ := hand _ _ h0
  refine ⟨fun k => ?_, fun k => ?_⟩
  · have e := Host.reduce_andi_all _ _ Facts.reducesTo_S160_S_d0 Facts.h_S_ _ hA k
    obtain ⟨e1, e2⟩ := hand _ _ e
    have e1' : (0#32 : BitVec 32).sle (x0 k) = true := hof _ e1
    have e2' : (x0 k).slt 32#32 = true := hof _ e2
    rw [BitVec.sle_iff_toInt_le] at e1'
    rw [BitVec.slt_iff_toInt_lt] at e2'
    have : (32#32 : BitVec 32).toInt = 32 := rfl
    have := word_between (x0 k) 0 31 (by decide) (by decide) e1' (by have : (BitVec.ofNat 32 31).toInt = 31 := rfl; omega)
    omega
  · have e := Host.reduce_andi_all _ _ Facts.reducesTo_S1_S_d0 Facts.h_S_ _ hB k
    obtain ⟨e1, e2⟩ := hand _ _ e
    have e1' : (1#32 : BitVec 32).sle (x1 k) = true := hof _ e1
    have e2' : (x1 k).sle 160#32 = true := hof _ e2
    rw [BitVec.sle_iff_toInt_le] at e1' e2'
    exact word_between (x1 k) 1 160 (by decide) (by decide) e1' e2'

end Cert.Pre_tables_in_range

end
-- ==== Proof.ExFrames.lean ====
/- The frames of the expert products: of the kernel as printed, of its ideal reading and of the reference. -/
module

public import proofs.«01_k».proof.Defs
public import proofs.«01_k».proof.Proof.ExI
public import proofs.«01_k».proof.Proof.EbI
public import proofs.«01_k».proof.Proof.ExPre
public import proofs.«01_k».proof.Proof.Gen.ExpertsRefIdeal
public import proofs.«01_k».proof.Proof.Gen.ExpertsRefIdeal.Run
public import proofs.«01_k».proof.Proof.Gen.Pre_tables_in_range

@[expose] public section

noncomputable section

namespace Cert.Exp

open Idealize.ShloMosaic Idealize.ShloMosaic.TcCoe Idealize.SL.Sem

attribute [local instance] Cert.Experts.Gen.facts Cert.ExpertsIdeal.Gen.facts Cert.ExpertsRefIdeal.Gen.facts Cert.Pre_tables_in_range.Gen.facts

/-- A small word is its number's. -/
theorem eq_ofNat (x : BitVec 32) : x = BitVec.ofNat 32 x.toNat := by simp

/-- The tables of the kernel as printed, under the precondition. -/
theorem wd_bits (m : (ℓ : Loc Cert.Experts.nD Cert.Experts.τ Cert.Experts.sig) → Buf (Elt Bits) ℓ) (h : Cert.Pre_Experts m) : ∃ n, Cert.Experts.Ex.Wd m n := by
  have e := fun c => Cert.Pre_tables_in_range.read_pre _ _ _ _ _ _ _ _ _ (h c)
  refine ⟨(Cert.Experts.Ex.a1 m 0 (ValueIdx.ix1 0)).toNat, ((e 0).2 _).1, ((e 0).2 _).2, fun c => (e c).1, fun c x => ?_⟩
  obtain rfl : c = 0 := Subsingleton.elim _ _
  rw [show x = ValueIdx.ix1 0 from funext fun a => Fin.ext (by obtain rfl : a = 0 := Subsingleton.elim _ _; have h : (x 0).val < 1 := (x 0).isLt; show (x 0).val = 0; omega)]
  exact eq_ofNat _

/-- The tables of the ideal reading, under the precondition. -/
theorem wd_ideal (m : (ℓ : Loc Cert.ExpertsIdeal.nD Cert.ExpertsIdeal.τ Cert.ExpertsIdeal.sig) → Buf (Elt Ideal) ℓ) (h : Cert.Pre_ExpertsIdeal m) : ∃ n, Cert.ExpertsIdeal.Ex.Wd m n := by
  have e := fun c => Cert.Pre_tables_in_range.read_pre _ _ _ _ _ _ _ _ _ (h c)
  refine ⟨(Cert.ExpertsIdeal.Ex.a1 m 0 (ValueIdx.ix1 0)).toNat, ((e 0).2 _).1, ((e 0).2 _).2, fun c => (e c).1, fun c x => ?_⟩
  obtain rfl : c = 0 := Subsingleton.elim _ _
  rw [show x = ValueIdx.ix1 0 from funext fun a => Fin.ext (by obtain rfl : a = 0 := Subsingleton.elim _ _; have h : (x 0).val < 1 := (x 0).isLt; show (x 0).val = 0; omega)]
  exact eq_ofNat _

/-- The kernel as printed: it terminates, its arguments stay, its semaphores end at zero. -/
theorem frame_bits : Cert.quiescent_Experts := fun m g h => by
  obtain ⟨n, w⟩ := wd_bits m h
  exact Cert.Experts.Ex.frame m g (Cert.Experts.Ex.ok_of w) n (Cert.Experts.Ex.hy_of w)

/-- The same of the ideal reading. -/
theorem frame_ideal : Cert.quiescent_ExpertsIdeal := fun m g h => by
  obtain ⟨n, w⟩ := wd_ideal m h
  exact Cert.ExpertsIdeal.Ex.frame m g (Cert.ExpertsIdeal.Ex.ok_of w) n (Cert.ExpertsIdeal.Ex.hy_of w)

/-- The same of the reference. -/
theorem frame_ref : Cert.quiescent_ExpertsRefIdeal := fun m g _ =>
  (θ_run _ _ _).mono (fun r h => ⟨fun c => (h c).2, sem_eq_zero_of_no_sems (by decide) r.2⟩) (Cert.ExpertsRefIdeal.Value.run m g)

end Cert.Exp

end
-- ==== Proof.ExJ.lean ====
/-
  One tile's result read at an index, over the extended reals.

  A row of the result is two products of a row of the input with the expert's gate and up matrices, each with its bias, the
  activation of the two, and a product with the down matrix, with its bias.
-/
module

public import proofs.«01_k».proof.Proof.ExI
public import Idealize.ShloMosaic.Lib.Pointwise
public import Idealize.ShloMosaic.PureOps.Ideal.Laws

@[expose] public section

set_option maxRecDepth 16384

noncomputable section

namespace Cert.ExpertsIdeal.Ex

open Cert.ExpertsIdeal Cert.ExpertsIdeal.Gen
open Idealize.ShloMosaic Idealize.ShloMosaic.TcCoe

/-- The bound of the activation's arguments. -/
def c7 : EReal := Ideal.ofBits .f32 0x40E00000#32
/-- The lower bound of the second argument. -/
def cm7 : EReal := Ideal.ofBits .f32 0xC0E00000#32
/-- The factor under the sigmoid. -/
def calpha : EReal := Ideal.ofBits .f32 0x3FD9DB23#32

/-- The activation: the clipped `u` plus one, times the clipped `g` times its sigmoid. -/
def act (g u : EReal) : EReal := (min c7 (max cm7 u) + 1) * (min g c7 * Ideal.logistic (calpha * min g c7))

/-- One element of an expert's result for a row `X`. -/
def rowv (X : Fin 1024 → EReal) (Wg Wu : Fin 1024 → Fin 1024 → EReal) (bg bu : Fin 1024 → EReal) (Wd : Fin 1024 → EReal) (bd : EReal) : EReal :=
  (∑ k : Fin 1024, act ((∑ d : Fin 1024, X d * Wg d k) + bg k) ((∑ d : Fin 1024, X d * Wu d k) + bu k) * Wd k) + bd

/-- Eight blocks of 128 lanes side by side: lane `d` is lane `d % 128` of block `d / 128`. -/
theorem pay9_at (v : Fin 8 → Vec Ideal S512x128 .f32) (r : Fin 512) (d : Fin 1024) :
    k0_pay9 (F := Ideal) (v 0) (v 1) (v 2) (v 3) (v 4) (v 5) (v 6) (v 7) (ix2 r d)
      = v ⟨d.val / 128, by omega⟩ (ix2 r ⟨d.val % 128, by omega⟩) := by
  have hd := d.isLt
  pointwise [k0_pay9]
  have key : ∀ (j : Fin 8) (q : Fin 128), d.val = 128 * j.val + q.val → v j (ix2 r q) = v ⟨d.val / 128, by omega⟩ (ix2 r ⟨d.val % 128, by omega⟩) := by
    intro j q h
    have hq := q.isLt
    have e1 : j = ⟨d.val / 128, by omega⟩ := Fin.ext (by show j.val = d.val / 128; omega)
    have e2 : q = ⟨d.val % 128, by omega⟩ := Fin.ext (by show q.val = d.val % 128; omega)
    rw [← e1, ← e2]
  by_cases h0 : d.val < 128
  · exact (dif_pos h0).trans (key 0 _ (by show d.val = 128 * 0 + d.val; omega))
  refine (dif_neg h0).trans ?_
  by_cases h1 : d.val - 128 < 128
  · exact (dif_pos h1).trans (key 1 _ (by show d.val = 128 * 1 + _; simp only; omega))
  refine (dif_neg h1).trans ?_
  by_cases h2 : d.val - 128 - 128 < 128
  · exact (dif_pos h2).trans (key 2 _ (by show d.val = 128 * 2 + _; simp only; omega))
  refine (dif_neg h2).trans ?_
  by_cases h3 : d.val - 128 - 128 - 128 < 128
  · exact (dif_pos h3).trans (key 3 _ (by show d.val = 128 * 3 + _; simp only; omega))
  refine (dif_neg h3).trans ?_
  by_cases h4 : d.val - 128 - 128 - 128 - 128 < 128
  · exact (dif_pos h4).trans (key 4 _ (by show d.val = 128 * 4 + _; simp only; omega))
  refine (dif_neg h4).trans ?_
  by_cases h5 : d.val - 128 - 128 - 128 - 128 - 128 < 128
  · exact (dif_pos h5).trans (key 5 _ (by show d.val = 128 * 5 + _; simp only; omega))
  refine (dif_neg h5).trans ?_
  by_cases h6 : d.val - 128 - 128 - 128 - 128 - 128 - 128 < 128
  · exact (dif_pos h6).trans (key 6 _ (by show d.val = 128 * 6 + _; simp only; omega))
  refine (dif_neg h6).trans ?_
  exact key 7 _ (by show d.val = 128 * 7 + _; simp only; omega)

/-- The gate's argument. -/
theorem pay10_at (v : Fin 8 → Vec Ideal S512x128 .f32) (w : Vec Ideal S1024x1024 .bf16) (b : Vec Ideal S1x1x1024 .f32) (r : Fin 512) (k : Fin 1024) :
    k0_pay10 (F := Ideal) (v 0) (v 1) (v 2) (v 3) (v 4) (v 5) (v 6) (v 7) w b (ix2 r k)
      = (∑ d : Fin 1024, v ⟨d.val / 128, by omega⟩ (ix2 r ⟨d.val % 128, by omega⟩) * w (ix2 d k)) + b (ix3 0 0 k) := by
  pointwise [k0_pay10]
  refine congrArg₂ (· + ·) ?_ rfl
  exact Finset.sum_congr rfl fun d _ => congrArg (· * _) (pay9_at v r d)

/-- The tile's result. -/
theorem pay11_at (x : FVec Ideal S512x1024 .bf16) (g : FVec Ideal S512x1024 .f32) (wu wd : Vec Ideal S1024x1024 .bf16) (bu bd : Vec Ideal S1x1x1024 .f32) (r : Fin 512) (f : Fin 1024) :
    k0_pay11 (F := Ideal) x g wu bu wd bd (ix2 r f)
      = (∑ k : Fin 1024, act (g (ix2 r k)) ((∑ d : Fin 1024, x (ix2 r d) * wu (ix2 d k)) + bu (ix3 0 0 k)) * wd (ix2 k f)) + bd (ix3 0 0 f) := by
  pointwise [k0_pay11]
  rfl

/-- A strided row of a block: row `8 r + j`. -/
theorem srow_at (j : ℕ) (hj : j < 8) (r : Fin 512) (q : Fin 128) : (srow j hj).toLoadRect.idx (ix2 r q) = ix2 ⟨8 * r.val + j, by omega⟩ q := by
  funext a
  apply Fin.ext
  match a with
  | ⟨0, _⟩ => show j + 8 * r.val = 8 * r.val + j; omega
  | ⟨1, _⟩ => show 0 + 1 * q.val = q.val; omega

/-- A bias block read whole. -/
theorem rB_at (z : S1x1x1024.Idx) : rB.toLoadRect.idx z = z := by
  funext a
  apply Fin.ext
  match a with
  | ⟨0, _⟩ => show 0 + 1 * (z 0).val = (z 0).val; omega
  | ⟨1, _⟩ => show 0 + 1 * (z 1).val = (z 1).val; omega
  | ⟨2, _⟩ => show 0 + 1 * (z 2).val = (z 2).val; omega

theorem Bx_eq (x : S1x1x1024.Idx → Elt Ideal .f32) : Bx (F := Ideal) x = x := funext fun z => congrArg x (rB_at z)

/-- The rows of a tile in the order of its result: row `r` is rows `8 r ..` of the block, end to end. -/
def tileRow (x : S4096x128.Idx → EReal) (r : Fin 512) (d : Fin 1024) : EReal :=
  x (ix2 ⟨8 * r.val + d.val / 128, by omega⟩ ⟨d.val % 128, by omega⟩)

theorem Sx_at (x : S4096x128.Idx → Elt Ideal .f32) (j : Fin 8) (r : Fin 512) (q : Fin 128) :
    Sx (F := Ideal) x j.val j.isLt (ix2 r q) = x (ix2 ⟨8 * r.val + j.val, by omega⟩ q) := congrArg x (srow_at j.val j.isLt r q)

/-- The tile's result at an index. -/
theorem outx_at (x3 : S4096x128.Idx → Elt Ideal .f32) (x4 x5 x6 : S1x1x1024.Idx → Elt Ideal .f32) (wg wu wd : FVec Ideal S1024x1024 .bf16) (r : Fin 512) (f : Fin 1024) :
    outx (F := Ideal) x3 x4 x5 x6 wg wu wd (ix2 r f)
      = rowv (tileRow x3 r) (fun d k => wg (ix2 d k)) (fun d k => wu (ix2 d k)) (fun k => x4 (ix3 0 0 k)) (fun k => x5 (ix3 0 0 k)) (fun k => wd (ix2 k f)) (x6 (ix3 0 0 f)) := by
  have e9 : ∀ d : Fin 1024, P9x (F := Ideal) x3 (ix2 r d) = tileRow x3 r d := fun d =>
    (pay9_at (fun j => Sx (F := Ideal) x3 j.val j.isLt) r d).trans (Sx_at x3 _ r _)
  have e10 : ∀ k : Fin 1024, P10x (F := Ideal) x3 x4 wg (ix2 r k) = (∑ d : Fin 1024, tileRow x3 r d * wg (ix2 d k)) + x4 (ix3 0 0 k) := fun k => by
    refine (pay10_at (fun j => Sx (F := Ideal) x3 j.val j.isLt) wg (Bx x4) r k).trans ?_
    rw [Bx_eq]
    exact congrArg (· + _) (Finset.sum_congr rfl fun d _ => congrArg (· * _) (Sx_at x3 _ r _))
  unfold outx
  rw [pay11_at, Bx_eq, Bx_eq]
  simp only [e9, e10]
  rfl

/-- An expert's rounded matrix, read exactly: the expert's rows of the weight array. -/
theorem wt_at (c : Dev nD) (M : Memref sig .tc .hbm S32x1024x1024 .f32) (e : BitVec 32) (he : e.toNat < 32) (f : HbBuf0 (F := Ideal) c M) (d k : Fin 1024) :
    wt (F := Ideal) c M e he f (ix2 d k) = M.view.read (Elt Ideal) f (ix3 ⟨e.toNat, he⟩ d k) := by
  have h : wt (F := Ideal) c M e he f (ix2 d k)
      = shapeCast S1024x1024 (show S1x1024x1024.Idx → EReal from (M.view.slice (Rect.unit (s := S32x1024x1024) (k0_off3 e) S1x1024x1024.size (src_inb e he))).read (Elt Ideal) f) (by decide) (ix2 d k) := rfl
  rw [h]
  refine (shapeCast_apply _ _ _ (ix3 (0 : Fin 1) d k) ?_).trans ?_
  · rw [Shape.rowMajor_val_two, Shape.rowMajor_val_three]
    show (0 * 1024 + d.val) * 1024 + k.val = d.val * 1024 + k.val
    omega
  · show M.view.read (Elt Ideal) f _ = _
    refine congrArg (M.view.read (Elt Ideal) f) (funext fun a => Fin.ext ?_)
    match a with
    | ⟨0, _⟩ => show e.toNat + 1 * 0 = e.toNat; omega
    | ⟨1, _⟩ => show 0 + 1 * d.val = d.val; omega
    | ⟨2, _⟩ => show 0 + 1 * k.val = k.val; omega

end Cert.ExpertsIdeal.Ex

end
-- ==== Proof.ExL.lean ====
/-
  The whole result of the run, over the extended reals: tile `b`'s rows are its expert's result while `b` is one of the
  tiles in use, and zero after them.
-/
module

public import proofs.«01_k».proof.Proof.ExJ
public import Idealize.ShloMosaic.Lib.Pipeline.Value
public import Idealize.ShloMosaic.Lib.Pipeline.Covers
public import Idealize.ShloMosaic.Lib.Pipeline.ReadBack
public import Idealize.ShloMosaic.Lib.Pipeline.ValueKit.Tiles

@[expose] public section

set_option maxRecDepth 16384

noncomputable section

namespace Cert.ExpertsIdeal.Ex

open Cert.ExpertsIdeal Cert.ExpertsIdeal.Gen
open Idealize.ShloMosaic Idealize.ShloMosaic.TcCoe

/-- Tile `b`'s expert. -/
def ebd (te : S160.Idx → BitVec 32) (b : ℕ) : Fin 32 := ⟨min (te (ix b)).toNat 31, by omega⟩

/-- Element `(r, f)` of tile `b`'s result. -/
def resAt (te : S160.Idx → BitVec 32) (xs : S655360x128.Idx → EReal) (wg : S32x1024x1024.Idx → EReal) (bg : S32x1024.Idx → EReal) (wu : S32x1024x1024.Idx → EReal) (bu : S32x1024.Idx → EReal) (wd : S32x1024x1024.Idx → EReal) (bd : S32x1024.Idx → EReal) (b : Fin 160) (r : Fin 512) (f : Fin 1024) : EReal :=
  rowv (fun d => xs (ix2 ⟨4096 * b.val + (8 * r.val + d.val / 128), by omega⟩ ⟨d.val % 128, by omega⟩))
    (fun d k => wg (ix3 (ebd te b.val) d k)) (fun d k => wu (ix3 (ebd te b.val) d k)) (fun k => bg (ix2 (ebd te b.val) k)) (fun k => bu (ix2 (ebd te b.val) k))
    (fun k => wd (ix3 (ebd te b.val) k f)) (bd (ix2 (ebd te b.val) f))

/-- The result: the rows of each tile end to end, eight rows of 128 lanes to a row of 1024. -/
def arr (te : S160.Idx → BitVec 32) (n : ℕ) (xs : S655360x128.Idx → EReal) (wg : S32x1024x1024.Idx → EReal) (bg : S32x1024.Idx → EReal) (wu : S32x1024x1024.Idx → EReal) (bu : S32x1024.Idx → EReal) (wd : S32x1024x1024.Idx → EReal) (bd : S32x1024.Idx → EReal) : S655360x128.Idx → EReal :=
  fun i => if (i 0).val / 4096 < n then
    resAt te xs wg bg wu bu wd bd ⟨(i 0).val / 4096, by have h : (i 0).val < 655360 := (i 0).isLt; omega⟩ ⟨(i 0).val % 4096 / 8, by omega⟩
      ⟨128 * ((i 0).val % 8) + (i 1).val, by have h : (i 1).val < 128 := (i 1).isLt; omega⟩ else 0

variable {m : (ℓ : Loc nD τ sig) → Buf (Elt Ideal) ℓ} {n : ℕ} (w : Wd m n)

/-- The biases as the kernel reads them: the arguments with an axis of size one. -/
theorem V_v12 (c : Dev nD) (e : Fin 32) (k : Fin 1024) : (V m c main_v12 : S32x1x1024.Idx → EReal) (ix3 e 0 k) = (m ((c : Thread nD τ).loc main_arg4) : S32x1024.Idx → EReal) (ix2 e k) := by
  unfold V
  after_reads_at
theorem V_v13 (c : Dev nD) (e : Fin 32) (k : Fin 1024) : (V m c main_v13 : S32x1x1024.Idx → EReal) (ix3 e 0 k) = (m ((c : Thread nD τ).loc main_arg6) : S32x1024.Idx → EReal) (ix2 e k) := by
  unfold V
  after_reads_at
theorem V_v14 (c : Dev nD) (e : Fin 32) (k : Fin 1024) : (V m c main_v14 : S32x1x1024.Idx → EReal) (ix3 e 0 k) = (m ((c : Thread nD τ).loc main_arg8) : S32x1024.Idx → EReal) (ix2 e k) := by
  unfold V
  after_reads_at

/-- Equal rows, weights and biases have equal results. -/
theorem rowv_congr {X X' : Fin 1024 → EReal} {Wg Wg' Wu Wu' : Fin 1024 → Fin 1024 → EReal} {bg bg' bu bu' Wd Wd' : Fin 1024 → EReal} {bd bd' : EReal}
    (h0 : X = X') (h1 : Wg = Wg') (h2 : Wu = Wu') (h3 : bg = bg') (h4 : bu = bu') (h5 : Wd = Wd') (h6 : bd = bd') :
    rowv X Wg Wu bg bu Wd bd = rowv X' Wg' Wu' bg' bu' Wd' bd' := by
  subst h0 h1 h2 h3 h4 h5 h6; rfl

include w

/-- A grid point is one of 160. -/
theorem lt_160 (hO : Ok m) (t : Fin (cfgM m hO).N) : t.val < 160 := t.isLt

theorem win0 (hO : Ok m) (t : Fin (cfgM m hO).N) : ((cfgM m hO).win 0).index t = (![min t.val (n - 1), 0] : Fin 2 → ℕ) := by
  refine (tr0 w (grid0.coords t)).trans ?_
  rw [coords_val]
theorem win1 (hO : Ok m) (c : Dev nD) (t : Fin (cfgM m hO).N) : ((cfgM m hO).win 1).index t = (![(a0 m c (ix (min t.val (n - 1)))).toNat, 0, 0] : Fin 3 → ℕ) := by
  refine (tr1 w (grid0.coords t) c).trans ?_
  rw [coords_val]
theorem win2 (hO : Ok m) (c : Dev nD) (t : Fin (cfgM m hO).N) : ((cfgM m hO).win 2).index t = (![(a0 m c (ix (min t.val (n - 1)))).toNat, 0, 0] : Fin 3 → ℕ) := by
  refine (tr2 w (grid0.coords t) c).trans ?_
  rw [coords_val]
theorem win3 (hO : Ok m) (c : Dev nD) (t : Fin (cfgM m hO).N) : ((cfgM m hO).win 3).index t = (![(a0 m c (ix (min t.val (n - 1)))).toNat, 0, 0] : Fin 3 → ℕ) := by
  refine (tr3 w (grid0.coords t) c).trans ?_
  rw [coords_val]

/-- The rows a tile in use reads. -/
theorem iblk0_at (hO : Ok m) (c : Dev nD) (t : Fin (cfgM m hO).N) (ht : t.val < n) (p : Fin 4096) (q : Fin 128) :
    (show S4096x128.Idx → EReal from iblk m hO c 0 t) (ix2 p q) = (m ((c : Thread nD τ).loc main_arg2) : S655360x128.Idx → EReal) (ix2 ⟨4096 * t.val + p.val, by have := lt_160 w hO t; omega⟩ q) := by
  have h := win0 w hO t
  have hm : min t.val (n - 1) = t.val := by omega
  rw [hm] at h
  blk_ext [iblk, V, h]

/-- The bias of a tile in use: its expert's. -/
theorem iblk1_at (hO : Ok m) (c : Dev nD) (t : Fin (cfgM m hO).N) (ht : t.val < n) (k : Fin 1024) :
    (show S1x1x1024.Idx → EReal from iblk m hO c 1 t) (ix3 0 0 k) = (m ((c : Thread nD τ).loc main_arg4) : S32x1024.Idx → EReal) (ix2 (ebd (a0 m c) t.val) k) := by
  have h := win1 w hO c t
  have hm : min t.val (n - 1) = t.val := by omega
  rw [hm] at h
  have he := w.lt c (ix t.val)
  have hb : ebd (a0 m c) t.val = ⟨(a0 m c (ix t.val)).toNat, he⟩ := Fin.ext (by show min (a0 m c (ix t.val)).toNat 31 = (a0 m c (ix t.val)).toNat; omega)
  refine Eq.trans ?_ ((V_v12 (m := m) c ⟨(a0 m c (ix t.val)).toNat, he⟩ k).trans (congrArg (fun e => (m ((c : Thread nD τ).loc main_arg4) : S32x1024.Idx → EReal) (ix2 e k)) hb.symm))
  show (V m c main_v12 : S32x1x1024.Idx → EReal) _ = (V m c main_v12 : S32x1x1024.Idx → EReal) _
  blk_ext [h]

theorem iblk2_at (hO : Ok m) (c : Dev nD) (t : Fin (cfgM m hO).N) (ht : t.val < n) (k : Fin 1024) :
    (show S1x1x1024.Idx → EReal from iblk m hO c 2 t) (ix3 0 0 k) = (m ((c : Thread nD τ).loc main_arg6) : S32x1024.Idx → EReal) (ix2 (ebd (a0 m c) t.val) k) := by
  have h := win2 w hO c t
  have hm : min t.val (n - 1) = t.val := by omega
  rw [hm] at h
  have he := w.lt c (ix t.val)
  have hb : ebd (a0 m c) t.val = ⟨(a0 m c (ix t.val)).toNat, he⟩ := Fin.ext (by show min (a0 m c (ix t.val)).toNat 31 = (a0 m c (ix t.val)).toNat; omega)
  refine Eq.trans ?_ ((V_v13 (m := m) c ⟨(a0 m c (ix t.val)).toNat, he⟩ k).trans (congrArg (fun e => (m ((c : Thread nD τ).loc main_arg6) : S32x1024.Idx → EReal) (ix2 e k)) hb.symm))
  show (V m c main_v13 : S32x1x1024.Idx → EReal) _ = (V m c main_v13 : S32x1x1024.Idx → EReal) _
  blk_ext [h]

theorem iblk3_at (hO : Ok m) (c : Dev nD) (t : Fin (cfgM m hO).N) (ht : t.val < n) (k : Fin 1024) :
    (show S1x1x1024.Idx → EReal from iblk m hO c 3 t) (ix3 0 0 k) = (m ((c : Thread nD τ).loc main_arg8) : S32x1024.Idx → EReal) (ix2 (ebd (a0 m c) t.val) k) := by
  have h := win3 w hO c t
  have hm : min t.val (n - 1) = t.val := by omega
  rw [hm] at h
  have he := w.lt c (ix t.val)
  have hb : ebd (a0 m c) t.val = ⟨(a0 m c (ix t.val)).toNat, he⟩ := Fin.ext (by show min (a0 m c (ix t.val)).toNat 31 = (a0 m c (ix t.val)).toNat; omega)
  refine Eq.trans ?_ ((V_v14 (m := m) c ⟨(a0 m c (ix t.val)).toNat, he⟩ k).trans (congrArg (fun e => (m ((c : Thread nD τ).loc main_arg8) : S32x1024.Idx → EReal) (ix2 e k)) hb.symm))
  show (V m c main_v14 : S32x1x1024.Idx → EReal) _ = (V m c main_v14 : S32x1x1024.Idx → EReal) _
  blk_ext [h]

omit w in
/-- Where a place of the stored block lies in the tile's result. -/
theorem oi_at (p : Fin 4096) (q : Fin 128) : oi (ix2 p q) = ix2 ⟨p.val / 8, by omega⟩ ⟨128 * (p.val % 8) + q.val, by omega⟩ := by
  funext a
  match a with
  | ⟨0, _⟩ => rfl
  | ⟨1, _⟩ => rfl

/-- A weight of a tile in use: its expert's. -/
theorem wt_tile (c : Dev nD) (M : Memref sig .tc .hbm S32x1024x1024 .f32) (f : HbBuf0 (F := Ideal) c M) (t : ℕ) (ht : t < n) (hl : (T c (tbl m 0) t).toNat < 32) (d k : Fin 1024) :
    wt (F := Ideal) c M (T c (tbl m 0) t) hl f (ix2 d k) = M.view.read (Elt Ideal) f (ix3 (ebd (a0 m c) t) d k) := by
  rw [wt_at]
  have hT := T_tbl w c t
  have hm : min t (n - 1) = t := by omega
  rw [hm] at hT
  refine congrArg (fun e => M.view.read (Elt Ideal) f (ix3 e d k)) (Fin.ext ?_)
  show (T c (tbl m 0) t).toNat = min (a0 m c (ix t)).toNat 31
  have := w.lt c (ix t)
  rw [hT]
  omega

/-- What tile `t` leaves, at an index. -/
theorem res_at (hO : Ok m) (c : Dev nD) (t : Fin (cfgM m hO).N) (p : Fin 4096) (q : Fin 128) :
    res m hO n (hy_of w) c t (ix2 p q) = if t.val < n then
      resAt (a0 m c) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        ⟨t.val, lt_160 w hO t⟩ ⟨p.val / 8, by omega⟩ ⟨128 * (p.val % 8) + q.val, by omega⟩ else 0 := by
  have hv := coords_val t
  unfold res resx
  by_cases ht : t.val < n
  · rw [if_pos (by rw [hv]; exact ht), if_pos ht]
    unfold ov
    rw [oi_at]
    refine (outx_at _ _ _ _ _ _ _ _ _).trans ?_
    unfold resAt
    have hv' : (grid0.coords t 0).val < n := by rw [hv]; exact ht
    have e0 : tileRow (iblk m hO c 0 t) ⟨p.val / 8, by omega⟩ = fun d => (m ((c : Thread nD τ).loc main_arg2) : S655360x128.Idx → EReal) (ix2 ⟨4096 * t.val + (8 * (p.val / 8) + d.val / 128), by have := lt_160 w hO t; omega⟩ ⟨d.val % 128, by omega⟩) :=
      funext fun d => iblk0_at w hO c t ht _ _
    have eg : (fun d k => wt (F := Ideal) c hbM0_0 (T c (tbl m 0) (grid0.coords t 0).val) ((hy_of w).lt c _) (V m c main_arg3) (ix2 d k)) = fun (d k : Fin 1024) => (m ((c : Thread nD τ).loc main_arg3) : S32x1024x1024.Idx → EReal) (ix3 (ebd (a0 m c) t.val) d k) := by
      funext d k
      rw [wt_tile w c hbM0_0 _ _ hv' _ d k, hv]
      exact congrFun (V_main_arg3 m c) _
    have eu : (fun d k => wt (F := Ideal) c hbM0_1 (T c (tbl m 0) (grid0.coords t 0).val) ((hy_of w).lt c _) (V m c main_arg5) (ix2 d k)) = fun (d k : Fin 1024) => (m ((c : Thread nD τ).loc main_arg5) : S32x1024x1024.Idx → EReal) (ix3 (ebd (a0 m c) t.val) d k) := by
      funext d k
      rw [wt_tile w c hbM0_1 _ _ hv' _ d k, hv]
      exact congrFun (V_main_arg5 m c) _
    have ed : ∀ f : Fin 1024, (fun k => wt (F := Ideal) c hbM0_2 (T c (tbl m 0) (grid0.coords t 0).val) ((hy_of w).lt c _) (V m c main_arg7) (ix2 k f)) = fun (k : Fin 1024) => (m ((c : Thread nD τ).loc main_arg7) : S32x1024x1024.Idx → EReal) (ix3 (ebd (a0 m c) t.val) k f) := by
      intro f
      funext k
      rw [wt_tile w c hbM0_2 _ _ hv' _ k f, hv]
      exact congrFun (V_main_arg7 m c) _
    have b1 : (fun k => (show S1x1x1024.Idx → EReal from iblk m hO c 1 t) (ix3 0 0 k)) = _ := funext fun k => iblk1_at w hO c t ht k
    have b2 : (fun k => (show S1x1x1024.Idx → EReal from iblk m hO c 2 t) (ix3 0 0 k)) = _ := funext fun k => iblk2_at w hO c t ht k
    exact rowv_congr e0 eg eu b1 b2 (ed _) (iblk3_at w hO c t ht _)
  · rw [if_neg (by rw [hv]; exact ht), if_neg ht]
    pointwise [k0_pay5]

omit w in
/-- The whole result on tile `t`'s block. -/
theorem arr_block (te : S160.Idx → BitVec 32) (n : ℕ) (xs : S655360x128.Idx → EReal) (wg : S32x1024x1024.Idx → EReal) (bg : S32x1024.Idx → EReal) (wu : S32x1024x1024.Idx → EReal) (bu : S32x1024.Idx → EReal) (wd : S32x1024x1024.Idx → EReal) (bd : S32x1024.Idx → EReal)
    (t : Fin 160) (p : Fin 4096) (q : Fin 128) (i : S655360x128.Idx) (h0 : (i 0).val = 4096 * t.val + p.val) (h1 : (i 1).val = q.val) :
    (if t.val < n then resAt te xs wg bg wu bu wd bd t ⟨p.val / 8, by omega⟩ ⟨128 * (p.val % 8) + q.val, by omega⟩ else 0) = arr te n xs wg bg wu bu wd bd i := by
  unfold arr
  have e : (i 0).val / 4096 = t.val := by omega
  refine if_congr (by rw [e]) ?_ rfl
  have e1 : t = ⟨(i 0).val / 4096, by omega⟩ := Fin.ext e.symm
  have e2 : (⟨p.val / 8, by omega⟩ : Fin 512) = ⟨(i 0).val % 4096 / 8, by omega⟩ := Fin.ext (by show p.val / 8 = (i 0).val % 4096 / 8; omega)
  have e3 : (⟨128 * (p.val % 8) + q.val, by omega⟩ : Fin 1024) = ⟨128 * ((i 0).val % 8) + (i 1).val, by omega⟩ := Fin.ext (by show 128 * (p.val % 8) + q.val = 128 * ((i 0).val % 8) + (i 1).val; omega)
  rw [e2, e3, ← e1]

/-- The block a tile's result goes to. -/
theorem win4 (hO : Ok m) (t : Fin (cfgM m hO).N) : ((cfgM m hO).win 4).index t = (![t.val, 0] : Fin 2 → ℕ) := by
  have h : ((cfgM m hO).win 4).index t = (![(BitVec.ofNat 32 (grid0.coords t 0).val).toNat, 0] : Fin 2 → ℕ) := rfl
  have := lt_160 w hO t
  rw [h, coords_val, BitVec.toNat_ofNat, Nat.mod_eq_of_lt (by omega)]

/-- The output's blocks tile the array. -/
theorem covers4 (hO : Ok m) : ((cfgM m hO).win 4).Covers := by
  refine Pipeline.Window.covers_of_indexMap_surj _ rfl (fun a => ?_) fun β => ?_
  · exact (by decide : ∀ a : Fin 2, 0 < S4096x128.size a) a
  · have h0 : (β (0 : Fin 2)).val < 160 := Nat.lt_of_lt_of_le (β (0 : Fin 2)).isLt (by show (655360 + 4096 - 1) / 4096 ≤ 160; decide)
    have h1 : (β (1 : Fin 2)).val < 1 := Nat.lt_of_lt_of_le (β (1 : Fin 2)).isLt (by show (128 + 128 - 1) / 128 ≤ 1; decide)
    refine ⟨fun a => ⟨(β (0 : Fin 2)).val, by obtain rfl : a = (0 : Fin 1) := Subsingleton.elim (α := Fin 1) _ _; exact h0⟩, fun a => ?_⟩
    match a with
    | ⟨0, _⟩ => show (BitVec.ofNat 32 (β (0 : Fin 2)).val).toNat = (β (0 : Fin 2)).val; rw [BitVec.toNat_ofNat, Nat.mod_eq_of_lt (by omega)]
    | ⟨1, _⟩ => show 0 = (β (1 : Fin 2)).val; omega

/-- After the run the output array is the whole result. -/
theorem out_arr (hO : Ok m) (c : Dev nD) : (dats m hO n (hy_of w) 0 c).arrAt 4 (cfgM m hO).N
    = arr (a0 m c) n (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m hO n (hy_of w) 0 c).arrAt_eq_of_covers 4 _ (covers4 w hO) fun t hf y => ?_
  have hw := win4 w hO t
  blk_simp
  rw [after0_4]
  obtain ⟨p, q, rfl⟩ : ∃ (p : Fin 4096) (q : Fin 128), y = (show S4096x128.Idx from ix2 p q) :=
    ⟨(show S4096x128.Idx from y) 0, (show S4096x128.Idx from y) 1, by funext (a : Fin 2); match a with | ⟨0, _⟩ => rfl | ⟨1, _⟩ => rfl⟩
  refine (res_at w hO c t p q).trans (arr_block _ _ _ _ _ _ _ _ _ ⟨t.val, lt_160 w hO t⟩ p q _ ?_ ?_)
  · blk_simp [hw]
    exact congrArg (· + p.val) (Nat.mul_comm t.val 4096)
  · blk_simp [hw]

end Cert.ExpertsIdeal.Ex

end
-- ==== Proof.ExM.lean ====
/-
  The experts' reference read at an index: its result is the kernel's array.
-/
module

public import proofs.«01_k».proof.Proof.ExL
public import proofs.«01_k».proof.Proof.Gen.ExpertsRefIdeal.Read
public import Idealize.ShloMosaic.Lib.Pointwise
public import Idealize.ShloMosaic.Lib.IdealHost
public import Idealize.ShloMosaic.Lib.Routing.Ops

@[expose] public section

set_option maxRecDepth 16384

noncomputable section

namespace Cert.ExpertsRefIdeal.Ex

open Cert.ExpertsRefIdeal Cert.ExpertsRefIdeal.Gen Cert.ExpertsRefIdeal.Read
open Idealize.ShloMosaic Idealize.ShloMosaic.TcCoe Idealize.SL.Sem
open Cert.ExpertsIdeal.Ex (c7 cm7 calpha act rowv rowv_congr ebd resAt arr ix toInt_of_lt)

variable (te : S160.Idx → BitVec 32) (hte : ∀ x, (te x).toNat < 32)

/-- A tile's expert as the reference's gathers read it. -/
theorem col_at (b : Fin 160) (hte : ∀ x, (te x).toNat < 32) : val_main_v6 (F := Ideal) te (ix2 b (0 : Fin 1)) = BitVec.ofNat 32 (ebd te b.val).val := by
  rw [val_main_v6_apply, val_main_v5_apply, val_main_v2_apply, val_main_v1_apply, val_main_c_apply]
  have hx : idx_main_v6 (ix2 b (0 : Fin 1)) = ix b.val := by
    funext a
    match a with
    | ⟨0, _⟩ => exact Fin.ext (by show b.val = min b.val 159; omega)
  rw [hx]
  have h := hte (ix b.val)
  have i1 := toInt_of_lt (w := te (ix b.val)) (by omega)
  have hc : IntOp.cmpi .slt (te (ix b.val)) 0#32 = 0#1 := by
    have h : (te (ix b.val)).slt 0#32 = false := by
      rw [Bool.eq_false_iff, ne_eq, BitVec.slt_iff_toInt_lt, i1]
      have : (0#32 : BitVec 32).toInt = 0 := rfl
      omega
    show BitVec.ofBool _ = _
    rw [h]; rfl
  rw [hc]
  show te (ix b.val) = BitVec.ofNat 32 (min (te (ix b.val)).toNat 31)
  apply BitVec.eq_of_toNat_eq
  rw [BitVec.toNat_ofNat]
  omega

/-- A gather of an expert's matrix, at an index. -/
theorem gather_mat {α : Type} (x : S32x1024x1024.Idx → α) (idx : IVec S160x1 32) (b : Fin 160) (k f : Fin 1024) (e : Fin 32)
    (hb : idx (ix2 b (0 : Fin 1)) = BitVec.ofNat 32 e.val) :
    Host.gather gather_S32x1024x1024_S160x1_S160x1024x1024_12_0_n_n_0_1_110241024 x idx (ix3 b k f) = x (ix3 e k f) := by
  unfold Host.gather
  refine congrArg x (funext fun a => Fin.ext ?_)
  let d := gather_S32x1024x1024_S160x1_S160x1024x1024_12_0_n_n_0_1_110241024
  have hbN : ∀ a', a' ∉ d.operandBatchingDims := fun a' => List.not_mem_nil
  show d.start (ix3 b k f) idx a + d.batchCoord (ix3 b k f) a + d.offCoord (ix3 b k f) a = (ix3 e k f a).val
  rw [d.batchCoord_eq_zero _ _ (hbN a)]
  match a with
  | ⟨0, _⟩ =>
    have hk : (0 : Fin 3) ∉ d.sKept := fun h => ((d.mem_sKept 0).1 h).1 (List.mem_singleton.2 rfl)
    have hm : (0 : Fin 3) ∈ d.startIndexMap := List.mem_singleton.2 rfl
    show d.start (ix3 b k f) idx 0 + 0 + d.offCoord (ix3 b k f) 0 = e.val
    rw [d.offCoord_eq_zero _ _ hk]
    unfold GatherDims.start
    rw [dif_pos hm]
    have hsi : d.siIdx (ix3 b k f) ⟨d.startIndexMap.idxOf 0, List.idxOf_lt_length_iff.2 hm⟩ = ix2 b (0 : Fin 1) := by
      funext b'
      apply Fin.ext
      match b' with
      | ⟨0, _⟩ => rfl
      | ⟨1, _⟩ => rfl
    have hbl := e.isLt
    rw [hsi, hb, StableHlo.Predicate.toInt_ofNat_small _ (by omega)]
    show min ((e.val : Int)).toNat (32 - 1) + 0 + 0 = e.val
    omega
  | ⟨1, _⟩ =>
    have hm : (1 : Fin 3) ∉ d.startIndexMap := by show (1 : Fin 3) ∉ [0]; decide
    show d.start (ix3 b k f) idx 1 + 0 + d.offCoord (ix3 b k f) 1 = k.val
    unfold GatherDims.start
    rw [dif_neg hm]
    show 0 + 0 + k.val = k.val
    omega
  | ⟨2, _⟩ =>
    have hm : (2 : Fin 3) ∉ d.startIndexMap := by show (2 : Fin 3) ∉ [0]; decide
    show d.start (ix3 b k f) idx 2 + 0 + d.offCoord (ix3 b k f) 2 = f.val
    unfold GatherDims.start
    rw [dif_neg hm]
    show 0 + 0 + f.val = f.val
    omega

variable (nv : S1.Idx → BitVec 32) (xs : S655360x128.Idx → EReal) (wg : S32x1024x1024.Idx → EReal) (bg : S32x1024.Idx → EReal)
  (wu : S32x1024x1024.Idx → EReal) (bu : S32x1024.Idx → EReal) (wd : S32x1024x1024.Idx → EReal) (bd : S32x1024.Idx → EReal)

/-- A tile's row, as the reference reshapes the rows. -/
abbrev X (b : Fin 160) (r : Fin 512) (d : Fin 1024) : EReal := xs (ix2 ⟨4096 * b.val + (8 * r.val + d.val / 128), by omega⟩ ⟨d.val % 128, by omega⟩)

theorem v0_at (b : Fin 160) (r : Fin 512) (d : Fin 1024) : val_main_v0 (F := Ideal) xs (ix3 b r d) = X xs b r d := by
  rw [val_main_v0_apply]
  refine congrArg xs (funext fun a => Fin.ext ?_)
  match a with
  | ⟨0, _⟩ => show ((b.val * 512 + r.val) * 1024 + d.val) / 128 = 4096 * b.val + (8 * r.val + d.val / 128); omega
  | ⟨1, _⟩ => show ((b.val * 512 + r.val) * 1024 + d.val) % 128 = d.val % 128; omega

include hte in
/-- The gate's argument. -/
theorem v18_at (b : Fin 160) (r : Fin 512) (k : Fin 1024) : val_main_v18 (F := Ideal) te xs wg bg (ix3 b r k)
    = (∑ d : Fin 1024, X xs b r d * wg (ix3 (ebd te b.val) d k)) + bg (ix2 (ebd te b.val) k) := by
  rw [val_main_v18_apply, val_main_v8_apply, val_main_v17_apply, val_main_v16_apply]
  refine congrArg₂ (· + ·) (Finset.sum_congr rfl fun d _ => congrArg₂ (· * ·) ?_ ?_) ?_
  · exact (congrArg (val_main_v0 (F := Ideal) xs) (by funext a; match a with | ⟨0, _⟩ => rfl | ⟨1, _⟩ => rfl | ⟨2, _⟩ => rfl)).trans (v0_at xs b r d)
  · exact (congrArg (val_main_v7 (F := Ideal) te wg) (by funext a; match a with | ⟨0, _⟩ => rfl | ⟨1, _⟩ => rfl | ⟨2, _⟩ => rfl)).trans (gather_mat wg _ b d k _ (col_at te b hte))
  · exact (congrArg (val_main_v15 (F := Ideal) te bg) (by funext a; match a with | ⟨0, _⟩ => rfl | ⟨1, _⟩ => rfl)).trans
      (Routing.gather_row gather_S32x1024_S160x1_S160x1024_1_0_n_n_0_1_11024 rfl rfl rfl rfl rfl bg _ b k _ (col_at te b hte) (by decide))

/-- The second argument is the same of the second matrix. -/
theorem v36_eq : val_main_v36 (F := Ideal) te xs wu bu = val_main_v18 (F := Ideal) te xs wu bu := rfl

include hte in
/-- The activation. -/
theorem v51_at (b : Fin 160) (r : Fin 512) (k : Fin 1024) : val_main_v51 (F := Ideal) te xs wg bg wu bu (ix3 b r k)
    = act ((∑ d : Fin 1024, X xs b r d * wg (ix3 (ebd te b.val) d k)) + bg (ix2 (ebd te b.val) k))
        ((∑ d : Fin 1024, X xs b r d * wu (ix3 (ebd te b.val) d k)) + bu (ix2 (ebd te b.val) k)) := by
  rw [← v18_at te hte xs wg bg b r k, ← v18_at te hte xs wu bu b r k]
  rw [val_main_v51_apply, val_main_v41_apply, val_main_v39_apply, val_main_call0_v4_apply, val_main_call0_v2_apply, val_main_call0_v1_apply, v36_eq,
    val_main_v40_apply, val_main_v50_apply, val_main_v49_apply, val_main_v48_apply, val_main_v47_apply, val_main_v46_apply, val_main_v45_apply, val_main_v44_apply,
    val_main_v43_apply, val_main_v42_apply, val_main_v38_apply, val_main_v37_apply]
  generalize val_main_v18 (F := Ideal) te xs wg bg (ix3 b r k) = g
  generalize val_main_v18 (F := Ideal) te xs wu bu (ix3 b r k) = u
  have h1 : Ideal.ofBits .f32 0x3F800000#32 = 1 := Ideal.ofBits_one_f32
  show (min c7 (max cm7 u) + Ideal.ofBits .f32 0x3F800000#32) * (min g c7 * Ideal.div (Ideal.ofBits .f32 0x3F800000#32) (Ideal.ofBits .f32 0x3F800000#32 + Ideal.exp (-(calpha * min g c7)))) = _
  rw [h1]
  rfl

include hte in
/-- A tile's result, before tiles out of use are cleared. -/
theorem v69_at (b : Fin 160) (r : Fin 512) (f : Fin 1024) : val_main_v69 (F := Ideal) te xs wg bg wu bu wd bd (ix3 b r f)
    = resAt te xs wg bg wu bu wd bd b r f := by
  rw [val_main_v69_apply, val_main_v59_apply, val_main_v68_apply, val_main_v67_apply]
  unfold resAt rowv
  refine congrArg₂ (· + ·) (Finset.sum_congr rfl fun k _ => congrArg₂ (· * ·) ?_ ?_) ?_
  · exact (congrArg (val_main_v51 (F := Ideal) te xs wg bg wu bu) (by funext a; match a with | ⟨0, _⟩ => rfl | ⟨1, _⟩ => rfl | ⟨2, _⟩ => rfl)).trans (v51_at te hte xs wg bg wu bu b r k)
  · exact (congrArg (val_main_v58 (F := Ideal) te wd) (by funext a; match a with | ⟨0, _⟩ => rfl | ⟨1, _⟩ => rfl | ⟨2, _⟩ => rfl)).trans (gather_mat wd _ b k f _ (col_at te b hte))
  · exact (congrArg (val_main_v66 (F := Ideal) te bd) (by funext a; match a with | ⟨0, _⟩ => rfl | ⟨1, _⟩ => rfl)).trans
      (Routing.gather_row gather_S32x1024_S160x1_S160x1024_1_0_n_n_0_1_11024 rfl rfl rfl rfl rfl bd _ b f _ (col_at te b hte) (by decide))

/-- Whether a tile is in use. -/
theorem used_at (n : ℕ) (hn : n ≤ 160) (hnv : ∀ x, nv x = BitVec.ofNat 32 n) (b : Fin 160) (r : Fin 512) (f : Fin 1024) :
    val_main_call1_v1 (F := Ideal) nv (ix3 b r f) = BitVec.ofBool (decide (b.val < n)) := by
  rw [val_main_call1_v1_apply, val_main_v74_apply, val_main_v71_apply, val_main_v70_apply, val_main_v73_apply]
  have h : ∀ i, val_main_v72 (F := Ideal) nv i = BitVec.ofNat 32 n := fun i => hnv _
  rw [h]
  have hb := b.isLt
  have i1 := toInt_of_lt (w := BitVec.ofNat 32 b.val) (by simp; omega)
  have i2 := toInt_of_lt (w := BitVec.ofNat 32 n) (by simp; omega)
  have t1 : (BitVec.ofNat 32 b.val).toNat = b.val := by simp; omega
  have t2 : (BitVec.ofNat 32 n).toNat = n := by simp; omega
  show BitVec.ofBool ((BitVec.ofNat 32 b.val).slt (BitVec.ofNat 32 n)) = _
  refine congrArg BitVec.ofBool ?_
  rw [Bool.eq_iff_iff, BitVec.slt_iff_toInt_lt, i1, i2, t1, t2, decide_eq_true_iff]
  omega

include hte in
/-- The reference's result is the kernel's array. -/
theorem v76_eq (n : ℕ) (hn : n ≤ 160) (hnv : ∀ x, nv x = BitVec.ofNat 32 n) :
    val_main_v76 (F := Ideal) te nv xs wg bg wu bu wd bd = arr te n xs wg bg wu bu wd bd := by
  funext i
  rw [val_main_v76_apply]
  have h0 : (i 0).val < 655360 := (i 0).isLt
  have h1 : (i 1).val < 128 := (i 1).isLt
  have e : idx_main_v76 i = ix3 (⟨(i 0).val / 4096, by omega⟩ : Fin 160) (⟨(i 0).val % 4096 / 8, by omega⟩ : Fin 512) (⟨128 * ((i 0).val % 8) + (i 1).val, by omega⟩ : Fin 1024) := by
    funext a
    apply Fin.ext
    match a with
    | ⟨0, _⟩ => show ((i 0).val * 128 + (i 1).val) / 524288 = (i 0).val / 4096; omega
    | ⟨1, _⟩ => show ((i 0).val * 128 + (i 1).val) / 1024 % 512 = (i 0).val % 4096 / 8; omega
    | ⟨2, _⟩ => show ((i 0).val * 128 + (i 1).val) % 1024 = 128 * ((i 0).val % 8) + (i 1).val; omega
  rw [e, val_main_v75_apply, used_at nv n hn hnv, v69_at te hte, val_main_call1_v2_apply]
  unfold arr
  by_cases h : (i 0).val / 4096 < n
  · rw [if_pos h, show decide ((⟨(i 0).val / 4096, by omega⟩ : Fin 160).val < n) = true from decide_eq_true h]
    rfl
  · rw [if_neg h, show decide ((⟨(i 0).val / 4096, by omega⟩ : Fin 160).val < n) = false from decide_eq_false h]
    show Ideal.ofBits .f32 0x00000000#32 = 0
    simp [Ideal.ofBits, Ideal.ieee]

end Cert.ExpertsRefIdeal.Ex

end
-- ==== Proof.ExAlg.lean ====
/-
  The experts' algebraic claim: the kernel's array is the reference's result.
-/
module

public import proofs.«01_k».proof.Defs
public import proofs.«01_k».proof.Proof.ExFrames
public import proofs.«01_k».proof.Proof.ExM

@[expose] public section

set_option maxRecDepth 16384

noncomputable section

namespace Cert.Exp

open Idealize.ShloMosaic Idealize.ShloMosaic.TcCoe Idealize.SL.Sem

attribute [local instance] Cert.Experts.Gen.facts Cert.ExpertsIdeal.Gen.facts Cert.ExpertsRefIdeal.Gen.facts Cert.Pre_tables_in_range.Gen.facts

/-- From tables in range the kernel and its reference end with the same array, and their arguments stay. -/
theorem algebraic : Cert.algebraic_ExpertsIdeal_ExpertsRefIdeal := by
  intro m g m' g' hpre hm
  obtain ⟨n, w⟩ := wd_ideal m hpre
  refine ⟨fun c => (Cert.ExpertsIdeal.Ex.dats m (Cert.ExpertsIdeal.Ex.ok_of w) n (Cert.ExpertsIdeal.Ex.hy_of w) 0 c).arrAt 4 (Cert.ExpertsIdeal.Ex.cfgM m (Cert.ExpertsIdeal.Ex.ok_of w)).N, ?_, ?_⟩
  · exact (θ_run _ _ _).mono (fun r h c => ⟨(h.1 c).1 4, h.2 c⟩)
      (θ_run_and (Cert.ExpertsIdeal.Ex.run_main m g (Cert.ExpertsIdeal.Ex.ok_of w) n (Cert.ExpertsIdeal.Ex.hy_of w)) (Cert.ExpertsIdeal.Ex.unchanged m g (Cert.ExpertsIdeal.Ex.ok_of w) n (Cert.ExpertsIdeal.Ex.hy_of w)))
  · refine (θ_run _ _ _).mono (fun r h c => ?_) (Cert.ExpertsRefIdeal.Value.run m' g')
    obtain ⟨h0, ha⟩ := h c
    obtain ⟨e0, e1, e2, e3, e4, e5, e6, e7, e8⟩ := hm c
    rw [Cert.ExpertsRefIdeal.Read.val_main_v76_eq, e0, e1, e2, e3, e4, e5, e6, e7, e8] at h0
    exact ⟨h0.trans ((Cert.ExpertsRefIdeal.Ex.v76_eq _ (w.lt c) _ _ _ _ _ _ _ _ n w.le (w.eq c)).trans
      (Cert.ExpertsIdeal.Ex.out_arr w (Cert.ExpertsIdeal.Ex.ok_of w) c).symm), ha⟩

end Cert.Exp

end
-- ==== Proof.lean ====
module

public import proofs.«01_k».proof.Defs
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.InAlgebraic
public import proofs.«01_k».proof.Proof.Gen.Experts
public import proofs.«01_k».proof.Proof.Gen.ExpertsIdeal
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Pre_tables_in_range
public import proofs.«01_k».proof.Proof.ExFrames
public import proofs.«01_k».proof.Proof.ExAlg

@[expose] public section

noncomputable section

namespace Cert.Proof

open Idealize.ShloMosaic Idealize.SL.Sem

/-- The certificate's claim. -/
theorem claim : Cert.Claim := ⟨Cert.InProj.Gen.facts, Cert.InProjIdeal.Gen.facts, Cert.InProjRefIdeal.Gen.facts,
  Cert.Experts.Gen.facts, Cert.ExpertsIdeal.Gen.facts, Cert.ExpertsRefIdeal.Gen.facts, Cert.Pre_tables_in_range.Gen.facts,
  fun m ρ _ => Cert.InProj.Gen.frame m ρ, fun m ρ _ => Cert.InProjIdeal.Gen.frame m ρ, Cert.InProjRefIdeal.In.ref_frame,
  Cert.Exp.frame_bits, Cert.Exp.frame_ideal, Cert.Exp.frame_ref,
  trivial, Cert.InProjRefIdeal.In.algebraic, trivial, Cert.Exp.algebraic⟩

end Cert.Proof

end
